-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_scaled_up [hPre_finite_and_scaled_up : Cert.Pre_finite_and_scaled_up.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_scaled_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_scaled_up [hPre_finite_and_scaled_up : Cert.Pre_finite_and_scaled_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_scaled_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ r.2.sem = fun _ => 0)

def quiescent_KernelIdeal_pre_finite_and_scaled_up [hKernelIdeal : Cert.KernelIdeal.Facts] [hPre_finite_and_scaled_up : Cert.Pre_finite_and_scaled_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_scaled_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38))
      ∧ r.2.sem = fun _ => 0)

def quiescent_ReferenceIdeal_pre_finite_and_scaled_up [hReferenceIdeal : Cert.ReferenceIdeal.Facts] [hPre_finite_and_scaled_up : Cert.Pre_finite_and_scaled_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_scaled_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38))
      ∧ r.2.sem = fun _ => 0)

def preserves_Kernel_KernelIdeal : Prop :=
  IdealRules.named_const.Statement Cert.KernelIdeal.κ "lowest" .f32 0xFF61B1E6#32 ⊥

def algebraic_KernelIdeal_ReferenceIdeal_pre_finite_and_scaled_up [hKernelIdeal : Cert.KernelIdeal.Facts] [hReferenceIdeal : Cert.ReferenceIdeal.Facts] [hPre_finite_and_scaled_up : Cert.Pre_finite_and_scaled_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_scaled_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38))

def Claim : Prop :=
  ∃ (hKernel : Cert.Kernel.Facts) (hKernelIdeal : Cert.KernelIdeal.Facts) (hReferenceIdeal : Cert.ReferenceIdeal.Facts) (hPre_finite_and_scaled_up : Cert.Pre_finite_and_scaled_up.Facts),
    quiescent_Kernel (hKernel := hKernel)
    ∧ quiescent_KernelIdeal (hKernelIdeal := hKernelIdeal)
    ∧ quiescent_KernelIdeal_pre_finite_and_scaled_up (hKernelIdeal := hKernelIdeal) (hPre_finite_and_scaled_up := hPre_finite_and_scaled_up)
    ∧ quiescent_ReferenceIdeal (hReferenceIdeal := hReferenceIdeal)
    ∧ quiescent_ReferenceIdeal_pre_finite_and_scaled_up (hReferenceIdeal := hReferenceIdeal) (hPre_finite_and_scaled_up := hPre_finite_and_scaled_up)
    ∧ preserves_Kernel_KernelIdeal
    ∧ algebraic_KernelIdeal_ReferenceIdeal_pre_finite_and_scaled_up (hKernelIdeal := hKernelIdeal) (hReferenceIdeal := hReferenceIdeal) (hPre_finite_and_scaled_up := hPre_finite_and_scaled_up)
-- ==== Pre_finite_and_scaled_up.lean ====
abbrev S32x1024x3 : Shape := ⟨3, ![32, 1024, 3]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256x40 : Shape := ⟨2, ![256, 40]⟩
abbrev S40 : Shape := ⟨1, ![40]⟩
abbrev S_ : Shape := ⟨0, ![]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part6 {F : FTy → Type} [FloatOps F] (main_arg17 : FVec F S128 .f32) (main_arg23 : FVec F S256 .f32) (main_v101 : IVec S_ 1) : IVec S_ 1 :=
  let main_cst_40 : FVec F S_ .f32 := constant S_ .f32 0x00000000#32
  let main_v102 : FVec F S128 .f32 := broadcastInDim S128 ![] bcast_S_S128 main_cst_40
  let main_v103 : IVec S128 1 := cmpf .oge main_arg17 main_v102
  let main_c_41 : IVec S_ 1 := constantI S_ 1 1#1
  let main_v104 : IVec S_ 1 := (fun x v => Host.reduce IntOp.andi x v reducesTo_S128_S_d0 h_S_) main_v103 main_c_41
  let main_v105 : IVec S_ 1 := andi main_v101 main_v104
  let main_cst_42 : FVec F S_ .f32 := constant S_ .f32 0x00000000#32
  let main_v106 : FVec F S256 .f32 := broadcastInDim S256 ![] bcast_S_S256 main_cst_42
  let main_v107 : IVec S256 1 := cmpf .oge main_arg23 main_v106
  let main_c_43 : IVec S_ 1 := constantI S_ 1 1#1
  let main_v108 : IVec S_ 1 := (fun x v => Host.reduce IntOp.andi x v reducesTo_S256_S_d0 h_S_) main_v107 main_c_43
  let main_v109 : IVec S_ 1 := andi main_v105 main_v108
  main_v109

def fn_part5 {F : FTy → Type} [FloatOps F] (main_arg5 : FVec F S64 .f32) (main_arg11 : FVec F S64 .f32) (main_arg17 : FVec F S128 .f32) (main_arg18 : FVec F S128 .f32) (main_arg23 : FVec F S256 .f32) (main_v63 : IVec S_ 1) (main_v82 : IVec S_ 1) (main_v83 : FVec F S128 .f32) (main_v84 : FVec F S128 .f32) : IVec S_ 1 :=
  let main_v85 : IVec S128 1 := cmpf .olt main_v83 main_v84
  let main_c_33 : IVec S_ 1 := constantI S_ 1 1#1
  let main_v86 : IVec S_ 1 := (fun x v => Host.reduce IntOp.andi x v reducesTo_S128_S_d0 h_S_) main_v85 main_c_33
  let main_v87 : IVec S_ 1 := andi main_v82 main_v86
  let main_v88 : FVec F S128 .f32 := Host.absf main_arg18
  let main_cst_34 : FVec F S_ .f32 := constant S_ .f32 0x7F800000#32
  let main_v89 : FVec F S128 .f32 := broadcastInDim S128 ![] bcast_S_S128 main_cst_34
  let main_v90 : IVec S128 1 := cmpf .olt main_v88 main_v89
  let main_c_35 : IVec S_ 1 := constantI S_ 1 1#1
  let main_v91 : IVec S_ 1 := (fun x v => Host.reduce IntOp.andi x v reducesTo_S128_S_d0 h_S_) main_v90 main_c_35
  let main_v92 : IVec S_ 1 := andi main_v87 main_v91
  let main_v93 : IVec S_ 1 := andi main_v63 main_v92
  let main_cst_36 : FVec F S_ .f32 := constant S_ .f32 0x00000000#32
  let main_v94 : FVec F S64 .f32 := broadcastInDim S64 ![] bcast_S_S64 main_cst_36
  let main_v95 : IVec S64 1 := cmpf .oge main_arg5 main_v94
  let main_c_37 : IVec S_ 1 := constantI S_ 1 1#1
  let main_v96 : IVec S_ 1 := (fun x v => Host.reduce IntOp.andi x v reducesTo_S64_S_d0 h_S_) main_v95 main_c_37
  let main_v97 : IVec S_ 1 := andi main_v93 main_v96
  let main_cst_38 : FVec F S_ .f32 := constant S_ .f32 0x00000000#32
  let main_v98 : FVec F S64 .f32 := broadcastInDim S64 ![] bcast_S_S64 main_cst_38
  let main_v99 : IVec S64 1 := cmpf .oge main_arg11 main_v98
  let main_c_39 : IVec S_ 1 := constantI S_ 1 1#1
  let main_v100 : IVec S_ 1 := (fun x v => Host.reduce IntOp.andi x v reducesTo_S64_S_d0 h_S_) main_v99 main_c_39
  let main_v101 : IVec S_ 1 := andi main_v97 main_v100
  fn_part6 (F := F) main_arg17 main_arg23 main_v101

def fn_part4 {F : FTy → Type} [FloatOps F] (main_arg5 : FVec F S64 .f32) (main_arg11 : FVec F S64 .f32) (main_arg14 : FVec F S128 .f32) (main_arg15 : FVec F S64x128 .f32) (main_arg16 : FVec F S128 .f32) (main_arg17 : FVec F S128 .f32) (main_arg18 : FVec F S128 .f32) (main_arg23 : FVec F S256 .f32) (main_v63 : IVec S_ 1) (main_v67 : IVec S_ 1) : IVec S_ 1 :=
  let main_v68 : FVec F S128 .f32 := Host.absf main_arg14
  let main_cst_26 : FVec F S_ .f32 := constant S_ .f32 0x7F800000#32
  let main_v69 : FVec F S128 .f32 := broadcastInDim S128 ![] bcast_S_S128 main_cst_26
  let main_v70 : IVec S128 1 := cmpf .olt main_v68 main_v69
  let main_c_27 : IVec S_ 1 := constantI S_ 1 1#1
  let main_v71 : IVec S_ 1 := (fun x v => Host.reduce IntOp.andi x v reducesTo_S128_S_d0 h_S_) main_v70 main_c_27
  let main_v72 : IVec S_ 1 := andi main_v67 main_v71
  let main_v73 : FVec F S64x128 .f32 := Host.absf main_arg15
  let main_cst_28 : FVec F S_ .f32 := constant S_ .f32 0x7F800000#32
  let main_v74 : FVec F S64x128 .f32 := broadcastInDim S64x128 ![] bcast_S_S64x128 main_cst_28
  let main_v75 : IVec S64x128 1 := cmpf .olt main_v73 main_v74
  let main_c_29 : IVec S_ 1 := constantI S_ 1 1#1
  let main_v76 : IVec S_ 1 := (fun x v => Host.reduce IntOp.andi x v reducesTo_S64x128_S_d0_1 h_S_) main_v75 main_c_29
  let main_v77 : IVec S_ 1 := andi main_v72 main_v76
  let main_v78 : FVec F S128 .f32 := Host.absf main_arg16
  let main_cst_30 : FVec F S_ .f32 := constant S_ .f32 0x7F800000#32
  let main_v79 : FVec F S128 .f32 := broadcastInDim S128 ![] bcast_S_S128 main_cst_30
  let main_v80 : IVec S128 1 := cmpf .olt main_v78 main_v79
  let main_c_31 : IVec S_ 1 := constantI S_ 1 1#1
  let main_v81 : IVec S_ 1 := (fun x v => Host.reduce IntOp.andi x v reducesTo_S128_S_d0 h_S_) main_v80 main_c_31
  let main_v82 : IVec S_ 1 := andi main_v77 main_v81
  let main_v83 : FVec F S128 .f32 := Host.absf main_arg17
  let main_cst_32 : FVec F S_ .f32 := constant S_ .f32 0x7F800000#32
  let main_v84 : FVec F S128 .f32 := broadcastInDim S128 ![] bcast_S_S128 main_cst_32
  fn_part5 (F := F) main_arg5 main_arg11 main_arg17 main_arg18 main_arg23 main_v63 main_v82 main_v83 main_v84

def fn_part3 {F : FTy → Type} [FloatOps F] (main_arg5 : FVec F S64 .f32) (main_arg11 : FVec F S64 .f32) (main_arg12 : FVec F S64 .f32) (main_arg13 : FVec F S64x128 .f32) (main_arg14 : FVec F S128 .f32) (main_arg15 : FVec F S64x128 .f32) (main_arg16 : FVec F S128 .f32) (main_arg17 : FVec F S128 .f32) (main_arg18 : FVec F S128 .f32) (main_arg23 : FVec F S256 .f32) (main_v33 : IVec S_ 1) (main_v47 : IVec S_ 1) (main_v50 : IVec S64 1) : IVec S_ 1 :=
  let main_c_19 : IVec S_ 1 := constantI S_ 1 1#1
  let main_v51 : IVec S_ 1 := (fun x v => Host.reduce IntOp.andi x v reducesTo_S64_S_d0 h_S_) main_v50 main_c_19
  let main_v52 : IVec S_ 1 := andi main_v47 main_v51
  let main_v53 : FVec F S64 .f32 := Host.absf main_arg11
  let main_cst_20 : FVec F S_ .f32 := constant S_ .f32 0x7F800000#32
  let main_v54 : FVec F S64 .f32 := broadcastInDim S64 ![] bcast_S_S64 main_cst_20
  let main_v55 : IVec S64 1 := cmpf .olt main_v53 main_v54
  let main_c_21 : IVec S_ 1 := constantI S_ 1 1#1
  let main_v56 : IVec S_ 1 := (fun x v => Host.reduce IntOp.andi x v reducesTo_S64_S_d0 h_S_) main_v55 main_c_21
  let main_v57 : IVec S_ 1 := andi main_v52 main_v56
  let main_v58 : FVec F S64 .f32 := Host.absf main_arg12
  let main_cst_22 : FVec F S_ .f32 := constant S_ .f32 0x7F800000#32
  let main_v59 : FVec F S64 .f32 := broadcastInDim S64 ![] bcast_S_S64 main_cst_22
  let main_v60 : IVec S64 1 := cmpf .olt main_v58 main_v59
  let main_c_23 : IVec S_ 1 := constantI S_ 1 1#1
  let main_v61 : IVec S_ 1 := (fun x v => Host.reduce IntOp.andi x v reducesTo_S64_S_d0 h_S_) main_v60 main_c_23
  let main_v62 : IVec S_ 1 := andi main_v57 main_v61
  let main_v63 : IVec S_ 1 := andi main_v33 main_v62
  let main_v64 : FVec F S64x128 .f32 := Host.absf main_arg13
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg5 main_arg11 main_arg14 main_arg15 main_arg16 main_arg17 main_arg18 main_arg23 main_v63 main_v67

def fn_part2 {F : FTy → Type} [FloatOps F] (main_arg5 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_arg15 : FVec F S64x128 .f32) (main_arg16 : FVec F S128 .f32) (main_arg17 : FVec F S128 .f32) (main_arg18 : FVec F S128 .f32) (main_arg23 : FVec F S256 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : FVec F S64 .f32 := Host.absf main_arg8
  let main_cst_14 : FVec F S_ .f32 := constant S_ .f32 0x7F800000#32
  let main_v39 : FVec F S64 .f32 := broadcastInDim S64 ![] bcast_S_S64 main_cst_14
  let main_v40 : IVec S64 1 := cmpf .olt main_v38 main_v39
  let main_c_15 : IVec S_ 1 := constantI S_ 1 1#1
  let main_v41 : IVec S_ 1 := (fun x v => Host.reduce IntOp.andi x v reducesTo_S64_S_d0 h_S_) main_v40 main_c_15
  let main_v42 : IVec S_ 1 := andi main_v37 main_v41
  let main_v43 : FVec F S64x64 .f32 := Host.absf main_arg9
  let main_cst_16 : FVec F S_ .f32 := constant S_ .f32 0x7F800000#32
  let main_v44 : FVec F S64x64 .f32 := broadcastInDim S64x64 ![] bcast_S_S64x64 main_cst_16
  let main_v45 : IVec S64x64 1 := cmpf .olt main_v43 main_v44
  let main_c_17 : IVec S_ 1 := constantI S_ 1 1#1
  let main_v46 : IVec S_ 1 := (fun x v => Host.reduce IntOp.andi x v reducesTo_S64x64_S_d0_1 h_S_) main_v45 main_c_17
  let main_v47 : IVec S_ 1 := andi main_v42 main_v46
  let main_v48 : FVec F S64 .f32 := Host.absf main_arg10
  let main_cst_18 : FVec F S_ .f32 := constant S_ .f32 0x7F800000#32
  let main_v49 : FVec F S64 .f32 := broadcastInDim S64 ![] bcast_S_S64 main_cst_18
  let main_v50 : IVec S64 1 := cmpf .olt main_v48 main_v49
  fn_part3 (F := F) main_arg5 main_arg11 main_arg12 main_arg13 main_arg14 main_arg15 main_arg16 main_arg17 main_arg18 main_arg23 main_v33 main_v47 main_v50

def fn_part1 {F : FTy → Type} [FloatOps F] (main_arg4 : FVec F S64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_arg15 : FVec F S64x128 .f32) (main_arg16 : FVec F S128 .f32) (main_arg17 : FVec F S128 .f32) (main_arg18 : FVec F S128 .f32) (main_arg23 : FVec F S256 .f32) (main_v3 : IVec S_ 1) (main_v12 : IVec S_ 1) (main_v15 : IVec S3x64 1) (main_c_5 : IVec S_ 1) : IVec S_ 1 :=
  let main_v16 : IVec S_ 1 := (fun x v => Host.reduce IntOp.andi x v reducesTo_S3x64_S_d0_1 h_S_) main_v15 main_c_5
  let main_v17 : IVec S_ 1 := andi main_v12 main_v16
  let main_v18 : FVec F S64 .f32 := Host.absf main_arg4
  let main_cst_6 : FVec F S_ .f32 := constant S_ .f32 0x7F800000#32
  let main_v19 : FVec F S64 .f32 := broadcastInDim S64 ![] bcast_S_S64 main_cst_6
  let main_v20 : IVec S64 1 := cmpf .olt main_v18 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v17 main_v21
  let main_v23 : FVec F S64 .f32 := Host.absf main_arg5
  let main_cst_8 : FVec F S_ .f32 := constant S_ .f32 0x7F800000#32
  let main_v24 : FVec F S64 .f32 := broadcastInDim S64 ![] bcast_S_S64 main_cst_8
  let main_v25 : IVec S64 1 := cmpf .olt main_v23 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v22 main_v26
  let main_v28 : FVec F S64 .f32 := Host.absf main_arg6
  let main_cst_10 : FVec F S_ .f32 := constant S_ .f32 0x7F800000#32
  let main_v29 : FVec F S64 .f32 := broadcastInDim S64 ![] bcast_S_S64 main_cst_10
  let main_v30 : IVec S64 1 := cmpf .olt main_v28 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v27 main_v31
  let main_v33 : IVec S_ 1 := andi main_v3 main_v32
  fn_part2 (F := F) main_arg5 main_arg7 main_arg8 main_arg9 main_arg10 main_arg11 main_arg12 main_arg13 main_arg14 main_arg15 main_arg16 main_arg17 main_arg18 main_arg23 main_v33

def fn {F : FTy → Type} [FloatOps F] (main_arg0 : FVec F S32x1024x3 .f32) (main_arg1 : FVec F S3x64 .f32) (main_arg2 : FVec F S64 .f32) (main_arg3 : FVec F S3x64 .f32) (main_arg4 : FVec F S64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_arg15 : FVec F S64x128 .f32) (main_arg16 : FVec F S128 .f32) (main_arg17 : FVec F S128 .f32) (main_arg18 : FVec F S128 .f32) (main_arg19 : FVec F S128x256 .f32) (main_arg20 : FVec F S256 .f32) (main_arg21 : FVec F S128x256 .f32) (main_arg22 : FVec F S256 .f32) (main_arg23 : FVec F S256 .f32) (main_arg24 : FVec F S256 .f32) (main_arg25 : FVec F S512x1024 .f32) (main_arg26 : FVec F S1024 .f32) (main_arg27 : FVec F S1024 .f32) (main_arg28 : FVec F S1024 .f32) (main_arg29 : FVec F S1024x512 .f32) (main_arg30 : FVec F S512 .f32) (main_arg31 : FVec F S512 .f32) (main_arg32 : FVec F S512 .f32) (main_arg33 : FVec F S512x256 .f32) (main_arg34 : FVec F S256 .f32) (main_arg35 : FVec F S256 .f32) (main_arg36 : FVec F S256 .f32) (main_arg37 : FVec F S256x40 .f32) (main_arg38 : FVec F S40 .f32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v7 main_v11
  let main_v13 : FVec F S3x64 .f32 := Host.absf main_arg3
  let main_cst_4 : FVec F S_ .f32 := constant S_ .f32 0x7F800000#32
  let main_v14 : FVec F S3x64 .f32 := broadcastInDim S3x64 ![] bcast_S_S3x64 main_cst_4
  let main_v15 : IVec S3x64 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_arg16 main_arg17 main_arg18 main_arg23 main_v3 main_v12 main_v15 main_c_5
-- ==== Kernel.lean ====
abbrev S32x1024x3 : Shape := ⟨3, ![32, 1024, 3]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256x40 : Shape := ⟨2, ![256, 40]⟩
abbrev S40 : Shape := ⟨1, ![40]⟩
abbrev S1x64 : Shape := ⟨2, ![1, 64]⟩
abbrev S1x128 : Shape := ⟨2, ![1, 128]⟩
abbrev S1x256 : Shape := ⟨2, ![1, 256]⟩
abbrev S1x1024 : Shape := ⟨2, ![1, 1024]⟩
abbrev S1x512 : Shape := ⟨2, ![1, 512]⟩
abbrev S1x40 : Shape := ⟨2, ![1, 40]⟩
abbrev S32x1x40 : Shape := ⟨3, ![32, 1, 40]⟩
abbrev S1x1024x3 : Shape := ⟨3, ![1, 1024, 3]⟩
abbrev S1x1x40 : Shape := ⟨3, ![1, 1, 40]⟩
abbrev S1024x3 : Shape := ⟨2, ![1024, 3]⟩
abbrev S3x1024 : Shape := ⟨2, ![3, 1024]⟩
abbrev S1024x1 : Shape := ⟨2, ![1024, 1]⟩
abbrev S1024x1024 : Shape := ⟨2, ![1024, 1024]⟩
abbrev S1024x9 : Shape := ⟨2, ![1024, 9]⟩
abbrev S512x2x3 : Shape := ⟨3, ![512, 2, 3]⟩
abbrev S512x3 : Shape := ⟨2, ![512, 3]⟩
abbrev S512x1 : Shape := ⟨2, ![512, 1]⟩
abbrev S512x64 : Shape := ⟨2, ![512, 64]⟩
abbrev S512x9 : Shape := ⟨2, ![512, 9]⟩
abbrev S256x2x64 : Shape := ⟨3, ![256, 2, 64]⟩
abbrev S256x64 : Shape := ⟨2, ![256, 64]⟩
abbrev S256x1 : Shape := ⟨2, ![256, 1]⟩
abbrev S64x512 : Shape := ⟨2, ![64, 512]⟩
abbrev S256x512 : Shape := ⟨2, ![256, 512]⟩
abbrev S512x192 : Shape := ⟨2, ![512, 192]⟩
abbrev S256x192 : Shape := ⟨2, ![256, 192]⟩
abbrev S64x256 : Shape := ⟨2, ![64, 256]⟩
abbrev S256x256 : Shape := ⟨2, ![256, 256]⟩
abbrev S256x128 : Shape := ⟨2, ![256, 128]⟩
abbrev S256x384 : Shape := ⟨2, ![256, 384]⟩
abbrev S256x1024 : Shape := ⟨2, ![256, 1024]⟩
abbrev S1 : Shape := ⟨1, ![1]⟩
abbrev S1x1 : Shape := ⟨2, ![1, 1]⟩
abbrev S32x40 : Shape := ⟨2, ![32, 40]⟩

abbrev nBuf : Space → Nat
  | .hbm => 67
  | .vmem => 42
  | .smem => 0
  | _ => 0

abbrev bufTy : (tb : Table) → Fin (tcTables nBuf tb) → BufTy
  | .hbm, ⟨0, _⟩ => ⟨S32x1024x3, .f32⟩
  | .hbm, ⟨1, _⟩ => ⟨S3x64, .f32⟩
  | .hbm, ⟨2, _⟩ => ⟨S64, .f32⟩
  | .hbm, ⟨3, _⟩ => ⟨S3x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S64x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x256, .f32⟩
  | .hbm, ⟨20, _⟩ => ⟨S256, .f32⟩
  | .hbm, ⟨21, _⟩ => ⟨S128x256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S512x1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024x512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512x256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256x40, .f32⟩
  | .hbm, ⟨38, _⟩ => ⟨S40, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x40, .f32⟩
  | .hbm, ⟨65, _⟩ => ⟨S32x1x40, .f32⟩
  | .hbm, ⟨66, _⟩ => ⟨S32x40, .f32⟩
  | .local _ .vmem, ⟨0, _⟩ => ⟨S1x1024x3, .f32⟩
  | .local _ .vmem, ⟨1, _⟩ => ⟨S1x1024x3, .f32⟩
  | .local _ .vmem, ⟨2, _⟩ => ⟨S3x64, .f32⟩
  | .local _ .vmem, ⟨3, _⟩ => ⟨S3x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S64x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x128, .f32⟩
  | .local _ .vmem, ⟨15, _⟩ => ⟨S64x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x256, .f32⟩
  | .local _ .vmem, ⟨21, _⟩ => ⟨S128x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S512x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1024x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S512x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S256x40, .f32⟩
  | .local _ .vmem, ⟨39, _⟩ => ⟨S1x40, .f32⟩
  | .local _ .vmem, ⟨40, _⟩ => ⟨S1x1x40, .f32⟩
  | .local _ .vmem, ⟨41, _⟩ => ⟨S1x1x40, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg32_0 : Ref sig .tc := ⟨.vmem, 33, rfl⟩
abbrev cc0_stg33_0 : Ref sig .tc := ⟨.vmem, 34, rfl⟩
abbrev cc0_stg34_0 : Ref sig .tc := ⟨.vmem, 35, rfl⟩
abbrev cc0_stg35_0 : Ref sig .tc := ⟨.vmem, 36, rfl⟩
abbrev cc0_stg36_0 : Ref sig .tc := ⟨.vmem, 37, rfl⟩
abbrev cc0_stg37_0 : Ref sig .tc := ⟨.vmem, 38, rfl⟩
abbrev cc0_stg38_0 : Ref sig .tc := ⟨.vmem, 39, rfl⟩
abbrev cc0_stg39_0 : Ref sig .tc := ⟨.vmem, 40, rfl⟩
abbrev cc0_stg39_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem32_0 : DmaSem sig := 33
abbrev cc0_sem33_0 : DmaSem sig := 34
abbrev cc0_sem34_0 : DmaSem sig := 35
abbrev cc0_sem35_0 : DmaSem sig := 36
abbrev cc0_sem36_0 : DmaSem sig := 37
abbrev cc0_sem37_0 : DmaSem sig := 38
abbrev cc0_sem38_0 : DmaSem sig := 39
abbrev cc0_sem39_0 : DmaSem sig := 40
abbrev cc0_sem39_1 : DmaSem sig := 41

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c40_i32 : BitVec 32 := 40#32
  let v563 : BitVec 32 := Scalar.addi c0_i32 c40_i32
  let c1_i32_87 : BitVec 32 := 1#32
  ⟨c0_i32, v563, c1_i32_87⟩
@[reducible] def k0_t2_loop : Scf.Loop 32 :=
  let c0_i32_111 : BitVec 32 := 0#32
  let c32_i32_112 : BitVec 32 := 32#32
  let v617 : BitVec 32 := Scalar.addi c0_i32_111 c32_i32_112
  let c1_i32_113 : BitVec 32 := 1#32
  ⟨c0_i32_111, v617, c1_i32_113⟩
@[reducible] def k0_t3_loop : Scf.Loop 32 :=
  let c0_i32_134 : BitVec 32 := 0#32
  let c32_i32_135 : BitVec 32 := 32#32
  let v665 : BitVec 32 := Scalar.addi c0_i32_134 c32_i32_135
  let c1_i32_136 : BitVec 32 := 1#32
  ⟨c0_i32_134, v665, c1_i32_136⟩
@[reducible] def k0_t4_loop : Scf.Loop 32 :=
  let c0_i32_157 : BitVec 32 := 0#32
  let c32_i32_158 : BitVec 32 := 32#32
  let v713 : BitVec 32 := Scalar.addi c0_i32_157 c32_i32_158
  let c1_i32_159 : BitVec 32 := 1#32
  ⟨c0_i32_157, v713, c1_i32_159⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1024x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S512x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x256 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S256x40 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1x40 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 2 → Memref sig .tc .vmem S1x1x40 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]
-- ==== KernelIdeal.lean ====
variable {F : FTy → Type} [FloatOps F] [Named F]
def κ : String → Option EReal := fun
  | "lowest" => some ⊥
  | _ => none
-- ==== ReferenceIdeal.lean ====
abbrev S32x1024x3 : Shape := ⟨3, ![32, 1024, 3]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256x40 : Shape := ⟨2, ![256, 40]⟩
abbrev S40 : Shape := ⟨1, ![40]⟩
abbrev S32x1024x1 : Shape := ⟨3, ![32, 1024, 1]⟩
abbrev S64x512x3 : Shape := ⟨3, ![64, 512, 3]⟩
abbrev S64x512x1 : Shape := ⟨3, ![64, 512, 1]⟩
abbrev S128x256x3 : Shape := ⟨3, ![128, 256, 3]⟩
abbrev S128x256x1 : Shape := ⟨3, ![128, 256, 1]⟩
abbrev S256x128x3 : Shape := ⟨3, ![256, 128, 3]⟩
abbrev S256x128x1 : Shape := ⟨3, ![256, 128, 1]⟩
abbrev S512x64x3 : Shape := ⟨3, ![512, 64, 3]⟩
abbrev S512x64x1 : Shape := ⟨3, ![512, 64, 1]⟩
abbrev S1024x32x3 : Shape := ⟨3, ![1024, 32, 3]⟩
abbrev S1024x32x1 : Shape := ⟨3, ![1024, 32, 1]⟩
abbrev S2048x16x3 : Shape := ⟨3, ![2048, 16, 3]⟩
abbrev S2048x16x1 : Shape := ⟨3, ![2048, 16, 1]⟩
abbrev S4096x8x3 : Shape := ⟨3, ![4096, 8, 3]⟩
abbrev S4096x8x1 : Shape := ⟨3, ![4096, 8, 1]⟩
abbrev S8192x4x3 : Shape := ⟨3, ![8192, 4, 3]⟩
abbrev S8192x4x1 : Shape := ⟨3, ![8192, 4, 1]⟩
abbrev S16384x2x3 : Shape := ⟨3, ![16384, 2, 3]⟩
abbrev S16384x2x1 : Shape := ⟨3, ![16384, 2, 1]⟩
abbrev S32x512x2x3 : Shape := ⟨4, ![32, 512, 2, 3]⟩
abbrev S_ : Shape := ⟨0, ![]⟩
abbrev S32x512x3 : Shape := ⟨3, ![32, 512, 3]⟩
abbrev S32x512 : Shape := ⟨2, ![32, 512]⟩
abbrev S32x512x1 : Shape := ⟨3, ![32, 512, 1]⟩
abbrev S32x1024 : Shape := ⟨2, ![32, 1024]⟩
abbrev S32x1x1024 : Shape := ⟨3, ![32, 1, 1024]⟩
abbrev S32x3x1024 : Shape := ⟨3, ![32, 3, 1024]⟩
abbrev S32x512x1024 : Shape := ⟨3, ![32, 512, 1024]⟩
abbrev S32x512x40 : Shape := ⟨3, ![32, 512, 40]⟩
abbrev S32x512x40x1 : Shape := ⟨4, ![32, 512, 40, 1]⟩
abbrev S32x512x40x3 : Shape := ⟨4, ![32, 512, 40, 3]⟩
abbrev S32x512x1x3 : Shape := ⟨4, ![32, 512, 1, 3]⟩
abbrev S32x512x40x64 : Shape := ⟨4, ![32, 512, 40, 64]⟩
abbrev S1x1x1x64 : Shape := ⟨4, ![1, 1, 1, 64]⟩
abbrev S32x512x1x64 : Shape := ⟨4, ![32, 512, 1, 64]⟩
abbrev S32x512x64 : Shape := ⟨3, ![32, 512, 64]⟩
abbrev S32x256x2x64 : Shape := ⟨4, ![32, 256, 2, 64]⟩
abbrev S32x256x64 : Shape := ⟨3, ![32, 256, 64]⟩
abbrev S32x256 : Shape := ⟨2, ![32, 256]⟩
abbrev S32x256x1 : Shape := ⟨3, ![32, 256, 1]⟩
abbrev S32x1x512 : Shape := ⟨3, ![32, 1, 512]⟩
abbrev S32x64x512 : Shape := ⟨3, ![32, 64, 512]⟩
abbrev S32x256x512 : Shape := ⟨3, ![32, 256, 512]⟩
abbrev S32x256x32 : Shape := ⟨3, ![32, 256, 32]⟩
abbrev S32x256x32x1 : Shape := ⟨4, ![32, 256, 32, 1]⟩
abbrev S32x256x32x64 : Shape := ⟨4, ![32, 256, 32, 64]⟩
abbrev S32x256x1x64 : Shape := ⟨4, ![32, 256, 1, 64]⟩
abbrev S32x1x256 : Shape := ⟨3, ![32, 1, 256]⟩
abbrev S32x64x256 : Shape := ⟨3, ![32, 64, 256]⟩
abbrev S32x256x256 : Shape := ⟨3, ![32, 256, 256]⟩
abbrev S32x256x32x128 : Shape := ⟨4, ![32, 256, 32, 128]⟩
abbrev S1x1x1x128 : Shape := ⟨4, ![1, 1, 1, 128]⟩
abbrev S32x256x1x128 : Shape := ⟨4, ![32, 256, 1, 128]⟩
abbrev S32x256x128 : Shape := ⟨3, ![32, 256, 128]⟩
abbrev S32x128x256 : Shape := ⟨3, ![32, 128, 256]⟩
abbrev S32x256x32x256 : Shape := ⟨4, ![32, 256, 32, 256]⟩
abbrev S1x1x1x256 : Shape := ⟨4, ![1, 1, 1, 256]⟩
abbrev S32x256x1x256 : Shape := ⟨4, ![32, 256, 1, 256]⟩
abbrev S32x256x1024 : Shape := ⟨3, ![32, 256, 1024]⟩
abbrev S1x1x1024 : Shape := ⟨3, ![1, 1, 1024]⟩
abbrev S1x512 : Shape := ⟨2, ![1, 512]⟩
abbrev S1x256 : Shape := ⟨2, ![1, 256]⟩
abbrev S32x40 : Shape := ⟨2, ![32, 40]⟩
abbrev S1x40 : Shape := ⟨2, ![1, 40]⟩
abbrev S32 : Shape := ⟨1, ![32]⟩
abbrev S32x1 : Shape := ⟨2, ![32, 1]⟩

abbrev nBuf : Space → Nat
  | .hbm => 409
  | .vmem => 0
  | .smem => 0
  | _ => 0

abbrev hbmTy0_0 (i : Nat) : BufTy := match i % 128 with
  | 0 => ⟨S32x1024x3, .f32⟩
  | 1 => ⟨S3x64, .f32⟩
  | 2 => ⟨S64, .f32⟩
  | 3 => ⟨S3x64, .f32⟩
  | 4 => ⟨S64, .f32⟩
  | 5 => ⟨S64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64, .f32⟩
  | 12 => ⟨S64, .f32⟩
  | 13 => ⟨S64x128, .f32⟩
  | 14 => ⟨S128, .f32⟩
  | 15 => ⟨S64x128, .f32⟩
  | 16 => ⟨S128, .f32⟩
  | 17 => ⟨S128, .f32⟩
  | 18 => ⟨S128, .f32⟩
  | 19 => ⟨S128x256, .f32⟩
  | 20 => ⟨S256, .f32⟩
  | 21 => ⟨S128x256, .f32⟩
  | 22 => ⟨S256, .f32⟩
  | 23 => ⟨S256, .f32⟩
  | 24 => ⟨S256, .f32⟩
  | 25 => ⟨S512x1024, .f32⟩
  | 26 => ⟨S1024, .f32⟩
  | 27 => ⟨S1024, .f32⟩
  | 28 => ⟨S1024, .f32⟩
  | 29 => ⟨S1024x512, .f32⟩
  | 30 => ⟨S512, .f32⟩
  | 31 => ⟨S512, .f32⟩
  | 32 => ⟨S512, .f32⟩
  | 33 => ⟨S512x256, .f32⟩
  | 34 => ⟨S256, .f32⟩
  | 35 => ⟨S256, .f32⟩
  | 36 => ⟨S256, .f32⟩
  | 37 => ⟨S256x40, .f32⟩
  | 38 => ⟨S40, .f32⟩
  | 39 => ⟨S32x1024x1, .f32⟩
  | 40 => ⟨S32x1024x3, .f32⟩
  | 41 => ⟨S32x1024x3, .f32⟩
  | 42 => ⟨S32x1024x3, .f32⟩
  | 43 => ⟨S64x512x3, .f32⟩
  | 44 => ⟨S64x512x1, .f32⟩
  | 45 => ⟨S64x512x3, .f32⟩
  | 46 => ⟨S64x512x3, .f32⟩
  | 47 => ⟨S64x512x3, .f32⟩
  | 48 => ⟨S32x1024x3, .f32⟩
  | 49 => ⟨S128x256x3, .f32⟩
  | 50 => ⟨S128x256x1, .f32⟩
  | 51 => ⟨S128x256x3, .f32⟩
  | 52 => ⟨S128x256x3, .f32⟩
  | 53 => ⟨S128x256x3, .f32⟩
  | 54 => ⟨S32x1024x3, .f32⟩
  | 55 => ⟨S256x128x3, .f32⟩
  | 56 => ⟨S256x128x1, .f32⟩
  | 57 => ⟨S256x128x3, .f32⟩
  | 58 => ⟨S256x128x3, .f32⟩
  | 59 => ⟨S256x128x3, .f32⟩
  | 60 => ⟨S32x1024x3, .f32⟩
  | 61 => ⟨S512x64x3, .f32⟩
  | 62 => ⟨S512x64x1, .f32⟩
  | 63 => ⟨S512x64x3, .f32⟩
  | 64 => ⟨S512x64x3, .f32⟩
  | 65 => ⟨S512x64x3, .f32⟩
  | 66 => ⟨S32x1024x3, .f32⟩
  | 67 => ⟨S1024x32x3, .f32⟩
  | 68 => ⟨S1024x32x1, .f32⟩
  | 69 => ⟨S1024x32x3, .f32⟩
  | 70 => ⟨S1024x32x3, .f32⟩
  | 71 => ⟨S1024x32x3, .f32⟩
  | 72 => ⟨S32x1024x3, .f32⟩
  | 73 => ⟨S2048x16x3, .f32⟩
  | 74 => ⟨S2048x16x1, .f32⟩
  | 75 => ⟨S2048x16x3, .f32⟩
  | 76 => ⟨S2048x16x3, .f32⟩
  | 77 => ⟨S2048x16x3, .f32⟩
  | 78 => ⟨S32x1024x3, .f32⟩
  | 79 => ⟨S4096x8x3, .f32⟩
  | 80 => ⟨S4096x8x1, .f32⟩
  | 81 => ⟨S4096x8x3, .f32⟩
  | 82 => ⟨S4096x8x3, .f32⟩
  | 83 => ⟨S4096x8x3, .f32⟩
  | 84 => ⟨S32x1024x3, .f32⟩
  | 85 => ⟨S8192x4x3, .f32⟩
  | 86 => ⟨S8192x4x1, .f32⟩
  | 87 => ⟨S8192x4x3, .f32⟩
  | 88 => ⟨S8192x4x3, .f32⟩
  | 89 => ⟨S8192x4x3, .f32⟩
  | 90 => ⟨S32x1024x3, .f32⟩
  | 91 => ⟨S16384x2x3, .f32⟩
  | 92 => ⟨S16384x2x1, .f32⟩
  | 93 => ⟨S16384x2x3, .f32⟩
  | 94 => ⟨S16384x2x3, .f32⟩
  | 95 => ⟨S16384x2x3, .f32⟩
  | 96 => ⟨S32x1024x3, .f32⟩
  | 97 => ⟨S32x512x2x3, .f32⟩
  | 98 => ⟨S_, .f32⟩
  | 99 => ⟨S32x512x3, .f32⟩
  | 100 => ⟨S_, .f32⟩
  | 101 => ⟨S32x512x3, .f32⟩
  | 102 => ⟨S32x512x3, .f32⟩
  | 103 => ⟨S32x512x3, .f32⟩
  | 104 => ⟨S_, .f32⟩
  | 105 => ⟨S32x512, .f32⟩
  | 106 => ⟨S32x512x1, .f32⟩
  | 107 => ⟨S32x1024x3, .f32⟩
  | 108 => ⟨S_, .f32⟩
  | 109 => ⟨S32x1024, .f32⟩
  | 110 => ⟨S32x1024x1, .f32⟩
  | 111 => ⟨S32x1x1024, .f32⟩
  | 112 => ⟨S32x3x1024, .f32⟩
  | 113 => ⟨S32x512x1024, .f32⟩
  | 114 => ⟨S_, .f32⟩
  | 115 => ⟨S32x512x1024, .f32⟩
  | 116 => ⟨S32x512x1024, .f32⟩
  | 117 => ⟨S32x512x1024, .f32⟩
  | 118 => ⟨S32x512x1024, .f32⟩
  | 119 => ⟨S32x512x1024, .f32⟩
  | 120 => ⟨S32x512x1024, .f32⟩
  | 121 => ⟨S32x512x1024, .f32⟩
  | 122 => ⟨S32x512x40, .f32⟩
  | 123 => ⟨S32x512x40, .i32⟩
  | 124 => ⟨S_, .i32⟩
  | 125 => ⟨S32x512x40, .i32⟩
  | 126 => ⟨S32x512x40, .i1⟩
  | 127 => ⟨S_, .i32⟩
  | _ => ⟨S32x1024x3, .f32⟩

abbrev hbmTy0_1 (i : Nat) : BufTy := match i % 128 with
  | 0 => ⟨S32x512x40, .i32⟩
  | 1 => ⟨S32x512x40, .i32⟩
  | 2 => ⟨S32x512x40, .i32⟩
  | 3 => ⟨S32x512x40x1, .i32⟩
  | 4 => ⟨S32x512x40x3, .f32⟩
  | 5 => ⟨S32x512x1x3, .f32⟩
  | 6 => ⟨S32x512x40x3, .f32⟩
  | 7 => ⟨S32x512x40x3, .f32⟩
  | 8 => ⟨S32x512x40x64, .f32⟩
  | 9 => ⟨S1x1x1x64, .f32⟩
  | 10 => ⟨S32x512x40x64, .f32⟩
  | 11 => ⟨S32x512x40x64, .f32⟩
  | 12 => ⟨S32x512x1x64, .f32⟩
  | 13 => ⟨S1x1x1x64, .f32⟩
  | 14 => ⟨S32x512x1x64, .f32⟩
  | 15 => ⟨S32x512x1x64, .f32⟩
  | 16 => ⟨S32x512x40x64, .f32⟩
  | 17 => ⟨S32x512x40x64, .f32⟩
  | 18 => ⟨S1x1x1x64, .f32⟩
  | 19 => ⟨S32x512x40x64, .f32⟩
  | 20 => ⟨S32x512x40x64, .f32⟩
  | 21 => ⟨S_, .f32⟩
  | 22 => ⟨S32x512x40x64, .f32⟩
  | 23 => ⟨S32x512x40x64, .f32⟩
  | 24 => ⟨S1x1x1x64, .f32⟩
  | 25 => ⟨S32x512x40x64, .f32⟩
  | 26 => ⟨S32x512x40x64, .f32⟩
  | 27 => ⟨S_, .f32⟩
  | 28 => ⟨S32x512x40x64, .f32⟩
  | 29 => ⟨S32x512x40x64, .f32⟩
  | 30 => ⟨S_, .f32⟩
  | 31 => ⟨S32x512x64, .f32⟩
  | 32 => ⟨S32x256x2x64, .f32⟩
  | 33 => ⟨S_, .f32⟩
  | 34 => ⟨S32x256x64, .f32⟩
  | 35 => ⟨S32x256x2x64, .f32⟩
  | 36 => ⟨S_, .f32⟩
  | 37 => ⟨S32x256x64, .f32⟩
  | 38 => ⟨S_, .f32⟩
  | 39 => ⟨S32x256x64, .f32⟩
  | 40 => ⟨S32x256x64, .f32⟩
  | 41 => ⟨S32x256x64, .f32⟩
  | 42 => ⟨S_, .f32⟩
  | 43 => ⟨S32x256, .f32⟩
  | 44 => ⟨S32x256x1, .f32⟩
  | 45 => ⟨S32x512x64, .f32⟩
  | 46 => ⟨S_, .f32⟩
  | 47 => ⟨S32x512, .f32⟩
  | 48 => ⟨S32x512x1, .f32⟩
  | 49 => ⟨S32x1x512, .f32⟩
  | 50 => ⟨S32x64x512, .f32⟩
  | 51 => ⟨S32x256x512, .f32⟩
  | 52 => ⟨S_, .f32⟩
  | 53 => ⟨S32x256x512, .f32⟩
  | 54 => ⟨S32x256x512, .f32⟩
  | 55 => ⟨S32x256x512, .f32⟩
  | 56 => ⟨S32x256x512, .f32⟩
  | 57 => ⟨S32x256x512, .f32⟩
  | 58 => ⟨S32x256x512, .f32⟩
  | 59 => ⟨S32x256x512, .f32⟩
  | 60 => ⟨S32x256x32, .f32⟩
  | 61 => ⟨S32x256x32, .i32⟩
  | 62 => ⟨S_, .i32⟩
  | 63 => ⟨S32x256x32, .i32⟩
  | 64 => ⟨S32x256x32, .i1⟩
  | 65 => ⟨S_, .i32⟩
  | 66 => ⟨S32x256x32, .i32⟩
  | 67 => ⟨S32x256x32, .i32⟩
  | 68 => ⟨S32x256x32, .i32⟩
  | 69 => ⟨S32x256x32x1, .i32⟩
  | 70 => ⟨S32x256x32x64, .f32⟩
  | 71 => ⟨S32x256x1x64, .f32⟩
  | 72 => ⟨S32x256x32x64, .f32⟩
  | 73 => ⟨S32x256x32x64, .f32⟩
  | 74 => ⟨S32x256x32x64, .f32⟩
  | 75 => ⟨S1x1x1x64, .f32⟩
  | 76 => ⟨S32x256x32x64, .f32⟩
  | 77 => ⟨S32x256x32x64, .f32⟩
  | 78 => ⟨S32x256x1x64, .f32⟩
  | 79 => ⟨S1x1x1x64, .f32⟩
  | 80 => ⟨S32x256x1x64, .f32⟩
  | 81 => ⟨S32x256x1x64, .f32⟩
  | 82 => ⟨S32x256x32x64, .f32⟩
  | 83 => ⟨S32x256x32x64, .f32⟩
  | 84 => ⟨S1x1x1x64, .f32⟩
  | 85 => ⟨S32x256x32x64, .f32⟩
  | 86 => ⟨S32x256x32x64, .f32⟩
  | 87 => ⟨S_, .f32⟩
  | 88 => ⟨S32x256x32x64, .f32⟩
  | 89 => ⟨S32x256x32x64, .f32⟩
  | 90 => ⟨S1x1x1x64, .f32⟩
  | 91 => ⟨S32x256x32x64, .f32⟩
  | 92 => ⟨S32x256x32x64, .f32⟩
  | 93 => ⟨S_, .f32⟩
  | 94 => ⟨S32x256x32x64, .f32⟩
  | 95 => ⟨S32x256x32x64, .f32⟩
  | 96 => ⟨S_, .f32⟩
  | 97 => ⟨S32x256x64, .f32⟩
  | 98 => ⟨S32x256x64, .f32⟩
  | 99 => ⟨S_, .f32⟩
  | 100 => ⟨S32x256, .f32⟩
  | 101 => ⟨S32x256x1, .f32⟩
  | 102 => ⟨S32x256x64, .f32⟩
  | 103 => ⟨S_, .f32⟩
  | 104 => ⟨S32x256, .f32⟩
  | 105 => ⟨S32x256x1, .f32⟩
  | 106 => ⟨S32x1x256, .f32⟩
  | 107 => ⟨S32x64x256, .f32⟩
  | 108 => ⟨S32x256x256, .f32⟩
  | 109 => ⟨S_, .f32⟩
  | 110 => ⟨S32x256x256, .f32⟩
  | 111 => ⟨S32x256x256, .f32⟩
  | 112 => ⟨S32x256x256, .f32⟩
  | 113 => ⟨S32x256x256, .f32⟩
  | 114 => ⟨S32x256x256, .f32⟩
  | 115 => ⟨S32x256x256, .f32⟩
  | 116 => ⟨S32x256x256, .f32⟩
  | 117 => ⟨S32x256x32, .f32⟩
  | 118 => ⟨S32x256x32, .i32⟩
  | 119 => ⟨S_, .i32⟩
  | 120 => ⟨S32x256x32, .i32⟩
  | 121 => ⟨S32x256x32, .i1⟩
  | 122 => ⟨S_, .i32⟩
  | 123 => ⟨S32x256x32, .i32⟩
  | 124 => ⟨S32x256x32, .i32⟩
  | 125 => ⟨S32x256x32, .i32⟩
  | 126 => ⟨S32x256x32x1, .i32⟩
  | 127 => ⟨S32x256x32x64, .f32⟩
  | _ => ⟨S32x1024x3, .f32⟩

abbrev hbmTy0_2 (i : Nat) : BufTy := match i % 128 with
  | 0 => ⟨S32x256x1x64, .f32⟩
  | 1 => ⟨S32x256x32x64, .f32⟩
  | 2 => ⟨S32x256x32x64, .f32⟩
  | 3 => ⟨S32x256x32x128, .f32⟩
  | 4 => ⟨S1x1x1x128, .f32⟩
  | 5 => ⟨S32x256x32x128, .f32⟩
  | 6 => ⟨S32x256x32x128, .f32⟩
  | 7 => ⟨S32x256x1x128, .f32⟩
  | 8 => ⟨S1x1x1x128, .f32⟩
  | 9 => ⟨S32x256x1x128, .f32⟩
  | 10 => ⟨S32x256x1x128, .f32⟩
  | 11 => ⟨S32x256x32x128, .f32⟩
  | 12 => ⟨S32x256x32x128, .f32⟩
  | 13 => ⟨S1x1x1x128, .f32⟩
  | 14 => ⟨S32x256x32x128, .f32⟩
  | 15 => ⟨S32x256x32x128, .f32⟩
  | 16 => ⟨S_, .f32⟩
  | 17 => ⟨S32x256x32x128, .f32⟩
  | 18 => ⟨S32x256x32x128, .f32⟩
  | 19 => ⟨S1x1x1x128, .f32⟩
  | 20 => ⟨S32x256x32x128, .f32⟩
  | 21 => ⟨S32x256x32x128, .f32⟩
  | 22 => ⟨S_, .f32⟩
  | 23 => ⟨S32x256x32x128, .f32⟩
  | 24 => ⟨S32x256x32x128, .f32⟩
  | 25 => ⟨S_, .f32⟩
  | 26 => ⟨S32x256x128, .f32⟩
  | 27 => ⟨S32x256x128, .f32⟩
  | 28 => ⟨S_, .f32⟩
  | 29 => ⟨S32x256, .f32⟩
  | 30 => ⟨S32x256x1, .f32⟩
  | 31 => ⟨S32x256x128, .f32⟩
  | 32 => ⟨S_, .f32⟩
  | 33 => ⟨S32x256, .f32⟩
  | 34 => ⟨S32x256x1, .f32⟩
  | 35 => ⟨S32x1x256, .f32⟩
  | 36 => ⟨S32x128x256, .f32⟩
  | 37 => ⟨S32x256x256, .f32⟩
  | 38 => ⟨S_, .f32⟩
  | 39 => ⟨S32x256x256, .f32⟩
  | 40 => ⟨S32x256x256, .f32⟩
  | 41 => ⟨S32x256x256, .f32⟩
  | 42 => ⟨S32x256x256, .f32⟩
  | 43 => ⟨S32x256x256, .f32⟩
  | 44 => ⟨S32x256x256, .f32⟩
  | 45 => ⟨S32x256x256, .f32⟩
  | 46 => ⟨S32x256x32, .f32⟩
  | 47 => ⟨S32x256x32, .i32⟩
  | 48 => ⟨S_, .i32⟩
  | 49 => ⟨S32x256x32, .i32⟩
  | 50 => ⟨S32x256x32, .i1⟩
  | 51 => ⟨S_, .i32⟩
  | 52 => ⟨S32x256x32, .i32⟩
  | 53 => ⟨S32x256x32, .i32⟩
  | 54 => ⟨S32x256x32, .i32⟩
  | 55 => ⟨S32x256x32x1, .i32⟩
  | 56 => ⟨S32x256x32x128, .f32⟩
  | 57 => ⟨S32x256x1x128, .f32⟩
  | 58 => ⟨S32x256x32x128, .f32⟩
  | 59 => ⟨S32x256x32x128, .f32⟩
  | 60 => ⟨S32x256x32x256, .f32⟩
  | 61 => ⟨S1x1x1x256, .f32⟩
  | 62 => ⟨S32x256x32x256, .f32⟩
  | 63 => ⟨S32x256x32x256, .f32⟩
  | 64 => ⟨S32x256x1x256, .f32⟩
  | 65 => ⟨S1x1x1x256, .f32⟩
  | 66 => ⟨S32x256x1x256, .f32⟩
  | 67 => ⟨S32x256x1x256, .f32⟩
  | 68 => ⟨S32x256x32x256, .f32⟩
  | 69 => ⟨S32x256x32x256, .f32⟩
  | 70 => ⟨S1x1x1x256, .f32⟩
  | 71 => ⟨S32x256x32x256, .f32⟩
  | 72 => ⟨S32x256x32x256, .f32⟩
  | 73 => ⟨S_, .f32⟩
  | 74 => ⟨S32x256x32x256, .f32⟩
  | 75 => ⟨S32x256x32x256, .f32⟩
  | 76 => ⟨S1x1x1x256, .f32⟩
  | 77 => ⟨S32x256x32x256, .f32⟩
  | 78 => ⟨S32x256x32x256, .f32⟩
  | 79 => ⟨S_, .f32⟩
  | 80 => ⟨S32x256x32x256, .f32⟩
  | 81 => ⟨S32x256x32x256, .f32⟩
  | 82 => ⟨S_, .f32⟩
  | 83 => ⟨S32x256x256, .f32⟩
  | 84 => ⟨S32x256x512, .f32⟩
  | 85 => ⟨S32x256x1024, .f32⟩
  | 86 => ⟨S1x1x1024, .f32⟩
  | 87 => ⟨S32x256x1024, .f32⟩
  | 88 => ⟨S32x256x1024, .f32⟩
  | 89 => ⟨S1x1x1024, .f32⟩
  | 90 => ⟨S32x256x1024, .f32⟩
  | 91 => ⟨S32x256x1024, .f32⟩
  | 92 => ⟨S_, .f32⟩
  | 93 => ⟨S32x256x1024, .f32⟩
  | 94 => ⟨S32x256x1024, .f32⟩
  | 95 => ⟨S1x1x1024, .f32⟩
  | 96 => ⟨S32x256x1024, .f32⟩
  | 97 => ⟨S32x256x1024, .f32⟩
  | 98 => ⟨S_, .f32⟩
  | 99 => ⟨S32x256x1024, .f32⟩
  | 100 => ⟨S32x256x1024, .f32⟩
  | 101 => ⟨S_, .f32⟩
  | 102 => ⟨S32x1024, .f32⟩
  | 103 => ⟨S32x512, .f32⟩
  | 104 => ⟨S1x512, .f32⟩
  | 105 => ⟨S32x512, .f32⟩
  | 106 => ⟨S32x512, .f32⟩
  | 107 => ⟨S1x512, .f32⟩
  | 108 => ⟨S32x512, .f32⟩
  | 109 => ⟨S32x512, .f32⟩
  | 110 => ⟨S_, .f32⟩
  | 111 => ⟨S32x512, .f32⟩
  | 112 => ⟨S32x512, .f32⟩
  | 113 => ⟨S1x512, .f32⟩
  | 114 => ⟨S32x512, .f32⟩
  | 115 => ⟨S32x512, .f32⟩
  | 116 => ⟨S_, .f32⟩
  | 117 => ⟨S32x512, .f32⟩
  | 118 => ⟨S32x512, .f32⟩
  | 119 => ⟨S32x256, .f32⟩
  | 120 => ⟨S1x256, .f32⟩
  | 121 => ⟨S32x256, .f32⟩
  | 122 => ⟨S32x256, .f32⟩
  | 123 => ⟨S1x256, .f32⟩
  | 124 => ⟨S32x256, .f32⟩
  | 125 => ⟨S32x256, .f32⟩
  | 126 => ⟨S_, .f32⟩
  | 127 => ⟨S32x256, .f32⟩
  | _ => ⟨S32x1024x3, .f32⟩

abbrev hbmTy0_3 (i : Nat) : BufTy := match i % 128 with
  | 0 => ⟨S32x256, .f32⟩
  | 1 => ⟨S1x256, .f32⟩
  | 2 => ⟨S32x256, .f32⟩
  | 3 => ⟨S32x256, .f32⟩
  | 4 => ⟨S_, .f32⟩
  | 5 => ⟨S32x256, .f32⟩
  | 6 => ⟨S32x256, .f32⟩
  | 7 => ⟨S32x40, .f32⟩
  | 8 => ⟨S1x40, .f32⟩
  | 9 => ⟨S32x40, .f32⟩
  | 10 => ⟨S32x40, .f32⟩
  | 11 => ⟨S_, .f32⟩
  | 12 => ⟨S32, .f32⟩
  | 13 => ⟨S_, .f32⟩
  | 14 => ⟨S32, .f32⟩
  | 15 => ⟨S32, .f32⟩
  | 16 => ⟨S32x1, .f32⟩
  | 17 => ⟨S32x40, .f32⟩
  | 18 => ⟨S32x40, .f32⟩
  | 19 => ⟨S32x40, .f32⟩
  | 20 => ⟨S_, .f32⟩
  | 21 => ⟨S32, .f32⟩
  | 22 => ⟨S32x1, .f32⟩
  | 23 => ⟨S32x40, .f32⟩
  | 24 => ⟨S32x40, .f32⟩
  | _ => ⟨S32x1024x3, .f32⟩

abbrev hbmTy (i : Nat) : BufTy := match i / 128 with
  | 0 => hbmTy0_0 i
  | 1 => hbmTy0_1 i
  | 2 => hbmTy0_2 i
  | 3 => hbmTy0_3 i
  | _ => ⟨S32x1024x3, .f32⟩

abbrev bufTy : (tb : Table) → Fin (tcTables nBuf tb) → BufTy
  | .hbm, ⟨i, _⟩ => hbmTy i
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2_0 : Ref sig .tc := ⟨.hbm, 41, rfl⟩
abbrev main_v2_1 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6_0 : Ref sig .tc := ⟨.hbm, 46, rfl⟩
abbrev main_v6_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11_0 : Ref sig .tc := ⟨.hbm, 52, rfl⟩
abbrev main_v11_1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16_0 : Ref sig .tc := ⟨.hbm, 58, rfl⟩
abbrev main_v16_1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21_0 : Ref sig .tc := ⟨.hbm, 64, rfl⟩
abbrev main_v21_1 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26_0 : Ref sig .tc := ⟨.hbm, 70, rfl⟩
abbrev main_v26_1 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31_0 : Ref sig .tc := ⟨.hbm, 76, rfl⟩
abbrev main_v31_1 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36_0 : Ref sig .tc := ⟨.hbm, 82, rfl⟩
abbrev main_v36_1 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41_0 : Ref sig .tc := ⟨.hbm, 88, rfl⟩
abbrev main_v41_1 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46_0 : Ref sig .tc := ⟨.hbm, 94, rfl⟩
abbrev main_v46_1 : Ref sig .tc := ⟨.hbm, 95, rfl⟩
abbrev main_v47 : Ref sig .tc := ⟨.hbm, 96, rfl⟩
abbrev main_v48 : Ref sig .tc := ⟨.hbm, 97, rfl⟩
abbrev main_cst : Ref sig .tc := ⟨.hbm, 98, rfl⟩
abbrev main_v49 : Ref sig .tc := ⟨.hbm, 99, rfl⟩
abbrev main_cst_0 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_1 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_2 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_3 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_values : Ref sig .tc := ⟨.hbm, 122, rfl⟩
abbrev main_indices : Ref sig .tc := ⟨.hbm, 123, rfl⟩
abbrev main_c : Ref sig .tc := ⟨.hbm, 124, rfl⟩
abbrev main_v68 : Ref sig .tc := ⟨.hbm, 125, rfl⟩
abbrev main_v69 : Ref sig .tc := ⟨.hbm, 126, rfl⟩
abbrev main_c_4 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_5 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_call0_cst : Ref sig .tc := ⟨.hbm, 155, rfl⟩
abbrev main_call0_v0 : Ref sig .tc := ⟨.hbm, 156, rfl⟩
abbrev main_v96 : Ref sig .tc := ⟨.hbm, 157, rfl⟩
abbrev main_cst_6 : Ref sig .tc := ⟨.hbm, 158, rfl⟩
abbrev main_v97 : Ref sig .tc := ⟨.hbm, 159, rfl⟩
abbrev main_v98 : Ref sig .tc := ⟨.hbm, 160, rfl⟩
abbrev main_cst_7 : Ref sig .tc := ⟨.hbm, 161, rfl⟩
abbrev main_v99 : Ref sig .tc := ⟨.hbm, 162, rfl⟩
abbrev main_v100 : Ref sig .tc := ⟨.hbm, 163, rfl⟩
abbrev main_cst_8 : Ref sig .tc := ⟨.hbm, 164, rfl⟩
abbrev main_v101 : Ref sig .tc := ⟨.hbm, 165, rfl⟩
abbrev main_cst_9 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_10 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_cst_11 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_cst_12 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_values_13 : Ref sig .tc := ⟨.hbm, 188, rfl⟩
abbrev main_indices_14 : Ref sig .tc := ⟨.hbm, 189, rfl⟩
abbrev main_c_15 : Ref sig .tc := ⟨.hbm, 190, rfl⟩
abbrev main_v120 : Ref sig .tc := ⟨.hbm, 191, rfl⟩
abbrev main_v121 : Ref sig .tc := ⟨.hbm, 192, rfl⟩
abbrev main_c_16 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_cst_17 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_call1_cst : Ref sig .tc := ⟨.hbm, 221, rfl⟩
abbrev main_call1_v0 : Ref sig .tc := ⟨.hbm, 222, rfl⟩
abbrev main_v148 : Ref sig .tc := ⟨.hbm, 223, rfl⟩
abbrev main_cst_18 : Ref sig .tc := ⟨.hbm, 224, rfl⟩
abbrev main_v149 : Ref sig .tc := ⟨.hbm, 225, rfl⟩
abbrev main_v150 : Ref sig .tc := ⟨.hbm, 226, rfl⟩
abbrev main_cst_19 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_cst_20 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_cst_21 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_values_22 : Ref sig .tc := ⟨.hbm, 245, rfl⟩
abbrev main_indices_23 : Ref sig .tc := ⟨.hbm, 246, rfl⟩
abbrev main_c_24 : Ref sig .tc := ⟨.hbm, 247, rfl⟩
abbrev main_v166 : Ref sig .tc := ⟨.hbm, 248, rfl⟩
abbrev main_v167 : Ref sig .tc := ⟨.hbm, 249, rfl⟩
abbrev main_c_25 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_cst_26 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_call2_cst : Ref sig .tc := ⟨.hbm, 278, rfl⟩
abbrev main_call2_v0 : Ref sig .tc := ⟨.hbm, 279, rfl⟩
abbrev main_v194 : Ref sig .tc := ⟨.hbm, 280, rfl⟩
abbrev main_cst_27 : Ref sig .tc := ⟨.hbm, 281, rfl⟩
abbrev main_v195 : Ref sig .tc := ⟨.hbm, 282, rfl⟩
abbrev main_v196 : Ref sig .tc := ⟨.hbm, 283, rfl⟩
abbrev main_cst_28 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_cst_29 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_cst_30 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_values_31 : Ref sig .tc := ⟨.hbm, 302, rfl⟩
abbrev main_indices_32 : Ref sig .tc := ⟨.hbm, 303, rfl⟩
abbrev main_c_33 : Ref sig .tc := ⟨.hbm, 304, rfl⟩
abbrev main_v212 : Ref sig .tc := ⟨.hbm, 305, rfl⟩
abbrev main_v213 : Ref sig .tc := ⟨.hbm, 306, rfl⟩
abbrev main_c_34 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_cst_35 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_call3_cst : Ref sig .tc := ⟨.hbm, 335, rfl⟩
abbrev main_call3_v0 : Ref sig .tc := ⟨.hbm, 336, rfl⟩
abbrev main_v240 : Ref sig .tc := ⟨.hbm, 337, rfl⟩
abbrev main_cst_36 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_v249 : Ref sig .tc := ⟨.hbm, 347, rfl⟩
abbrev main_cst_37 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_v254 : Ref sig .tc := ⟨.hbm, 353, rfl⟩
abbrev main_call4_cst : Ref sig .tc := ⟨.hbm, 354, rfl⟩
abbrev main_call4_v0 : Ref sig .tc := ⟨.hbm, 355, rfl⟩
abbrev main_v255 : Ref sig .tc := ⟨.hbm, 356, rfl⟩
abbrev main_cst_38 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩
abbrev main_v261 : Ref sig .tc := ⟨.hbm, 363, rfl⟩
abbrev main_v262 : Ref sig .tc := ⟨.hbm, 364, rfl⟩
abbrev main_v263 : Ref sig .tc := ⟨.hbm, 365, rfl⟩
abbrev main_cst_39 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_call5_cst : Ref sig .tc := ⟨.hbm, 372, rfl⟩
abbrev main_call5_v0 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_cst_40 : Ref sig .tc := ⟨.hbm, 382, rfl⟩
abbrev main_v277 : Ref sig .tc := ⟨.hbm, 383, rfl⟩
abbrev main_v278 : Ref sig .tc := ⟨.hbm, 384, rfl⟩
abbrev main_v279 : Ref sig .tc := ⟨.hbm, 385, rfl⟩
abbrev main_v280 : Ref sig .tc := ⟨.hbm, 386, rfl⟩
abbrev main_v281 : Ref sig .tc := ⟨.hbm, 387, rfl⟩
abbrev main_call6_cst : Ref sig .tc := ⟨.hbm, 388, rfl⟩
abbrev main_call6_v0 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_v285 : Ref sig .tc := ⟨.hbm, 393, rfl⟩
abbrev main_v286 : Ref sig .tc := ⟨.hbm, 394, rfl⟩
abbrev main_cst_41 : Ref sig .tc := ⟨.hbm, 395, rfl⟩
abbrev main_v287 : Ref sig .tc := ⟨.hbm, 396, rfl⟩
abbrev main_cst_42 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_v292 : Ref sig .tc := ⟨.hbm, 402, rfl⟩
abbrev main_v293 : Ref sig .tc := ⟨.hbm, 403, rfl⟩
abbrev main_cst_43 : Ref sig .tc := ⟨.hbm, 404, rfl⟩
abbrev main_v294 : Ref sig .tc := ⟨.hbm, 405, rfl⟩
abbrev main_v295 : Ref sig .tc := ⟨.hbm, 406, rfl⟩
abbrev main_v296 : Ref sig .tc := ⟨.hbm, 407, rfl⟩
abbrev main_v297 : Ref sig .tc := ⟨.hbm, 408, rfl⟩

abbrev nD : Nat := 1
abbrev τ : Topo := Topo.v7x

variable {F : FTy → Type} [FloatOps F]
-- ==== Proof.Net.lean ====
/- The kernel's arithmetic as functions of arrays, over any float instance and any sizes: the sort step of the k-d tree, the selection
   of the nearest points, the dense level around it and the head. The shape facts each function needs are gathered in structures. -/
module

public import Idealize.ShloMosaic.Lib.Exec
public import Idealize.ShloMosaic.Lib.MatmulPlain

@[expose] public section

noncomputable section

namespace Cert.Net

open Idealize.ShloMosaic

variable {F : FTy → Type} [FloatOps F]

/-- A matrix shape. -/
abbrev M (a b : ℕ) : Shape := ⟨2, ![a, b]⟩
/-- A vector shape. -/
abbrev V (a : ℕ) : Shape := ⟨1, ![a]⟩
/-- A stack of matrices. -/
abbrev T (a b c : ℕ) : Shape := ⟨3, ![a, b, c]⟩

theorem narrows : FTy.bits .bf16 < FTy.bits .f32 := by decide

/-- What a row selection by a one-hot product needs: `n` points of width `d`, three copies side by side of width `w`, `m` selected. -/
structure PickFacts (n m d w o2 : ℕ) : Prop where
  cat : Shape.Concatenates [M n d, M n d, M n d] (M n w) 1
  s0 : (M m w).Slices ![0, 0] (M m d)
  s1 : (M m w).Slices ![0, d] (M m d)
  s2 : (M m w).Slices ![0, o2] (M m d)

section Pick

variable {n m d w o2 : ℕ}

/-- The leading limb of an array: its bfloat16 rounding. -/
def limb (y : FVec F (M n d) .f32) : FVec F (M n d) .f32 := extf .f32 (truncf .bf16 y narrows) narrows

/-- An array as three limbs side by side. -/
def limbs (h : PickFacts n m d w o2) (y : FVec F (M n d) .f32) : FVec F (M n w) .f32 :=
  concatenate (M n w) 1 [⟨M n d, limb y⟩, ⟨M n d, limb (subf y (limb y))⟩,
    ⟨M n d, subf (subf y (limb y)) (limb (subf y (limb y)))⟩] h.cat

/-- A mask as zeros and ones. -/
def hot (c : IVec (M m n) 1) : FVec F (M m n) .f32 :=
  select c (broadcast (M m n) (Scalar.ofBits .f32 0x3F800000#32)) (broadcast (M m n) (Scalar.ofBits .f32 0x00000000#32))

/-- The rows a zero-one matrix picks, the limbs added up again. -/
def pick (h : PickFacts n m d w o2) (c : FVec F (M m n) .f32) (y3 : FVec F (M n w) .f32) : FVec F (M m d) .f32 :=
  let p : FVec F (M m w) .f32 := matmul (DotDims.plain m n w) none c y3 (constant (M m w) .f32 0x00000000#32)
  addf (addf (extractStridedSlice (M m d) ![0, 0] p h.s0) (extractStridedSlice (M m d) ![0, d] p h.s1))
    (extractStridedSlice (M m d) ![0, o2] p h.s2)

end Pick

/-- What a sort step over `N` rows needs. -/
structure SortFacts (N : ℕ) : Prop where
  io0 : (M N N).Iotas .tc 32 [0]
  io1 : (M N N).Iotas .tc 32 [1]
  ior : (M 1 N).Iotas .tc 32 [1]
  brow : (M 1 N).Broadcasts (M N N)
  bcol : (M N 1).Broadcasts (M N N)
  wide : 1 < 32
  red : (M N N).Reduces [0] (V N)
  row : (V N).ShapeCasts (M 1 N)
  tr : (M N 3).Transposes [1, 0] (M 3 N)
  pk : PickFacts N N 3 9 6

/-- What a sort by coordinate `d` needs besides. -/
structure KeyFacts (N d : ℕ) : Prop where
  col : (M N 3).Slices ![0, d] (M N 1)
  row : (M 3 N).Slices ![d, 0] (M 1 N)

section Sorting

variable {N d : ℕ}

/-- Whether column `j`'s row goes to place `i`: for each column, the rows of its block (`s = 2^sh` rows) that come after it are
    counted, and the place is the block's last less the count. -/
def place (h : SortFacts N) (sh s s1 : BitVec 32) (ki : FVec F (M N 1) .f32) (kj : FVec F (M 1 N) .f32) : IVec (M N N) 1 :=
  let ii : IVec (M N N) 32 := iota .tc (M N N) 32 [0] h.io0
  let jj : IVec (M N N) 32 := iota .tc (M N N) 32 [1] h.io1
  let same : IVec (M N N) 1 := cmpi .eq (shrsi ii (broadcast (M N N) sh)) (shrsi jj (broadcast (M N N) sh))
  let a : FVec F (M N N) .f32 := broadcastTo (M N N) kj h.brow
  let b : FVec F (M N N) .f32 := broadcastTo (M N N) ki h.bcol
  let c : IVec (M N N) 1 := andi (ori (cmpf .olt a b) (andi (cmpf .oeq a b) (cmpi .slt jj ii))) same
  let cnt : FVec F (M 1 N) .f32 := shapeCast (M 1 N)
    (multiReduction .add [0] (V N) (sitofp .f32 (extui 32 c h.wide)) 0x00000000#32 h.red (.inl rfl) rfl) h.row
  let r : IVec (M 1 N) 32 := addi (muli (shrsi (iota .tc (M 1 N) 32 [1] h.ior) (broadcast (M 1 N) sh)) (broadcast (M 1 N) s))
    (broadcast (M 1 N) s1)
  cmpi .eq ii (broadcastTo (M N N) (subi r (fptosi 32 cnt)) h.brow)

/-- The places of the rows of `y` ordered by coordinate `d` within blocks of `2^sh`. -/
def placeOf (h : SortFacts N) (k : KeyFacts N d) (sh : ℕ) (y : FVec F (M N 3) .f32) : IVec (M N N) 1 :=
  place h (BitVec.ofNat 32 sh) (BitVec.ofNat 32 (2 ^ sh)) (BitVec.ofNat 32 (2 ^ sh - 1)) (extractStridedSlice (M N 1) ![0, d] y k.col)
    (extractStridedSlice (M 1 N) ![d, 0] (transpose (M 3 N) [1, 0] y h.tr) k.row)

/-- One sort step: the rows of `y` ordered by coordinate `d` within blocks of `2^sh`. -/
def sortStep (h : SortFacts N) (k : KeyFacts N d) (sh : ℕ) (y : FVec F (M N 3) .f32) : FVec F (M N 3) .f32 :=
  pick h.pk (hot (placeOf h k sh y)) (limbs h.pk y)

end Sorting

/-- What a level needs: `n` points of width `d`, `m` targets, `u` features out. -/
structure LevelFacts (n m d w o2 u : ℕ) : Prop where
  pk : PickFacts n m d w o2
  sn : (M n d).Reduces [1] (V n)
  sm : (M m d).Reduces [1] (V m)
  cn : (V n).ShapeCasts (M n 1)
  cm : (V m).ShapeCasts (M m 1)
  trn : (M n 1).Transposes [1, 0] (M 1 n)
  trd : (M n d).Transposes [1, 0] (M d n)
  bcol : (M m 1).Broadcasts (M m n)
  brow : (M 1 n).Broadcasts (M m n)
  bu : (M 1 u).Broadcasts (M m u)
  io : (M m n).Iotas .tc 32 [1]
  red : (M m n).Reduces [1] (V m)

section Level

variable {n m d w o2 u : ℕ}

/-- The squared distances of the targets `t` from the points `y`. -/
def dist (h : LevelFacts n m d w o2 u) (t : FVec F (M m d) .f32) (y : FVec F (M n d) .f32) : FVec F (M m n) .f32 :=
  addf (subf
      (broadcastTo (M m n) (shapeCast (M m 1) (multiReduction .add [1] (V m) (mulf t t) 0x00000000#32 h.sm (.inl rfl) rfl) h.cm) h.bcol)
      (mulf (broadcast (M m n) (Scalar.ofBits .f32 0x40000000#32))
        (matmul (DotDims.plain m d n) none t (transpose (M d n) [1, 0] y h.trd) (constant (M m n) .f32 0x00000000#32))))
    (broadcastTo (M m n) (transpose (M 1 n) [1, 0]
      (shapeCast (M n 1) (multiReduction .add [1] (V n) (mulf y y) 0x00000000#32 h.sn (.inl rfl) rfl) h.cn) h.trn) h.brow)

/-- The first column at which each row has its least entry. -/
def hit (h : LevelFacts n m d w o2 u) (D : FVec F (M m n) .f32) : IVec (M m n) 1 :=
  let jj : IVec (M m n) 32 := iota .tc (M m n) 32 [1] h.io
  let lo : FVec F (M m n) .f32 := broadcastTo (M m n)
    (shapeCast (M m 1) (multiReduction .minimumf [1] (V m) D 0x7F800000#32 h.red (.inl rfl) rfl) h.cm) h.bcol
  let c : IVec (M m n) 32 := select (cmpf .oeq D lo) jj (broadcast (M m n) (BitVec.ofNat 32 n))
  cmpi .eq jj (broadcastTo (M m n) (shapeCast (M m 1) (multiReductionI .minsi [1] (V m) c 2147483647#32 h.red rfl) h.cm) h.bcol)

/-- The distances with the nearest point struck out. -/
def strike (h : LevelFacts n m d w o2 u) (D : FVec F (M m n) .f32) : FVec F (M m n) .f32 :=
  select (hit h D) (broadcast (M m n) (Scalar.ofBits .f32 0x7F800000#32)) D

/-- The nearest point's offset from the target, through a dense layer. -/
def relOf (h : LevelFacts n m d w o2 u) (t : FVec F (M m d) .f32) (y3 : FVec F (M n w) .f32) (wr : FVec F (M d u) .f32)
    (br : FVec F (M 1 u) .f32) (D : FVec F (M m n) .f32) : FVec F (M m u) .f32 :=
  addf (matmul (DotDims.plain m d u) none (subf (pick h.pk (hot (hit h D)) y3) t) wr (constant (M m u) .f32 0x00000000#32))
    (broadcastTo (M m u) br h.bu)

/-- One round of the selection: the running maximum takes in the nearest point left, which is struck out. -/
def round (h : LevelFacts n m d w o2 u) (t : FVec F (M m d) .f32) (y3 : FVec F (M n w) .f32) (wr : FVec F (M d u) .f32)
    (br : FVec F (M 1 u) .f32) (a : FVec F (M m n) .f32 × FVec F (M m u) .f32) : FVec F (M m n) .f32 × FVec F (M m u) .f32 :=
  (strike h a.1, maximumf a.2 (relOf h t y3 wr br a.1))

/-- `k` rounds from the distances and the least value `lo`: the running maximum. -/
def nearest (h : LevelFacts n m d w o2 u) (k : ℕ) (lo : F .f32) (t : FVec F (M m d) .f32) (y : FVec F (M n d) .f32)
    (wr : FVec F (M d u) .f32) (br : FVec F (M 1 u) .f32) : FVec F (M m n) .f32 × FVec F (M m u) .f32 :=
  (round h t (limbs h.pk y) wr br)^[k] (dist h t y, broadcast (M m u) lo)

/-- A dense layer over rows. -/
def dense (hb : (M 1 u).Broadcasts (M m u)) (x : FVec F (M m d) .f32) (W : FVec F (M d u) .f32) (b : FVec F (M 1 u) .f32) :
    FVec F (M m u) .f32 :=
  addf (matmul (DotDims.plain m d u) none x W (constant (M m u) .f32 0x00000000#32)) (broadcastTo (M m u) b hb)

/-- The normalisation's scale: by `g`, then by the deviation. -/
def scaled (hb : (M 1 u).Broadcasts (M m u)) (g : FVec F (M 1 u) .f32) (x : FVec F (M m u) .f32) : FVec F (M m u) .f32 :=
  divf (mulf (broadcastTo (M m u) g hb) x) (broadcast (M m u) (Scalar.ofBits .f32 0x3F801061#32))

/-- The positive part. -/
def relu {s : Shape} (x : FVec F s .f32) : FVec F s .f32 := maximumf x (broadcast s (Scalar.ofBits .f32 0x00000000#32))

/-- A level: the greatest of the dense offsets of the `k` nearest points, plus the dense target, normalised, its positive part. -/
def level (h : LevelFacts n m d w o2 u) (k : ℕ) (lo : F .f32) (t : FVec F (M m d) .f32) (y : FVec F (M n d) .f32)
    (wr wa : FVec F (M d u) .f32) (br ba g be : FVec F (M 1 u) .f32) : FVec F (M m u) .f32 :=
  relu (addf (scaled h.bu g (addf (nearest h k lo t y wr br).2 (dense h.bu t wa ba))) (broadcastTo (M m u) be h.bu))

/-- The mean of the two halves of each pair of rows. -/
def halves (h1 : (M n d).ShapeCasts (T m 2 d)) (h2 : (T m 2 d).Reduces [1] (M m d)) (y : FVec F (M n d) .f32) : FVec F (M m d) .f32 :=
  divf (multiReduction .add [1] (M m d) (shapeCast (T m 2 d) y h1) 0x00000000#32 h2 (.inl rfl) rfl)
    (broadcast (M m d) (Scalar.ofBits .f32 0x40000000#32))

/-- The greater of each pair of rows. -/
def pairMax (h1 : (M n d).ShapeCasts (T m 2 d)) (h2 : (T m 2 d).Reduces [1] (M m d)) (y : FVec F (M n d) .f32) : FVec F (M m d) .f32 :=
  multiReduction .maximumf [1] (M m d) (shapeCast (T m 2 d) y h1) 0xFF800000#32 h2 (.inl rfl) rfl

/-- A dense layer of one row. -/
def dense1 (x : FVec F (M 1 d) .f32) (W : FVec F (M d u) .f32) (b : FVec F (M 1 u) .f32) : FVec F (M 1 u) .f32 :=
  addf (matmul (DotDims.plain 1 d u) none x W (constant (M 1 u) .f32 0x00000000#32)) b

/-- The normalisation of one row and its positive part. -/
def norm1 (g be x : FVec F (M 1 u) .f32) : FVec F (M 1 u) .f32 :=
  relu (addf (divf (mulf g x) (broadcast (M 1 u) (Scalar.ofBits .f32 0x3F801061#32))) be)

end Level

/-- What the head needs. -/
structure HeadFacts : Prop where
  cat : Shape.Concatenates [M 256 64, M 256 64, M 256 128, M 256 256] (M 256 512) 1
  b1024 : (M 1 1024).Broadcasts (M 256 1024)
  red0 : (M 256 1024).Reduces [0] (V 1024)
  row : (V 1024).ShapeCasts (M 1 1024)
  red1 : (M 1 40).Reduces [1] (V 1)
  one : (V 1).ShapeCasts (M 1 1)
  bout : (M 1 1).Broadcasts (M 1 40)
  out : (M 1 40).ShapeCasts (T 1 1 40)

/-- The four levels side by side. -/
def joined (h : HeadFacts) (a b : FVec F (M 256 64) .f32) (c : FVec F (M 256 128) .f32) (e : FVec F (M 256 256) .f32) :
    FVec F (M 256 512) .f32 :=
  concatenate (M 256 512) 1 [⟨M 256 64, a⟩, ⟨M 256 64, b⟩, ⟨M 256 128, c⟩, ⟨M 256 256, e⟩] h.cat

/-- The levels' features through a dense layer, the greatest over the points, and a dense layer of that. -/
def pooled (h : HeadFacts) (x : FVec F (M 256 512) .f32)
    (Wm : FVec F (M 512 1024) .f32) (bm gm bem : FVec F (M 1 1024) .f32) (W1 : FVec F (M 1024 512) .f32) (b1 : FVec F (M 1 512) .f32) :
    FVec F (M 1 512) .f32 :=
  dense1 (shapeCast (M 1 1024) (multiReduction .maximumf [0] (V 1024)
      (relu (addf (scaled h.b1024 gm (dense h.b1024 x Wm bm)) (broadcastTo (M 256 1024) bem h.b1024)))
      0xFF800000#32 h.red0 (.inl rfl) rfl) h.row) W1 b1

/-- The scores, less the greatest of them, exponentiated. -/
def scores (h : HeadFacts) (z : FVec F (M 1 512) .f32) (g1 be1 : FVec F (M 1 512) .f32) (W2 : FVec F (M 512 256) .f32)
    (b2 g2 be2 : FVec F (M 1 256) .f32) (Wo : FVec F (M 256 40) .f32) (bo : FVec F (M 1 40) .f32) : FVec F (M 1 40) .f32 :=
  let l : FVec F (M 1 40) .f32 := dense1 (norm1 g2 be2 (dense1 (norm1 g1 be1 z) W2 b2)) Wo bo
  exp (subf l (broadcastTo (M 1 40)
    (shapeCast (M 1 1) (multiReduction .maximumf [1] (V 1) l 0xFF800000#32 h.red1 (.inl rfl) rfl) h.one) h.bout))

/-- The sum of a row at each of its entries. -/
def total (h : HeadFacts) (e : FVec F (M 1 40) .f32) : FVec F (M 1 40) .f32 :=
  broadcastTo (M 1 40) (shapeCast (M 1 1) (multiReduction .add [1] (V 1) e 0x00000000#32 h.red1 (.inl rfl) rfl) h.one) h.bout

/-- A row divided by its sum, as a block of the result. -/
def softmaxOf (h : HeadFacts) (e s : FVec F (M 1 40) .f32) : FVec F (T 1 1 40) .f32 := shapeCast (T 1 1 40) (divf e s) h.out

/-! ## The network at its sizes -/

theorem sf : SortFacts 1024 where
  io0 := by decide
  io1 := by decide
  ior := by decide
  brow := by decide
  bcol := by decide
  wide := by decide
  red := by decide
  row := by decide
  tr := by decide
  pk := ⟨by decide, by decide, by decide, by decide⟩

theorem key0 : KeyFacts 1024 0 := ⟨by decide, by decide⟩
theorem key1 : KeyFacts 1024 1 := ⟨by decide, by decide⟩
theorem key2 : KeyFacts 1024 2 := ⟨by decide, by decide⟩

theorem lf0 : LevelFacts 1024 512 3 9 6 64 where
  pk := ⟨by decide, by decide, by decide, by decide⟩
  sn := by decide
  sm := by decide
  cn := by decide
  cm := by decide
  trn := by decide
  trd := by decide
  bcol := by decide
  brow := by decide
  bu := by decide
  io := by decide
  red := by decide

theorem lf1 : LevelFacts 512 256 64 192 128 64 where
  pk := ⟨by decide, by decide, by decide, by decide⟩
  sn := by decide
  sm := by decide
  cn := by decide
  cm := by decide
  trn := by decide
  trd := by decide
  bcol := by decide
  brow := by decide
  bu := by decide
  io := by decide
  red := by decide

theorem lf2 : LevelFacts 256 256 64 192 128 128 where
  pk := ⟨by decide, by decide, by decide, by decide⟩
  sn := by decide
  sm := by decide
  cn := by decide
  cm := by decide
  trn := by decide
  trd := by decide
  bcol := by decide
  brow := by decide
  bu := by decide
  io := by decide
  red := by decide

theorem lf3 : LevelFacts 256 256 128 384 256 256 where
  pk := ⟨by decide, by decide, by decide, by decide⟩
  sn := by decide
  sm := by decide
  cn := by decide
  cm := by decide
  trn := by decide
  trd := by decide
  bcol := by decide
  brow := by decide
  bu := by decide
  io := by decide
  red := by decide

theorem hf : HeadFacts := ⟨by decide, by decide, by decide, by decide, by decide, by decide, by decide, by decide⟩

theorem pair0a : (M 1024 3).ShapeCasts (T 512 2 3) := by decide
theorem pair0b : (T 512 2 3).Reduces [1] (M 512 3) := by decide
theorem pair1a : (M 512 64).ShapeCasts (T 256 2 64) := by decide
theorem pair1b : (T 256 2 64).Reduces [1] (M 256 64) := by decide
theorem flat0 : (T 1 1024 3).ShapeCasts (M 1024 3) := by decide
theorem same (u : ℕ) : (M 1 u).ShapeCasts (M 1 u) := rfl

/-- A row cast to its own shape. -/
abbrev row {u : ℕ} (x : FVec F (M 1 u) .f32) : FVec F (M 1 u) .f32 := shapeCast (M 1 u) x (same u)

/-- The points in the order of the tree: ten sorts, the coordinates in turn, each within half the block of the one before. -/
def sort0 (x : FVec F (T 1 1024 3) .f32) : FVec F (M 1024 3) .f32 := shapeCast (M 1024 3) x flat0
def sort1 (x : FVec F (T 1 1024 3) .f32) : FVec F (M 1024 3) .f32 := sortStep sf key0 10 (sort0 x)
def sort2 (x : FVec F (T 1 1024 3) .f32) : FVec F (M 1024 3) .f32 := sortStep sf key1 9 (sort1 x)
def sort3 (x : FVec F (T 1 1024 3) .f32) : FVec F (M 1024 3) .f32 := sortStep sf key2 8 (sort2 x)
def sort4 (x : FVec F (T 1 1024 3) .f32) : FVec F (M 1024 3) .f32 := sortStep sf key0 7 (sort3 x)
def sort5 (x : FVec F (T 1 1024 3) .f32) : FVec F (M 1024 3) .f32 := sortStep sf key1 6 (sort4 x)
def sort6 (x : FVec F (T 1 1024 3) .f32) : FVec F (M 1024 3) .f32 := sortStep sf key2 5 (sort5 x)
def sort7 (x : FVec F (T 1 1024 3) .f32) : FVec F (M 1024 3) .f32 := sortStep sf key0 4 (sort6 x)
def sort8 (x : FVec F (T 1 1024 3) .f32) : FVec F (M 1024 3) .f32 := sortStep sf key1 3 (sort7 x)
def sort9 (x : FVec F (T 1 1024 3) .f32) : FVec F (M 1024 3) .f32 := sortStep sf key2 2 (sort8 x)
def sort10 (x : FVec F (T 1 1024 3) .f32) : FVec F (M 1024 3) .f32 := sortStep sf key0 1 (sort9 x)

/-- The four levels. -/
def level0 (lo : F .f32) (y : FVec F (M 1024 3) .f32) (wr wa : FVec F (M 3 64) .f32) (br ba g be : FVec F (M 1 64) .f32) :
    FVec F (M 512 64) .f32 := level lf0 40 lo (halves pair0a pair0b y) y wr wa (row br) (row ba) (row g) (row be)
def level1 (lo : F .f32) (y : FVec F (M 512 64) .f32) (wr wa : FVec F (M 64 64) .f32) (br ba g be : FVec F (M 1 64) .f32) :
    FVec F (M 256 64) .f32 := level lf1 32 lo (halves pair1a pair1b y) y wr wa (row br) (row ba) (row g) (row be)
def level2 (lo : F .f32) (y : FVec F (M 256 64) .f32) (wr wa : FVec F (M 64 128) .f32) (br ba g be : FVec F (M 1 128) .f32) :
    FVec F (M 256 128) .f32 := level lf2 32 lo y y wr wa (row br) (row ba) (row g) (row be)
def level3 (lo : F .f32) (y : FVec F (M 256 128) .f32) (wr wa : FVec F (M 128 256) .f32) (br ba g be : FVec F (M 1 256) .f32) :
    FVec F (M 256 256) .f32 := level lf3 32 lo y y wr wa (row br) (row ba) (row g) (row be)

/-- What the kernel stores, from its thirty-nine operands and the least value `lo`. -/
def out (lo : F .f32)
    (x1 : FVec F (T 1 1024 3) .f32) (x2 : FVec F (M 3 64) .f32) (x3 : FVec F (M 3 64) .f32) (x4 : FVec F (M 1 64) .f32)
    (x5 : FVec F (M 1 64) .f32) (x6 : FVec F (M 1 64) .f32) (x7 : FVec F (M 1 64) .f32) (x8 : FVec F (M 64 64) .f32)
    (x9 : FVec F (M 64 64) .f32) (x10 : FVec F (M 1 64) .f32) (x11 : FVec F (M 1 64) .f32) (x12 : FVec F (M 1 64) .f32)
    (x13 : FVec F (M 1 64) .f32) (x14 : FVec F (M 64 128) .f32) (x15 : FVec F (M 64 128) .f32) (x16 : FVec F (M 1 128) .f32)
    (x17 : FVec F (M 1 128) .f32) (x18 : FVec F (M 1 128) .f32) (x19 : FVec F (M 1 128) .f32) (x20 : FVec F (M 128 256) .f32)
    (x21 : FVec F (M 128 256) .f32) (x22 : FVec F (M 1 256) .f32) (x23 : FVec F (M 1 256) .f32) (x24 : FVec F (M 1 256) .f32)
    (x25 : FVec F (M 1 256) .f32) (x26 : FVec F (M 512 1024) .f32) (x27 : FVec F (M 1 1024) .f32) (x28 : FVec F (M 1 1024) .f32)
    (x29 : FVec F (M 1 1024) .f32) (x30 : FVec F (M 1024 512) .f32) (x31 : FVec F (M 1 512) .f32) (x32 : FVec F (M 1 512) .f32)
    (x33 : FVec F (M 1 512) .f32) (x34 : FVec F (M 512 256) .f32) (x35 : FVec F (M 1 256) .f32) (x36 : FVec F (M 1 256) .f32)
    (x37 : FVec F (M 1 256) .f32) (x38 : FVec F (M 256 40) .f32) (x39 : FVec F (M 1 40) .f32) :
    FVec F (T 1 1 40) .f32 :=
  let l0 := level0 lo (sort10 x1) x2 x3 x4 x5 x6 x7
  let l1 := level1 lo l0 x8 x9 x10 x11 x12 x13
  let l2 := level2 lo l1 x14 x15 x16 x17 x18 x19
  let l3 := level3 lo l2 x20 x21 x22 x23 x24 x25
  let z := pooled hf (joined hf (pairMax pair1a pair1b l0) l1 l2 l3) x26 (row x27) (row x28) (row x29) x30 (row x31)
  let e := scores hf z (row x32) (row x33) x34 (row x35) (row x36) (row x37) x38 (row x39)
  softmaxOf hf e (total hf e)

/-- The fold of a step that ignores the trip is the step iterated. -/
theorem fold_const {σ : Type} {k : ℕ} (f : σ → σ) (x : σ) : Scf.fold (n := k) (fun _ a => f a) x = f^[k] x := by
  rw [Scf.fold_eq, List.foldl_const, List.length_finRange]

end Cert.Net
-- ==== Proof.Body.lean ====
/- The kernel's body as a flat program: the operands' loads, then one store of the network's value. -/
module

public import proofs.«01_k».proof.Proof.Gen.KernelIdeal.Skeleton
public import proofs.«01_k».proof.Proof.Net

@[expose] public section

set_option synthInstance.maxSize 4096
set_option maxRecDepth 65536
set_option maxHeartbeats 4000000

noncomputable section

namespace Cert.KernelIdeal.Body

open Idealize.ShloMosaic Idealize.SL.Sem
open Cert.KernelIdeal.Gen
open Net (sf key0 key1 key2 lf0 lf1 lf2 lf3 hf placeOf hot limb limbs row)

variable {F : FTy → Type} [FloatOps F] [Named F]

/-- The effects' type of the kernel's programs. -/
abbrev ℙ (F : FTy → Type) := Prog (TpuEff nD τ sig (Elt F) Λ₀ .tc)

/-- The least value the selection starts from. -/
abbrev lo : F .f32 := (Named.named κ "lowest" 0xFF61B1E6#32)

variable (i : grid0.Coords)
    (arg1 : Memref sig .tc .vmem S1x1024x3 .f32) (harg1 : arg1.IsWhole)
    (arg2 : Memref sig .tc .vmem S3x64 .f32) (harg2 : arg2.IsWhole)
    (arg3 : Memref sig .tc .vmem S3x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S1x64 .f32) (harg7 : arg7.IsWhole)
    (arg8 : Memref sig .tc .vmem S64x64 .f32) (harg8 : arg8.IsWhole)
    (arg9 : Memref sig .tc .vmem S64x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (arg13 : Memref sig .tc .vmem S1x64 .f32) (harg13 : arg13.IsWhole)
    (arg14 : Memref sig .tc .vmem S64x128 .f32) (harg14 : arg14.IsWhole)
    (arg15 : Memref sig .tc .vmem S64x128 .f32) (harg15 : arg15.IsWhole)
    (arg16 : Memref sig .tc .vmem S1x128 .f32) (harg16 : arg16.IsWhole)
    (arg17 : Memref sig .tc .vmem S1x128 .f32) (harg17 : arg17.IsWhole)
    (arg18 : Memref sig .tc .vmem S1x128 .f32) (harg18 : arg18.IsWhole)
    (arg19 : Memref sig .tc .vmem S1x128 .f32) (harg19 : arg19.IsWhole)
    (arg20 : Memref sig .tc .vmem S128x256 .f32) (harg20 : arg20.IsWhole)
    (arg21 : Memref sig .tc .vmem S128x256 .f32) (harg21 : arg21.IsWhole)
    (arg22 : Memref sig .tc .vmem S1x256 .f32) (harg22 : arg22.IsWhole)
    (arg23 : Memref sig .tc .vmem S1x256 .f32) (harg23 : arg23.IsWhole)
    (arg24 : Memref sig .tc .vmem S1x256 .f32) (harg24 : arg24.IsWhole)
    (arg25 : Memref sig .tc .vmem S1x256 .f32) (harg25 : arg25.IsWhole)
    (arg26 : Memref sig .tc .vmem S512x1024 .f32) (harg26 : arg26.IsWhole)
    (arg27 : Memref sig .tc .vmem S1x1024 .f32) (harg27 : arg27.IsWhole)
    (arg28 : Memref sig .tc .vmem S1x1024 .f32) (harg28 : arg28.IsWhole)
    (arg29 : Memref sig .tc .vmem S1x1024 .f32) (harg29 : arg29.IsWhole)
    (arg30 : Memref sig .tc .vmem S1024x512 .f32) (harg30 : arg30.IsWhole)
    (arg31 : Memref sig .tc .vmem S1x512 .f32) (harg31 : arg31.IsWhole)
    (arg32 : Memref sig .tc .vmem S1x512 .f32) (harg32 : arg32.IsWhole)
    (arg33 : Memref sig .tc .vmem S1x512 .f32) (harg33 : arg33.IsWhole)
    (arg34 : Memref sig .tc .vmem S512x256 .f32) (harg34 : arg34.IsWhole)
    (arg35 : Memref sig .tc .vmem S1x256 .f32) (harg35 : arg35.IsWhole)
    (arg36 : Memref sig .tc .vmem S1x256 .f32) (harg36 : arg36.IsWhole)
    (arg37 : Memref sig .tc .vmem S1x256 .f32) (harg37 : arg37.IsWhole)
    (arg38 : Memref sig .tc .vmem S256x40 .f32) (harg38 : arg38.IsWhole)
    (arg39 : Memref sig .tc .vmem S1x40 .f32) (harg39 : arg39.IsWhole)
    (arg40 : Memref sig .tc .vmem S1x1x40 .f32) (harg40 : arg40.IsWhole)

/-- The squared lengths of the points, as a row over the targets' columns. -/
abbrev sqRow {n m d w o2 u : ℕ} (h : Net.LevelFacts n m d w o2 u) (y : FVec F (Net.M n d) .f32) : FVec F (Net.M 1 n) .f32 :=
  transpose (Net.M 1 n) [1, 0]
      (shapeCast (Net.M n 1) (multiReduction .add [1] (Net.V n) (mulf y y) 0x00000000#32 h.sn (.inl rfl) rfl) h.cn) h.trn
/-- The squared lengths of the targets, along the rows. -/
abbrev sqCol {n m d w o2 u : ℕ} (h : Net.LevelFacts n m d w o2 u) (t : FVec F (Net.M m d) .f32) : FVec F (Net.M m n) .f32 :=
  broadcastTo (Net.M m n) (shapeCast (Net.M m 1) (multiReduction .add [1] (Net.V m) (mulf t t) 0x00000000#32 h.sm (.inl rfl) rfl) h.cm) h.bcol
/-- Twice the products of targets and points. -/
abbrev twice {n m d w o2 u : ℕ} (h : Net.LevelFacts n m d w o2 u) (t : FVec F (Net.M m d) .f32) (y : FVec F (Net.M n d) .f32) :
    FVec F (Net.M m n) .f32 :=
  mulf (broadcast (Net.M m n) (Scalar.ofBits .f32 0x40000000#32))
        (matmul (DotDims.plain m d n) none t (transpose (Net.M d n) [1, 0] y h.trd) (constant (Net.M m n) .f32 0x00000000#32))

theorem part1 :
    k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40
      = (Prog.lift (.load arg1 (Rect.unit (s := S1x1024x3) ![0, 0, 0] S1x1024x3.size inb_S1x1024x3_S1x1024x3_0_0_0).toLoadRect (View.loadsAt_vmem h_S1x1024x3)) : Prog (TpuEff nD τ sig (Elt F) Λ₀ .tc) (Vec F S1x1024x3 .f32)) >>= fun x =>
        pure ⟨hot (placeOf sf key0 10 (Net.sort0 x)), limbs sf.pk (Net.sort0 x)⟩ := rfl

theorem part2 (y : FVec F (Net.M 1024 3) .f32) :
    k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key0 10 y)) (limbs sf.pk y)
      = pure ⟨hot (placeOf sf key1 9 (Net.sortStep sf key0 10 y)), limb (Net.sortStep sf key0 10 y), limb (subf (Net.sortStep sf key0 10 y) (limb (Net.sortStep sf key0 10 y))), subf (subf (Net.sortStep sf key0 10 y) (limb (Net.sortStep sf key0 10 y))) (limb (subf (Net.sortStep sf key0 10 y) (limb (Net.sortStep sf key0 10 y))))⟩ := rfl

theorem part3 (y : FVec F (Net.M 1024 3) .f32) :
    k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key1 9 y)) (limb y) (limb (subf y (limb y))) (subf (subf y (limb y)) (limb (subf y (limb y))))
      = pure ⟨hot (placeOf sf key2 8 (Net.sortStep sf key1 9 y)), limb (Net.sortStep sf key1 9 y), subf (Net.sortStep sf key1 9 y) (limb (Net.sortStep sf key1 9 y)), limb (subf (Net.sortStep sf key1 9 y) (limb (Net.sortStep sf key1 9 y)))⟩ := rfl

theorem part4 (y : FVec F (Net.M 1024 3) .f32) :
    k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key2 8 y)) (limb y) (subf y (limb y)) (limb (subf y (limb y)))
      = pure ⟨hot (placeOf sf key0 7 (Net.sortStep sf key2 8 y)), limb (Net.sortStep sf key2 8 y), subf (Net.sortStep sf key2 8 y) (limb (Net.sortStep sf key2 8 y)), truncf .bf16 (subf (Net.sortStep sf key2 8 y) (limb (Net.sortStep sf key2 8 y))) Net.narrows⟩ := rfl

theorem part5 (y : FVec F (Net.M 1024 3) .f32) :
    k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key0 7 y)) (limb y) (subf y (limb y)) (truncf .bf16 (subf y (limb y)) Net.narrows)
      = pure ⟨hot (placeOf sf key1 6 (Net.sortStep sf key0 7 y)), limb (Net.sortStep sf key0 7 y), subf (Net.sortStep sf key0 7 y) (limb (Net.sortStep sf key0 7 y))⟩ := rfl

theorem part6 (y : FVec F (Net.M 1024 3) .f32) :
    k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key1 6 y)) (limb y) (subf y (limb y))
      = pure ⟨(Net.sortStep sf key1 6 y), hot (placeOf sf key2 5 (Net.sortStep sf key1 6 y)), limb (Net.sortStep sf key1 6 y)⟩ := rfl

theorem part7 (y : FVec F (Net.M 1024 3) .f32) :
    k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (hot (placeOf sf key2 5 y)) (limb y)
      = pure ⟨(Net.sortStep sf key2 5 y), hot (placeOf sf key0 4 (Net.sortStep sf key2 5 y)), truncf .bf16 (Net.sortStep sf key2 5 y) Net.narrows⟩ := rfl

theorem part8 (y : FVec F (Net.M 1024 3) .f32) :
    k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (hot (placeOf sf key0 4 y)) (truncf .bf16 y Net.narrows)
      = pure ⟨(Net.sortStep sf key0 4 y), hot (placeOf sf key1 3 (Net.sortStep sf key0 4 y))⟩ := rfl

theorem part9 (y : FVec F (Net.M 1024 3) .f32) :
    k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (hot (placeOf sf key1 3 y))
      = pure ⟨(Net.sortStep sf key1 3 y), placeOf sf key2 2 (Net.sortStep sf key1 3 y), (broadcast (Net.M 1024 1024) (Scalar.ofBits .f32 0x3F800000#32)), (broadcast (Net.M 1024 1024) (Scalar.ofBits .f32 0x00000000#32))⟩ := rfl

theorem part10 (y : FVec F (Net.M 1024 3) .f32) :
    k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (placeOf sf key2 2 y) (broadcast (Net.M 1024 1024) (Scalar.ofBits .f32 0x3F800000#32)) (broadcast (Net.M 1024 1024) (Scalar.ofBits .f32 0x00000000#32))
      = pure ⟨(Net.sortStep sf key2 2 y), placeOf sf key0 1 (Net.sortStep sf key2 2 y), Scalar.ofBits .f32 0x00000000#32, (broadcast (Net.M 1024 1024) (Scalar.ofBits .f32 0x3F800000#32))⟩ := rfl

theorem part11 (y : FVec F (Net.M 1024 3) .f32) :
    k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (placeOf sf key0 1 y) (Scalar.ofBits .f32 0x00000000#32) (broadcast (Net.M 1024 1024) (Scalar.ofBits .f32 0x3F800000#32))
      = (Prog.lift (.load arg2 (Rect.unit (s := S3x64) ![0, 0] S3x64.size inb_S3x64_S3x64_0_0).toLoadRect (View.loadsAt_vmem h_S3x64)) : Prog (TpuEff nD τ sig (Elt F) Λ₀ .tc) (Vec F S3x64 .f32)) >>= fun wr =>
      (Prog.lift (.load arg3 (Rect.unit (s := S3x64) ![0, 0] S3x64.size inb_S3x64_S3x64_0_0).toLoadRect (View.loadsAt_vmem h_S3x64)) : Prog (TpuEff nD τ sig (Elt F) Λ₀ .tc) (Vec F S3x64 .f32)) >>= fun wa =>
      (Prog.lift (.load arg4 (Rect.unit (s := S1x64) ![0, 0] S1x64.size inb_S1x64_S1x64_0_0).toLoadRect (View.loadsAt_vmem h_S1x64)) : Prog (TpuEff nD τ sig (Elt F) Λ₀ .tc) (Vec F S1x64 .f32)) >>= fun br =>
      (Prog.lift (.load arg5 (Rect.unit (s := S1x64) ![0, 0] S1x64.size inb_S1x64_S1x64_0_0).toLoadRect (View.loadsAt_vmem h_S1x64)) : Prog (TpuEff nD τ sig (Elt F) Λ₀ .tc) (Vec F S1x64 .f32)) >>= fun ba =>
      (Prog.lift (.load arg6 (Rect.unit (s := S1x64) ![0, 0] S1x64.size inb_S1x64_S1x64_0_0).toLoadRect (View.loadsAt_vmem h_S1x64)) : Prog (TpuEff nD τ sig (Elt F) Λ₀ .tc) (Vec F S1x64 .f32)) >>= fun g =>
      (Prog.lift (.load arg7 (Rect.unit (s := S1x64) ![0, 0] S1x64.size inb_S1x64_S1x64_0_0).toLoadRect (View.loadsAt_vmem h_S1x64)) : Prog (TpuEff nD τ sig (Elt F) Λ₀ .tc) (Vec F S1x64 .f32)) >>= fun be =>
      pure ⟨(Net.sortStep sf key0 1 y), wr, wa, row br, row ba, row g, row be, (Net.halves Net.pair0a Net.pair0b (Net.sortStep sf key0 1 y)), sqRow lf0 (Net.sortStep sf key0 1 y), twice lf0 (Net.halves Net.pair0a Net.pair0b (Net.sortStep sf key0 1 y)) (Net.sortStep sf key0 1 y), sqCol lf0 (Net.halves Net.pair0a Net.pair0b (Net.sortStep sf key0 1 y))⟩ := rfl

theorem loop1 (y : FVec F (Net.M 1024 3) .f32) (wr : FVec F (Net.M 3 64) .f32) (wa : FVec F (Net.M 3 64) .f32) (br : FVec F (Net.M 1 64) .f32) (ba : FVec F (Net.M 1 64) .f32) (g : FVec F (Net.M 1 64) .f32) (be : FVec F (Net.M 1 64) .f32) (t : FVec F (Net.M 512 3) .f32) :
    Scf.Loop.for k0_t1_loop k0_t1_ok (k0_pay49 (sqRow lf0 y) (twice lf0 t y) (sqCol lf0 t), k0_pay50 (F := F)) (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y wr wa br ba g be t (sqRow lf0 y) (twice lf0 t y) (sqCol lf0 t))
      = (pure (Net.nearest lf0 40 lo t y wr br) : ℙ F _) := by
  refine (Scf.for_pure _ _ _ _ _ _ (fun _ a => Net.round lf0 t (limbs lf0.pk y) wr br a) (fun _ _ => rfl)).trans ?_
  rw [Net.fold_const]
  rfl

theorem part12 (y : FVec F (Net.M 1024 3) .f32) (wr : FVec F (Net.M 3 64) .f32) (wa : FVec F (Net.M 3 64) .f32) (br : FVec F (Net.M 1 64) .f32) (ba : FVec F (Net.M 1 64) .f32) (g : FVec F (Net.M 1 64) .f32) (be : FVec F (Net.M 1 64) .f32) (t : FVec F (Net.M 512 3) .f32) :
    k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y wr wa br ba g be t (sqRow lf0 y) (twice lf0 t y) (sqCol lf0 t)
      = (Prog.lift (.load arg8 (Rect.unit (s := S64x64) ![0, 0] S64x64.size inb_S64x64_S64x64_0_0).toLoadRect (View.loadsAt_vmem h_S64x64)) : Prog (TpuEff nD τ sig (Elt F) Λ₀ .tc) (Vec F S64x64 .f32)) >>= fun wr1 =>
      (Prog.lift (.load arg9 (Rect.unit (s := S64x64) ![0, 0] S64x64.size inb_S64x64_S64x64_0_0).toLoadRect (View.loadsAt_vmem h_S64x64)) : Prog (TpuEff nD τ sig (Elt F) Λ₀ .tc) (Vec F S64x64 .f32)) >>= fun wa1 =>
      (Prog.lift (.load arg10 (Rect.unit (s := S1x64) ![0, 0] S1x64.size inb_S1x64_S1x64_0_0).toLoadRect (View.loadsAt_vmem h_S1x64)) : Prog (TpuEff nD τ sig (Elt F) Λ₀ .tc) (Vec F S1x64 .f32)) >>= fun br1 =>
      (Prog.lift (.load arg11 (Rect.unit (s := S1x64) ![0, 0] S1x64.size inb_S1x64_S1x64_0_0).toLoadRect (View.loadsAt_vmem h_S1x64)) : Prog (TpuEff nD τ sig (Elt F) Λ₀ .tc) (Vec F S1x64 .f32)) >>= fun ba1 =>
      (Prog.lift (.load arg12 (Rect.unit (s := S1x64) ![0, 0] S1x64.size inb_S1x64_S1x64_0_0).toLoadRect (View.loadsAt_vmem h_S1x64)) : Prog (TpuEff nD τ sig (Elt F) Λ₀ .tc) (Vec F S1x64 .f32)) >>= fun g1 =>
      (Prog.lift (.load arg13 (Rect.unit (s := S1x64) ![0, 0] S1x64.size inb_S1x64_S1x64_0_0).toLoadRect (View.loadsAt_vmem h_S1x64)) : Prog (TpuEff nD τ sig (Elt F) Λ₀ .tc) (Vec F S1x64 .f32)) >>= fun be1 =>
      pure ⟨(Net.level lf0 40 lo t y wr wa br ba g be), Net.pairMax Net.pair1a Net.pair1b (Net.level lf0 40 lo t y wr wa br ba g be), wr1, wa1, row br1, row ba1, row g1, row be1, shapeCast (Net.T 256 2 64) (Net.level lf0 40 lo t y wr wa br ba g be) Net.pair1a⟩ := by
  rw [k0_part12_eq_skeleton]
  unfold k0_part12_skel
  rw [loop1]
  rfl

theorem loop2 (y : FVec F (Net.M 512 64) .f32) (wr : FVec F (Net.M 64 64) .f32) (wa : FVec F (Net.M 64 64) .f32) (br : FVec F (Net.M 1 64) .f32) (ba : FVec F (Net.M 1 64) .f32) (g : FVec F (Net.M 1 64) .f32) (be : FVec F (Net.M 1 64) .f32) :
    Scf.Loop.for k0_t2_loop k0_t2_ok (k0_pay62 y (shapeCast (Net.T 256 2 64) y Net.pair1a), k0_pay63 (F := F)) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y wr wa br ba g be (shapeCast (Net.T 256 2 64) y Net.pair1a))
      = (pure (Net.nearest lf1 32 lo (Net.halves Net.pair1a Net.pair1b y) y wr br) : ℙ F _) := by
  refine (Scf.for_pure _ _ _ _ _ _ (fun _ a => Net.round lf1 (Net.halves Net.pair1a Net.pair1b y) (limbs lf1.pk y) wr br a) (fun _ _ => rfl)).trans ?_
  rw [Net.fold_const]
  rfl

theorem part13 (y : FVec F (Net.M 512 64) .f32) (wr : FVec F (Net.M 64 64) .f32) (wa : FVec F (Net.M 64 64) .f32) (br : FVec F (Net.M 1 64) .f32) (ba : FVec F (Net.M 1 64) .f32) (g : FVec F (Net.M 1 64) .f32) (be : FVec F (Net.M 1 64) .f32) :
    k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y wr wa br ba g be (shapeCast (Net.T 256 2 64) y Net.pair1a)
      = (Prog.lift (.load arg14 (Rect.unit (s := S64x128) ![0, 0] S64x128.size inb_S64x128_S64x128_0_0).toLoadRect (View.loadsAt_vmem h_S64x128)) : Prog (TpuEff nD τ sig (Elt F) Λ₀ .tc) (Vec F S64x128 .f32)) >>= fun wr2 =>
      (Prog.lift (.load arg15 (Rect.unit (s := S64x128) ![0, 0] S64x128.size inb_S64x128_S64x128_0_0).toLoadRect (View.loadsAt_vmem h_S64x128)) : Prog (TpuEff nD τ sig (Elt F) Λ₀ .tc) (Vec F S64x128 .f32)) >>= fun wa2 =>
      pure ⟨Net.level lf1 32 lo (Net.halves Net.pair1a Net.pair1b y) y wr wa br ba g be, wr2, wa2⟩ := by
  rw [k0_part13_eq_skeleton]
  unfold k0_part13_skel
  rw [loop2]
  rfl

theorem loop3 (y : FVec F (Net.M 256 64) .f32) (wr : FVec F (Net.M 64 128) .f32) (wa : FVec F (Net.M 64 128) .f32) (br : FVec F (Net.M 1 128) .f32) :
    Scf.Loop.for k0_t3_loop k0_t3_ok (k0_pay68 y, k0_pay69 (F := F)) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y wr wa br)
      = (pure (Net.nearest lf2 32 lo y y wr (row br)) : ℙ F _) := by
  refine (Scf.for_pure _ _ _ _ _ _ (fun _ a => Net.round lf2 y (limbs lf2.pk y) wr (row br) a) (fun _ _ => rfl)).trans ?_
  rw [Net.fold_const]
  rfl

theorem part14 (y : FVec F (Net.M 256 64) .f32) (wr : FVec F (Net.M 64 128) .f32) (wa : FVec F (Net.M 64 128) .f32) :
    k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y wr wa
      = (Prog.lift (.load arg16 (Rect.unit (s := S1x128) ![0, 0] S1x128.size inb_S1x128_S1x128_0_0).toLoadRect (View.loadsAt_vmem h_S1x128)) : Prog (TpuEff nD τ sig (Elt F) Λ₀ .tc) (Vec F S1x128 .f32)) >>= fun br =>
      (Prog.lift (.load arg17 (Rect.unit (s := S1x128) ![0, 0] S1x128.size inb_S1x128_S1x128_0_0).toLoadRect (View.loadsAt_vmem h_S1x128)) : Prog (TpuEff nD τ sig (Elt F) Λ₀ .tc) (Vec F S1x128 .f32)) >>= fun ba =>
      (Prog.lift (.load arg18 (Rect.unit (s := S1x128) ![0, 0] S1x128.size inb_S1x128_S1x128_0_0).toLoadRect (View.loadsAt_vmem h_S1x128)) : Prog (TpuEff nD τ sig (Elt F) Λ₀ .tc) (Vec F S1x128 .f32)) >>= fun g =>
      (Prog.lift (.load arg19 (Rect.unit (s := S1x128) ![0, 0] S1x128.size inb_S1x128_S1x128_0_0).toLoadRect (View.loadsAt_vmem h_S1x128)) : Prog (TpuEff nD τ sig (Elt F) Λ₀ .tc) (Vec F S1x128 .f32)) >>= fun be =>
      pure ⟨(Net.scaled lf2.bu (row g) (addf (Net.nearest lf2 32 lo y y wr (row br)).2 (Net.dense lf2.bu y wa (row ba)))), broadcastTo (Net.M 256 128) (row be) lf2.bu⟩ := by
  rw [k0_part14_eq_skeleton]
  unfold k0_part14_skel
  simp only [loop3]
  rfl

theorem part15 (a : FVec F (Net.M 256 128) .f32) (b : FVec F (Net.M 256 128) .f32) :
    k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 a b
      = (Prog.lift (.load arg20 (Rect.unit (s := S128x256) ![0, 0] S128x256.size inb_S128x256_S128x256_0_0).toLoadRect (View.loadsAt_vmem h_S128x256)) : Prog (TpuEff nD τ sig (Elt F) Λ₀ .tc) (Vec F S128x256 .f32)) >>= fun wr =>
      (Prog.lift (.load arg21 (Rect.unit (s := S128x256) ![0, 0] S128x256.size inb_S128x256_S128x256_0_0).toLoadRect (View.loadsAt_vmem h_S128x256)) : Prog (TpuEff nD τ sig (Elt F) Λ₀ .tc) (Vec F S128x256 .f32)) >>= fun wa =>
      (Prog.lift (.load arg22 (Rect.unit (s := S1x256) ![0, 0] S1x256.size inb_S1x256_S1x256_0_0).toLoadRect (View.loadsAt_vmem h_S1x256)) : Prog (TpuEff nD τ sig (Elt F) Λ₀ .tc) (Vec F S1x256 .f32)) >>= fun br =>
      (Prog.lift (.load arg23 (Rect.unit (s := S1x256) ![0, 0] S1x256.size inb_S1x256_S1x256_0_0).toLoadRect (View.loadsAt_vmem h_S1x256)) : Prog (TpuEff nD τ sig (Elt F) Λ₀ .tc) (Vec F S1x256 .f32)) >>= fun ba =>
      (Prog.lift (.load arg24 (Rect.unit (s := S1x256) ![0, 0] S1x256.size inb_S1x256_S1x256_0_0).toLoadRect (View.loadsAt_vmem h_S1x256)) : Prog (TpuEff nD τ sig (Elt F) Λ₀ .tc) (Vec F S1x256 .f32)) >>= fun g =>
      (Prog.lift (.load arg25 (Rect.unit (s := S1x256) ![0, 0] S1x256.size inb_S1x256_S1x256_0_0).toLoadRect (View.loadsAt_vmem h_S1x256)) : Prog (TpuEff nD τ sig (Elt F) Λ₀ .tc) (Vec F S1x256 .f32)) >>= fun be =>
      pure ⟨(Net.relu (addf a b)), wr, row br, row g, row be, Net.dist lf3 (Net.relu (addf a b)) (Net.relu (addf a b)), Net.dense lf3.bu (Net.relu (addf a b)) wa (row ba), (iota .tc (Net.M 256 256) 32 [1] lf3.io), limbs lf3.pk (Net.relu (addf a b)), broadcast (Net.M 256 256) lo, 0#32⟩ := rfl

theorem loop4 (p0 : FVec F (Net.M 256 64) .f32) (l1 : FVec F (Net.M 256 64) .f32) (y : FVec F (Net.M 256 128) .f32) (wr : FVec F (Net.M 128 256) .f32) (br : FVec F (Net.M 1 256) .f32) (g : FVec F (Net.M 1 256) .f32) (be : FVec F (Net.M 1 256) .f32) (ab : FVec F (Net.M 256 256) .f32) :
    Scf.Loop.for k0_t4_loop k0_t4_ok (Net.dist lf3 y y, broadcast (Net.M 256 256) lo) (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 p0 l1 y wr br g be (Net.dist lf3 y y) ab (iota .tc (Net.M 256 256) 32 [1] lf3.io) (limbs lf3.pk y) (broadcast (Net.M 256 256) lo) 0#32)
      = (pure (Net.nearest lf3 32 lo y y wr br) : ℙ F _) := by
  refine (Scf.for_pure _ _ _ _ _ _ (fun _ a => Net.round lf3 y (limbs lf3.pk y) wr br a) (fun _ _ => rfl)).trans ?_
  rw [Net.fold_const]
  rfl

theorem part16 (p0 : FVec F (Net.M 256 64) .f32) (l1 : FVec F (Net.M 256 64) .f32) (y : FVec F (Net.M 256 128) .f32) (wr : FVec F (Net.M 128 256) .f32) (br : FVec F (Net.M 1 256) .f32) (g : FVec F (Net.M 1 256) .f32) (be : FVec F (Net.M 1 256) .f32) (ab : FVec F (Net.M 256 256) .f32) :
    k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 p0 l1 y wr br g be (Net.dist lf3 y y) ab (iota .tc (Net.M 256 256) 32 [1] lf3.io) (limbs lf3.pk y) (broadcast (Net.M 256 256) lo) 0#32
      = (Prog.lift (.load arg26 (Rect.unit (s := S512x1024) ![0, 0] S512x1024.size inb_S512x1024_S512x1024_0_0).toLoadRect (View.loadsAt_vmem h_S512x1024)) : Prog (TpuEff nD τ sig (Elt F) Λ₀ .tc) (Vec F S512x1024 .f32)) >>= fun Wm =>
      (Prog.lift (.load arg27 (Rect.unit (s := S1x1024) ![0, 0] S1x1024.size inb_S1x1024_S1x1024_0_0).toLoadRect (View.loadsAt_vmem h_S1x1024)) : Prog (TpuEff nD τ sig (Elt F) Λ₀ .tc) (Vec F S1x1024 .f32)) >>= fun bm =>
      (Prog.lift (.load arg28 (Rect.unit (s := S1x1024) ![0, 0] S1x1024.size inb_S1x1024_S1x1024_0_0).toLoadRect (View.loadsAt_vmem h_S1x1024)) : Prog (TpuEff nD τ sig (Elt F) Λ₀ .tc) (Vec F S1x1024 .f32)) >>= fun gm =>
      (Prog.lift (.load arg29 (Rect.unit (s := S1x1024) ![0, 0] S1x1024.size inb_S1x1024_S1x1024_0_0).toLoadRect (View.loadsAt_vmem h_S1x1024)) : Prog (TpuEff nD τ sig (Elt F) Λ₀ .tc) (Vec F S1x1024 .f32)) >>= fun bem =>
      (Prog.lift (.load arg30 (Rect.unit (s := S1024x512) ![0, 0] S1024x512.size inb_S1024x512_S1024x512_0_0).toLoadRect (View.loadsAt_vmem h_S1024x512)) : Prog (TpuEff nD τ sig (Elt F) Λ₀ .tc) (Vec F S1024x512 .f32)) >>= fun W1 =>
      (Prog.lift (.load arg31 (Rect.unit (s := S1x512) ![0, 0] S1x512.size inb_S1x512_S1x512_0_0).toLoadRect (View.loadsAt_vmem h_S1x512)) : Prog (TpuEff nD τ sig (Elt F) Λ₀ .tc) (Vec F S1x512 .f32)) >>= fun b1 =>
      pure (Net.pooled hf (Net.joined hf p0 l1 y (Net.relu (addf (Net.scaled lf3.bu g (addf (Net.nearest lf3 32 lo y y wr br).2 ab)) (broadcastTo (Net.M 256 256) be lf3.bu)))) Wm (row bm) (row gm) (row bem) W1 (row b1)) := by
  rw [k0_part16_eq_skeleton]
  unfold k0_part16_skel
  rw [loop4]
  rfl

theorem part17 (z : FVec F (Net.M 1 512) .f32) :
    k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 z
      = (Prog.lift (.load arg32 (Rect.unit (s := S1x512) ![0, 0] S1x512.size inb_S1x512_S1x512_0_0).toLoadRect (View.loadsAt_vmem h_S1x512)) : Prog (TpuEff nD τ sig (Elt F) Λ₀ .tc) (Vec F S1x512 .f32)) >>= fun g1 =>
      (Prog.lift (.load arg33 (Rect.unit (s := S1x512) ![0, 0] S1x512.size inb_S1x512_S1x512_0_0).toLoadRect (View.loadsAt_vmem h_S1x512)) : Prog (TpuEff nD τ sig (Elt F) Λ₀ .tc) (Vec F S1x512 .f32)) >>= fun be1 =>
      (Prog.lift (.load arg34 (Rect.unit (s := S512x256) ![0, 0] S512x256.size inb_S512x256_S512x256_0_0).toLoadRect (View.loadsAt_vmem h_S512x256)) : Prog (TpuEff nD τ sig (Elt F) Λ₀ .tc) (Vec F S512x256 .f32)) >>= fun W2 =>
      (Prog.lift (.load arg35 (Rect.unit (s := S1x256) ![0, 0] S1x256.size inb_S1x256_S1x256_0_0).toLoadRect (View.loadsAt_vmem h_S1x256)) : Prog (TpuEff nD τ sig (Elt F) Λ₀ .tc) (Vec F S1x256 .f32)) >>= fun b2 =>
      (Prog.lift (.load arg36 (Rect.unit (s := S1x256) ![0, 0] S1x256.size inb_S1x256_S1x256_0_0).toLoadRect (View.loadsAt_vmem h_S1x256)) : Prog (TpuEff nD τ sig (Elt F) Λ₀ .tc) (Vec F S1x256 .f32)) >>= fun g2 =>
      (Prog.lift (.load arg37 (Rect.unit (s := S1x256) ![0, 0] S1x256.size inb_S1x256_S1x256_0_0).toLoadRect (View.loadsAt_vmem h_S1x256)) : Prog (TpuEff nD τ sig (Elt F) Λ₀ .tc) (Vec F S1x256 .f32)) >>= fun be2 =>
      (Prog.lift (.load arg38 (Rect.unit (s := S256x40) ![0, 0] S256x40.size inb_S256x40_S256x40_0_0).toLoadRect (View.loadsAt_vmem h_S256x40)) : Prog (TpuEff nD τ sig (Elt F) Λ₀ .tc) (Vec F S256x40 .f32)) >>= fun Wo =>
      (Prog.lift (.load arg39 (Rect.unit (s := S1x40) ![0, 0] S1x40.size inb_S1x40_S1x40_0_0).toLoadRect (View.loadsAt_vmem h_S1x40)) : Prog (TpuEff nD τ sig (Elt F) Λ₀ .tc) (Vec F S1x40 .f32)) >>= fun bo =>
      pure ⟨(Net.scores hf z (row g1) (row be1) W2 (row b2) (row g2) (row be2) Wo (row bo)), Net.total hf (Net.scores hf z (row g1) (row be1) W2 (row b2) (row g2) (row be2) Wo (row bo))⟩ := rfl

end Cert.KernelIdeal.Body

end
-- ==== Proof.Flat.lean ====
/- The kernel's body is a flat program: the operands' loads, then one store of the network's value. -/
module

public import proofs.«01_k».proof.Proof.Gen.KernelIdeal.Skeleton
public import proofs.«01_k».proof.Proof.Body

@[expose] public section

set_option synthInstance.maxSize 4096
set_option maxRecDepth 65536
set_option maxHeartbeats 4000000

noncomputable section

namespace Cert.KernelIdeal.Body

open Idealize.ShloMosaic Idealize.SL.Sem
open Cert.KernelIdeal.Gen
open Net (sf key0 key1 key2 lf0 lf1 lf2 lf3 hf placeOf hot limb limbs row)

variable {F : FTy → Type} [FloatOps F] [Named F]

variable (i : grid0.Coords)
    (arg1 : Memref sig .tc .vmem S1x1024x3 .f32) (harg1 : arg1.IsWhole)
    (arg2 : Memref sig .tc .vmem S3x64 .f32) (harg2 : arg2.IsWhole)
    (arg3 : Memref sig .tc .vmem S3x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S1x64 .f32) (harg7 : arg7.IsWhole)
    (arg8 : Memref sig .tc .vmem S64x64 .f32) (harg8 : arg8.IsWhole)
    (arg9 : Memref sig .tc .vmem S64x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (arg13 : Memref sig .tc .vmem S1x64 .f32) (harg13 : arg13.IsWhole)
    (arg14 : Memref sig .tc .vmem S64x128 .f32) (harg14 : arg14.IsWhole)
    (arg15 : Memref sig .tc .vmem S64x128 .f32) (harg15 : arg15.IsWhole)
    (arg16 : Memref sig .tc .vmem S1x128 .f32) (harg16 : arg16.IsWhole)
    (arg17 : Memref sig .tc .vmem S1x128 .f32) (harg17 : arg17.IsWhole)
    (arg18 : Memref sig .tc .vmem S1x128 .f32) (harg18 : arg18.IsWhole)
    (arg19 : Memref sig .tc .vmem S1x128 .f32) (harg19 : arg19.IsWhole)
    (arg20 : Memref sig .tc .vmem S128x256 .f32) (harg20 : arg20.IsWhole)
    (arg21 : Memref sig .tc .vmem S128x256 .f32) (harg21 : arg21.IsWhole)
    (arg22 : Memref sig .tc .vmem S1x256 .f32) (harg22 : arg22.IsWhole)
    (arg23 : Memref sig .tc .vmem S1x256 .f32) (harg23 : arg23.IsWhole)
    (arg24 : Memref sig .tc .vmem S1x256 .f32) (harg24 : arg24.IsWhole)
    (arg25 : Memref sig .tc .vmem S1x256 .f32) (harg25 : arg25.IsWhole)
    (arg26 : Memref sig .tc .vmem S512x1024 .f32) (harg26 : arg26.IsWhole)
    (arg27 : Memref sig .tc .vmem S1x1024 .f32) (harg27 : arg27.IsWhole)
    (arg28 : Memref sig .tc .vmem S1x1024 .f32) (harg28 : arg28.IsWhole)
    (arg29 : Memref sig .tc .vmem S1x1024 .f32) (harg29 : arg29.IsWhole)
    (arg30 : Memref sig .tc .vmem S1024x512 .f32) (harg30 : arg30.IsWhole)
    (arg31 : Memref sig .tc .vmem S1x512 .f32) (harg31 : arg31.IsWhole)
    (arg32 : Memref sig .tc .vmem S1x512 .f32) (harg32 : arg32.IsWhole)
    (arg33 : Memref sig .tc .vmem S1x512 .f32) (harg33 : arg33.IsWhole)
    (arg34 : Memref sig .tc .vmem S512x256 .f32) (harg34 : arg34.IsWhole)
    (arg35 : Memref sig .tc .vmem S1x256 .f32) (harg35 : arg35.IsWhole)
    (arg36 : Memref sig .tc .vmem S1x256 .f32) (harg36 : arg36.IsWhole)
    (arg37 : Memref sig .tc .vmem S1x256 .f32) (harg37 : arg37.IsWhole)
    (arg38 : Memref sig .tc .vmem S256x40 .f32) (harg38 : arg38.IsWhole)
    (arg39 : Memref sig .tc .vmem S1x40 .f32) (harg39 : arg39.IsWhole)
    (arg40 : Memref sig .tc .vmem S1x1x40 .f32) (harg40 : arg40.IsWhole)

/-- The body from its part 17 on. -/
def tail17 (v749 : FVec F S1x512 .f32) : ℙ F PUnit :=
  k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v749 >>= fun r => (Prog.lift (.load arg40 (Rect.unit (s := S1x1x40) ![0, 0, 0] S1x1x40.size inb_S1x1x40_S1x1x40_0_0_0).toLoadRect (View.loadsAt_vmem h_S1x1x40)) : Prog (TpuEff nD τ sig (Elt F) Λ₀ .tc) (Vec F S1x1x40 .f32)) >>= fun _ =>
    Prog.lift (.store arg40 (Rect.unit (s := S1x1x40) ![0, 0, 0] S1x1x40.size inb_S1x1x40_S1x1x40_0_0_0)
      (k0_pay1 r.1 r.2) Finset.univ (View.stores_vmem_bits_univ h_S1x1x40 rfl) (.inl rfl)) >>= fun _ => pure ⟨⟩

/-- The body from its part 16 on. -/
def tail16 (v575 : FVec F S256x64 .f32) (v627 : FVec F S256x64 .f32) (v675 : FVec F S256x128 .f32) (v676 : Vec F S128x256 .f32) (v679 : FVec F S1x256 .f32) (v683 : FVec F S1x256 .f32) (v685 : FVec F S1x256 .f32) (v700 : FVec F S256x256 .f32) (v703 : FVec F S256x256 .f32) (v704 : IVec S256x256 32) (v711 : FVec F S256x384 .f32) (v712 : FVec F S256x256 .f32) (c0_i32_157 : BitVec 32) : ℙ F PUnit :=
  k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v575 v627 v675 v676 v679 v683 v685 v700 v703 v704 v711 v712 c0_i32_157 >>= fun r => tail17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r

/-- The body from its part 15 on. -/
def tail15 (v671 : FVec F S256x128 .f32) (v672 : FVec F S256x128 .f32) (v575 : FVec F S256x64 .f32) (v627 : FVec F S256x64 .f32) : ℙ F PUnit :=
  k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v671 v672 >>= fun r => tail16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v575 v627 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2

/-- The body from its part 14 on. -/
def tail14 (v627 : FVec F S256x64 .f32) (v628 : Vec F S64x128 .f32) (v629 : Vec F S64x128 .f32) (v575 : FVec F S256x64 .f32) : ℙ F PUnit :=
  k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v627 v628 v629 >>= fun r => tail15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2 v575 v627

/-- The body from its part 13 on. -/
def tail13 (v573 : FVec F S512x64 .f32) (v576 : Vec F S64x64 .f32) (v577 : Vec F S64x64 .f32) (v579 : FVec F S1x64 .f32) (v581 : FVec F S1x64 .f32) (v583 : FVec F S1x64 .f32) (v585 : FVec F S1x64 .f32) (v586 : FVec F S256x2x64 .f32) (v575 : FVec F S256x64 .f32) : ℙ F PUnit :=
  k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v573 v576 v577 v579 v581 v583 v585 v586 >>= fun r => tail14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2 v575

/-- The body from its part 12 on. -/
def tail12 (v521 : FVec F S1024x3 .f32) (v522 : Vec F S3x64 .f32) (v523 : Vec F S3x64 .f32) (v525 : FVec F S1x64 .f32) (v527 : FVec F S1x64 .f32) (v529 : FVec F S1x64 .f32) (v531 : FVec F S1x64 .f32) (v535 : FVec F S512x3 .f32) (v542 : FVec F S1x1024 .f32) (v546 : FVec F S512x1024 .f32) (v547 : FVec F S512x1024 .f32) : ℙ F PUnit :=
  k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v521 v522 v523 v525 v527 v529 v531 v535 v542 v546 v547 >>= fun r => tail13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.2.1 r.2.2.2.1 r.2.2.2.2.1 r.2.2.2.2.2.1 r.2.2.2.2.2.2.1 r.2.2.2.2.2.2.2.1 r.2.2.2.2.2.2.2.2 r.2.1

/-- The body from its part 11 on. -/
def tail11 (v469 : FVec F S1024x3 .f32) (v505 : IVec S1024x1024 1) (cst_65 : F .f32) (v506 : FVec F S1024x1024 .f32) : ℙ F PUnit :=
  k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v469 v505 cst_65 v506 >>= fun r => tail12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2

/-- The body from its part 10 on. -/
def tail10 (v417 : FVec F S1024x3 .f32) (v453 : IVec S1024x1024 1) (v454 : FVec F S1024x1024 .f32) (v455 : FVec F S1024x1024 .f32) : ℙ F PUnit :=
  k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v417 v453 v454 v455 >>= fun r => tail11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2.1 r.2.2.2

/-- The body from its part 9 on. -/
def tail9 (v365 : FVec F S1024x3 .f32) (v404 : FVec F S1024x1024 .f32) : ℙ F PUnit :=
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v365 v404 >>= fun r => tail10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2.1 r.2.2.2

/-- The body from its part 8 on. -/
def tail8 (v313 : FVec F S1024x3 .f32) (v352 : FVec F S1024x1024 .f32) (v353 : FVec F S1024x3 .bf16) : ℙ F PUnit :=
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v313 v352 v353 >>= fun r => tail9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2

/-- The body from its part 7 on. -/
def tail7 (v261 : FVec F S1024x3 .f32) (v300 : FVec F S1024x1024 .f32) (v302 : FVec F S1024x3 .f32) : ℙ F PUnit :=
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v261 v300 v302 >>= fun r => tail8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2

/-- The body from its part 6 on. -/
def tail6 (v248 : FVec F S1024x1024 .f32) (v250 : FVec F S1024x3 .f32) (v251 : FVec F S1024x3 .f32) : ℙ F PUnit :=
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v248 v250 v251 >>= fun r => tail7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2

/-- The body from its part 5 on. -/
def tail5 (v196 : FVec F S1024x1024 .f32) (v198 : FVec F S1024x3 .f32) (v199 : FVec F S1024x3 .f32) (v200 : FVec F S1024x3 .bf16) : ℙ F PUnit :=
  k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v196 v198 v199 v200 >>= fun r => tail6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2

/-- The body from its part 4 on. -/
def tail4 (v144 : FVec F S1024x1024 .f32) (v146 : FVec F S1024x3 .f32) (v147 : FVec F S1024x3 .f32) (v149 : FVec F S1024x3 .f32) : ℙ F PUnit :=
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v144 v146 v147 v149 >>= fun r => tail5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2.1 r.2.2.2

/-- The body from its part 3 on. -/
def tail3 (v92 : FVec F S1024x1024 .f32) (v94 : FVec F S1024x3 .f32) (v97 : FVec F S1024x3 .f32) (v98 : FVec F S1024x3 .f32) : ℙ F PUnit :=
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v92 v94 v97 v98 >>= fun r => tail4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2.1 r.2.2.2

/-- The body from its part 2 on. -/
def tail2 (v40 : FVec F S1024x1024 .f32) (v47 : FVec F S1024x9 .f32) : ℙ F PUnit :=
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v40 v47 >>= fun r => tail3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2.1 r.2.2.1 r.2.2.2

/-- The body from its part 1 on. -/
def tail1  : ℙ F PUnit :=
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40  >>= fun r => tail2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 r.1 r.2

/-- The head. -/
def flat17 (z : FVec F (Net.M 1 512) .f32) : ℙ F PUnit :=
    (Prog.lift (.load arg32 (Rect.unit (s := S1x512) ![0, 0] S1x512.size inb_S1x512_S1x512_0_0).toLoadRect (View.loadsAt_vmem h_S1x512)) : Prog (TpuEff nD τ sig (Elt F) Λ₀ .tc) (Vec F S1x512 .f32)) >>= fun g1 =>
    (Prog.lift (.load arg33 (Rect.unit (s := S1x512) ![0, 0] S1x512.size inb_S1x512_S1x512_0_0).toLoadRect (View.loadsAt_vmem h_S1x512)) : Prog (TpuEff nD τ sig (Elt F) Λ₀ .tc) (Vec F S1x512 .f32)) >>= fun be1 =>
    (Prog.lift (.load arg34 (Rect.unit (s := S512x256) ![0, 0] S512x256.size inb_S512x256_S512x256_0_0).toLoadRect (View.loadsAt_vmem h_S512x256)) : Prog (TpuEff nD τ sig (Elt F) Λ₀ .tc) (Vec F S512x256 .f32)) >>= fun W2 =>
    (Prog.lift (.load arg35 (Rect.unit (s := S1x256) ![0, 0] S1x256.size inb_S1x256_S1x256_0_0).toLoadRect (View.loadsAt_vmem h_S1x256)) : Prog (TpuEff nD τ sig (Elt F) Λ₀ .tc) (Vec F S1x256 .f32)) >>= fun b2 =>
    (Prog.lift (.load arg36 (Rect.unit (s := S1x256) ![0, 0] S1x256.size inb_S1x256_S1x256_0_0).toLoadRect (View.loadsAt_vmem h_S1x256)) : Prog (TpuEff nD τ sig (Elt F) Λ₀ .tc) (Vec F S1x256 .f32)) >>= fun g2 =>
    (Prog.lift (.load arg37 (Rect.unit (s := S1x256) ![0, 0] S1x256.size inb_S1x256_S1x256_0_0).toLoadRect (View.loadsAt_vmem h_S1x256)) : Prog (TpuEff nD τ sig (Elt F) Λ₀ .tc) (Vec F S1x256 .f32)) >>= fun be2 =>
    (Prog.lift (.load arg38 (Rect.unit (s := S256x40) ![0, 0] S256x40.size inb_S256x40_S256x40_0_0).toLoadRect (View.loadsAt_vmem h_S256x40)) : Prog (TpuEff nD τ sig (Elt F) Λ₀ .tc) (Vec F S256x40 .f32)) >>= fun Wo =>
    (Prog.lift (.load arg39 (Rect.unit (s := S1x40) ![0, 0] S1x40.size inb_S1x40_S1x40_0_0).toLoadRect (View.loadsAt_vmem h_S1x40)) : Prog (TpuEff nD τ sig (Elt F) Λ₀ .tc) (Vec F S1x40 .f32)) >>= fun bo =>
    (Prog.lift (.load arg40 (Rect.unit (s := S1x1x40) ![0, 0, 0] S1x1x40.size inb_S1x1x40_S1x1x40_0_0_0).toLoadRect (View.loadsAt_vmem h_S1x1x40)) : Prog (TpuEff nD τ sig (Elt F) Λ₀ .tc) (Vec F S1x1x40 .f32)) >>= fun _ =>
    Prog.lift (.store arg40 (Rect.unit (s := S1x1x40) ![0, 0, 0] S1x1x40.size inb_S1x1x40_S1x1x40_0_0_0)
      (Net.softmaxOf hf (Net.scores hf z (row g1) (row be1) W2 (row b2) (row g2) (row be2) Wo (row bo)) (Net.total hf (Net.scores hf z (row g1) (row be1) W2 (row b2) (row g2) (row be2) Wo (row bo)))) Finset.univ (View.stores_vmem_bits_univ h_S1x1x40 rfl) (.inl rfl))

/-- The pooled features and the head. -/
def flat16 (p0 : FVec F (Net.M 256 64) .f32) (l1 : FVec F (Net.M 256 64) .f32) (l2 : FVec F (Net.M 256 128) .f32) (l3 : FVec F (Net.M 256 256) .f32) : ℙ F PUnit :=
    (Prog.lift (.load arg26 (Rect.unit (s := S512x1024) ![0, 0] S512x1024.size inb_S512x1024_S512x1024_0_0).toLoadRect (View.loadsAt_vmem h_S512x1024)) : Prog (TpuEff nD τ sig (Elt F) Λ₀ .tc) (Vec F S512x1024 .f32)) >>= fun Wm =>
    (Prog.lift (.load arg27 (Rect.unit (s := S1x1024) ![0, 0] S1x1024.size inb_S1x1024_S1x1024_0_0).toLoadRect (View.loadsAt_vmem h_S1x1024)) : Prog (TpuEff nD τ sig (Elt F) Λ₀ .tc) (Vec F S1x1024 .f32)) >>= fun bm =>
    (Prog.lift (.load arg28 (Rect.unit (s := S1x1024) ![0, 0] S1x1024.size inb_S1x1024_S1x1024_0_0).toLoadRect (View.loadsAt_vmem h_S1x1024)) : Prog (TpuEff nD τ sig (Elt F) Λ₀ .tc) (Vec F S1x1024 .f32)) >>= fun gm =>
    (Prog.lift (.load arg29 (Rect.unit (s := S1x1024) ![0, 0] S1x1024.size inb_S1x1024_S1x1024_0_0).toLoadRect (View.loadsAt_vmem h_S1x1024)) : Prog (TpuEff nD τ sig (Elt F) Λ₀ .tc) (Vec F S1x1024 .f32)) >>= fun bem =>
    (Prog.lift (.load arg30 (Rect.unit (s := S1024x512) ![0, 0] S1024x512.size inb_S1024x512_S1024x512_0_0).toLoadRect (View.loadsAt_vmem h_S1024x512)) : Prog (TpuEff nD τ sig (Elt F) Λ₀ .tc) (Vec F S1024x512 .f32)) >>= fun W1 =>
    (Prog.lift (.load arg31 (Rect.unit (s := S1x512) ![0, 0] S1x512.size inb_S1x512_S1x512_0_0).toLoadRect (View.loadsAt_vmem h_S1x512)) : Prog (TpuEff nD τ sig (Elt F) Λ₀ .tc) (Vec F S1x512 .f32)) >>= fun b1 =>
    flat17 arg32 arg33 arg34 arg35 arg36 arg37 arg38 arg39 arg40 (Net.pooled hf (Net.joined hf p0 l1 l2 l3) Wm (row bm) (row gm) (row bem) W1 (row b1))

/-- The fourth level on. -/
def flat15 (p0 : FVec F (Net.M 256 64) .f32) (l1 : FVec F (Net.M 256 64) .f32) (l2 : FVec F (Net.M 256 128) .f32) : ℙ F PUnit :=
    (Prog.lift (.load arg20 (Rect.unit (s := S128x256) ![0, 0] S128x256.size inb_S128x256_S128x256_0_0).toLoadRect (View.loadsAt_vmem h_S128x256)) : Prog (TpuEff nD τ sig (Elt F) Λ₀ .tc) (Vec F S128x256 .f32)) >>= fun wr =>
    (Prog.lift (.load arg21 (Rect.unit (s := S128x256) ![0, 0] S128x256.size inb_S128x256_S128x256_0_0).toLoadRect (View.loadsAt_vmem h_S128x256)) : Prog (TpuEff nD τ sig (Elt F) Λ₀ .tc) (Vec F S128x256 .f32)) >>= fun wa =>
    (Prog.lift (.load arg22 (Rect.unit (s := S1x256) ![0, 0] S1x256.size inb_S1x256_S1x256_0_0).toLoadRect (View.loadsAt_vmem h_S1x256)) : Prog (TpuEff nD τ sig (Elt F) Λ₀ .tc) (Vec F S1x256 .f32)) >>= fun br =>
    (Prog.lift (.load arg23 (Rect.unit (s := S1x256) ![0, 0] S1x256.size inb_S1x256_S1x256_0_0).toLoadRect (View.loadsAt_vmem h_S1x256)) : Prog (TpuEff nD τ sig (Elt F) Λ₀ .tc) (Vec F S1x256 .f32)) >>= fun ba =>
    (Prog.lift (.load arg24 (Rect.unit (s := S1x256) ![0, 0] S1x256.size inb_S1x256_S1x256_0_0).toLoadRect (View.loadsAt_vmem h_S1x256)) : Prog (TpuEff nD τ sig (Elt F) Λ₀ .tc) (Vec F S1x256 .f32)) >>= fun g =>
    (Prog.lift (.load arg25 (Rect.unit (s := S1x256) ![0, 0] S1x256.size inb_S1x256_S1x256_0_0).toLoadRect (View.loadsAt_vmem h_S1x256)) : Prog (TpuEff nD τ sig (Elt F) Λ₀ .tc) (Vec F S1x256 .f32)) >>= fun be =>
    flat16 arg26 arg27 arg28 arg29 arg30 arg31 arg32 arg33 arg34 arg35 arg36 arg37 arg38 arg39 arg40 p0 l1 l2 (Net.level3 lo l2 wr wa br ba g be)

/-- The third level on. -/
def flat14 (p0 : FVec F (Net.M 256 64) .f32) (l1 : FVec F (Net.M 256 64) .f32) (wr : FVec F (Net.M 64 128) .f32) (wa : FVec F (Net.M 64 128) .f32) : ℙ F PUnit :=
    (Prog.lift (.load arg16 (Rect.unit (s := S1x128) ![0, 0] S1x128.size inb_S1x128_S1x128_0_0).toLoadRect (View.loadsAt_vmem h_S1x128)) : Prog (TpuEff nD τ sig (Elt F) Λ₀ .tc) (Vec F S1x128 .f32)) >>= fun br =>
    (Prog.lift (.load arg17 (Rect.unit (s := S1x128) ![0, 0] S1x128.size inb_S1x128_S1x128_0_0).toLoadRect (View.loadsAt_vmem h_S1x128)) : Prog (TpuEff nD τ sig (Elt F) Λ₀ .tc) (Vec F S1x128 .f32)) >>= fun ba =>
    (Prog.lift (.load arg18 (Rect.unit (s := S1x128) ![0, 0] S1x128.size inb_S1x128_S1x128_0_0).toLoadRect (View.loadsAt_vmem h_S1x128)) : Prog (TpuEff nD τ sig (Elt F) Λ₀ .tc) (Vec F S1x128 .f32)) >>= fun g =>
    (Prog.lift (.load arg19 (Rect.unit (s := S1x128) ![0, 0] S1x128.size inb_S1x128_S1x128_0_0).toLoadRect (View.loadsAt_vmem h_S1x128)) : Prog (TpuEff nD τ sig (Elt F) Λ₀ .tc) (Vec F S1x128 .f32)) >>= fun be =>
    flat15 arg20 arg21 arg22 arg23 arg24 arg25 arg26 arg27 arg28 arg29 arg30 arg31 arg32 arg33 arg34 arg35 arg36 arg37 arg38 arg39 arg40 p0 l1 (Net.level2 lo l1 wr wa br ba g be)

/-- The second level on. -/
def flat13 (l0 : FVec F (Net.M 512 64) .f32) (wr : FVec F (Net.M 64 64) .f32) (wa : FVec F (Net.M 64 64) .f32) (br : FVec F (Net.M 1 64) .f32) (ba : FVec F (Net.M 1 64) .f32) (g : FVec F (Net.M 1 64) .f32) (be : FVec F (Net.M 1 64) .f32) : ℙ F PUnit :=
    (Prog.lift (.load arg14 (Rect.unit (s := S64x128) ![0, 0] S64x128.size inb_S64x128_S64x128_0_0).toLoadRect (View.loadsAt_vmem h_S64x128)) : Prog (TpuEff nD τ sig (Elt F) Λ₀ .tc) (Vec F S64x128 .f32)) >>= fun wr2 =>
    (Prog.lift (.load arg15 (Rect.unit (s := S64x128) ![0, 0] S64x128.size inb_S64x128_S64x128_0_0).toLoadRect (View.loadsAt_vmem h_S64x128)) : Prog (TpuEff nD τ sig (Elt F) Λ₀ .tc) (Vec F S64x128 .f32)) >>= fun wa2 =>
    flat14 arg16 arg17 arg18 arg19 arg20 arg21 arg22 arg23 arg24 arg25 arg26 arg27 arg28 arg29 arg30 arg31 arg32 arg33 arg34 arg35 arg36 arg37 arg38 arg39 arg40 (Net.pairMax Net.pair1a Net.pair1b l0) (Net.level1 lo l0 wr wa br ba g be) wr2 wa2

/-- The first level on. -/
def flat12 (y : FVec F (Net.M 1024 3) .f32) (wr : FVec F (Net.M 3 64) .f32) (wa : FVec F (Net.M 3 64) .f32) (br : FVec F (Net.M 1 64) .f32) (ba : FVec F (Net.M 1 64) .f32) (g : FVec F (Net.M 1 64) .f32) (be : FVec F (Net.M 1 64) .f32) : ℙ F PUnit :=
    (Prog.lift (.load arg8 (Rect.unit (s := S64x64) ![0, 0] S64x64.size inb_S64x64_S64x64_0_0).toLoadRect (View.loadsAt_vmem h_S64x64)) : Prog (TpuEff nD τ sig (Elt F) Λ₀ .tc) (Vec F S64x64 .f32)) >>= fun wr1 =>
    (Prog.lift (.load arg9 (Rect.unit (s := S64x64) ![0, 0] S64x64.size inb_S64x64_S64x64_0_0).toLoadRect (View.loadsAt_vmem h_S64x64)) : Prog (TpuEff nD τ sig (Elt F) Λ₀ .tc) (Vec F S64x64 .f32)) >>= fun wa1 =>
    (Prog.lift (.load arg10 (Rect.unit (s := S1x64) ![0, 0] S1x64.size inb_S1x64_S1x64_0_0).toLoadRect (View.loadsAt_vmem h_S1x64)) : Prog (TpuEff nD τ sig (Elt F) Λ₀ .tc) (Vec F S1x64 .f32)) >>= fun br1 =>
    (Prog.lift (.load arg11 (Rect.unit (s := S1x64) ![0, 0] S1x64.size inb_S1x64_S1x64_0_0).toLoadRect (View.loadsAt_vmem h_S1x64)) : Prog (TpuEff nD τ sig (Elt F) Λ₀ .tc) (Vec F S1x64 .f32)) >>= fun ba1 =>
    (Prog.lift (.load arg12 (Rect.unit (s := S1x64) ![0, 0] S1x64.size inb_S1x64_S1x64_0_0).toLoadRect (View.loadsAt_vmem h_S1x64)) : Prog (TpuEff nD τ sig (Elt F) Λ₀ .tc) (Vec F S1x64 .f32)) >>= fun g1 =>
    (Prog.lift (.load arg13 (Rect.unit (s := S1x64) ![0, 0] S1x64.size inb_S1x64_S1x64_0_0).toLoadRect (View.loadsAt_vmem h_S1x64)) : Prog (TpuEff nD τ sig (Elt F) Λ₀ .tc) (Vec F S1x64 .f32)) >>= fun be1 =>
    flat13 arg14 arg15 arg16 arg17 arg18 arg19 arg20 arg21 arg22 arg23 arg24 arg25 arg26 arg27 arg28 arg29 arg30 arg31 arg32 arg33 arg34 arg35 arg36 arg37 arg38 arg39 arg40 (Net.level0 lo y wr wa br ba g be) wr1 wa1 br1 ba1 g1 be1

/-- The last sort on. -/
def flat11 (y : FVec F (Net.M 1024 3) .f32) : ℙ F PUnit :=
    (Prog.lift (.load arg2 (Rect.unit (s := S3x64) ![0, 0] S3x64.size inb_S3x64_S3x64_0_0).toLoadRect (View.loadsAt_vmem h_S3x64)) : Prog (TpuEff nD τ sig (Elt F) Λ₀ .tc) (Vec F S3x64 .f32)) >>= fun wr =>
    (Prog.lift (.load arg3 (Rect.unit (s := S3x64) ![0, 0] S3x64.size inb_S3x64_S3x64_0_0).toLoadRect (View.loadsAt_vmem h_S3x64)) : Prog (TpuEff nD τ sig (Elt F) Λ₀ .tc) (Vec F S3x64 .f32)) >>= fun wa =>
    (Prog.lift (.load arg4 (Rect.unit (s := S1x64) ![0, 0] S1x64.size inb_S1x64_S1x64_0_0).toLoadRect (View.loadsAt_vmem h_S1x64)) : Prog (TpuEff nD τ sig (Elt F) Λ₀ .tc) (Vec F S1x64 .f32)) >>= fun br =>
    (Prog.lift (.load arg5 (Rect.unit (s := S1x64) ![0, 0] S1x64.size inb_S1x64_S1x64_0_0).toLoadRect (View.loadsAt_vmem h_S1x64)) : Prog (TpuEff nD τ sig (Elt F) Λ₀ .tc) (Vec F S1x64 .f32)) >>= fun ba =>
    (Prog.lift (.load arg6 (Rect.unit (s := S1x64) ![0, 0] S1x64.size inb_S1x64_S1x64_0_0).toLoadRect (View.loadsAt_vmem h_S1x64)) : Prog (TpuEff nD τ sig (Elt F) Λ₀ .tc) (Vec F S1x64 .f32)) >>= fun g =>
    (Prog.lift (.load arg7 (Rect.unit (s := S1x64) ![0, 0] S1x64.size inb_S1x64_S1x64_0_0).toLoadRect (View.loadsAt_vmem h_S1x64)) : Prog (TpuEff nD τ sig (Elt F) Λ₀ .tc) (Vec F S1x64 .f32)) >>= fun be =>
    flat12 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key0 1 y) wr wa br ba g be

theorem tail17_eq (z : FVec F (Net.M 1 512) .f32) : tail17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 z
    = flat17 arg32 arg33 arg34 arg35 arg36 arg37 arg38 arg39 arg40 z := by
  unfold tail17
  rw [part17]
  simp only [bind_assoc, pure_bind, bind_pure]
  rfl

theorem tail16_eq (p0 : FVec F (Net.M 256 64) .f32) (l1 : FVec F (Net.M 256 64) .f32) (y : FVec F (Net.M 256 128) .f32) (wr : FVec F (Net.M 128 256) .f32) (br : FVec F (Net.M 1 256) .f32) (g : FVec F (Net.M 1 256) .f32) (be : FVec F (Net.M 1 256) .f32) (ab : FVec F (Net.M 256 256) .f32) : tail16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 p0 l1 y wr br g be (Net.dist lf3 y y) ab (iota .tc (Net.M 256 256) 32 [1] lf3.io) (limbs lf3.pk y) (broadcast (Net.M 256 256) lo) 0#32
    = flat16 arg26 arg27 arg28 arg29 arg30 arg31 arg32 arg33 arg34 arg35 arg36 arg37 arg38 arg39 arg40 p0 l1 y (Net.relu (addf (Net.scaled lf3.bu g (addf (Net.nearest lf3 32 lo y y wr br).2 ab)) (broadcastTo (Net.M 256 256) be lf3.bu))) := by
  unfold tail16
  rw [part16]
  simp only [bind_assoc, pure_bind, tail17_eq]
  rfl

theorem tail15_eq (p0 : FVec F (Net.M 256 64) .f32) (l1 : FVec F (Net.M 256 64) .f32) (a : FVec F (Net.M 256 128) .f32) (b : FVec F (Net.M 256 128) .f32) : tail15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 a b p0 l1
    = flat15 arg20 arg21 arg22 arg23 arg24 arg25 arg26 arg27 arg28 arg29 arg30 arg31 arg32 arg33 arg34 arg35 arg36 arg37 arg38 arg39 arg40 p0 l1 (Net.relu (addf a b)) := by
  unfold tail15
  rw [part15]
  simp only [bind_assoc, pure_bind, flat15]
  exact bind_congr fun _ => bind_congr fun _ => bind_congr fun _ => bind_congr fun _ => bind_congr fun _ => bind_congr fun _ =>
    tail16_eq ..

theorem tail14_eq (p0 : FVec F (Net.M 256 64) .f32) (y : FVec F (Net.M 256 64) .f32) (wr : FVec F (Net.M 64 128) .f32) (wa : FVec F (Net.M 64 128) .f32) : tail14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y wr wa p0
    = flat14 arg16 arg17 arg18 arg19 arg20 arg21 arg22 arg23 arg24 arg25 arg26 arg27 arg28 arg29 arg30 arg31 arg32 arg33 arg34 arg35 arg36 arg37 arg38 arg39 arg40 p0 y wr wa := by
  unfold tail14
  rw [part14]
  simp only [bind_assoc, pure_bind, tail15_eq]
  rfl

theorem tail13_eq (y : FVec F (Net.M 512 64) .f32) (wr : FVec F (Net.M 64 64) .f32) (wa : FVec F (Net.M 64 64) .f32) (br : FVec F (Net.M 1 64) .f32) (ba : FVec F (Net.M 1 64) .f32) (g : FVec F (Net.M 1 64) .f32) (be : FVec F (Net.M 1 64) .f32) : tail13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y wr wa (row br) (row ba) (row g) (row be) (shapeCast (Net.T 256 2 64) y Net.pair1a) (Net.pairMax Net.pair1a Net.pair1b y)
    = flat13 arg14 arg15 arg16 arg17 arg18 arg19 arg20 arg21 arg22 arg23 arg24 arg25 arg26 arg27 arg28 arg29 arg30 arg31 arg32 arg33 arg34 arg35 arg36 arg37 arg38 arg39 arg40 y wr wa br ba g be := by
  unfold tail13
  rw [part13]
  simp only [bind_assoc, pure_bind, tail14_eq]
  rfl

theorem tail12_eq (y : FVec F (Net.M 1024 3) .f32) (wr : FVec F (Net.M 3 64) .f32) (wa : FVec F (Net.M 3 64) .f32) (br : FVec F (Net.M 1 64) .f32) (ba : FVec F (Net.M 1 64) .f32) (g : FVec F (Net.M 1 64) .f32) (be : FVec F (Net.M 1 64) .f32) : tail12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y wr wa (row br) (row ba) (row g) (row be) (Net.halves Net.pair0a Net.pair0b y) (sqRow lf0 y) (twice lf0 (Net.halves Net.pair0a Net.pair0b y) y) (sqCol lf0 (Net.halves Net.pair0a Net.pair0b y))
    = flat12 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 y wr wa br ba g be := by
  unfold tail12
  rw [part12]
  simp only [bind_assoc, pure_bind, tail13_eq]
  rfl

theorem tail11_eq (y : FVec F (Net.M 1024 3) .f32) : tail11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (placeOf sf key0 1 y) (Scalar.ofBits .f32 0x00000000#32) (broadcast (Net.M 1024 1024) (Scalar.ofBits .f32 0x3F800000#32))
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 y := by
  unfold tail11
  rw [part11]
  simp only [bind_assoc, pure_bind, tail12_eq]
  rfl

theorem tail10_eq (y : FVec F (Net.M 1024 3) .f32) : tail10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (placeOf sf key2 2 y) (broadcast (Net.M 1024 1024) (Scalar.ofBits .f32 0x3F800000#32)) (broadcast (Net.M 1024 1024) (Scalar.ofBits .f32 0x00000000#32))
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key2 2 y) := by
  unfold tail10
  rw [part10]
  simp only [bind_assoc, pure_bind, tail11_eq]

theorem tail9_eq (y : FVec F (Net.M 1024 3) .f32) : tail9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (hot (placeOf sf key1 3 y))
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key2 2 (Net.sortStep sf key1 3 y)) := by
  unfold tail9
  rw [part9]
  simp only [bind_assoc, pure_bind, tail10_eq]

theorem tail8_eq (y : FVec F (Net.M 1024 3) .f32) : tail8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (hot (placeOf sf key0 4 y)) (truncf .bf16 y Net.narrows)
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key2 2 (Net.sortStep sf key1 3 (Net.sortStep sf key0 4 y))) := by
  unfold tail8
  rw [part8]
  simp only [bind_assoc, pure_bind, tail9_eq]

theorem tail7_eq (y : FVec F (Net.M 1024 3) .f32) : tail7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 y (hot (placeOf sf key2 5 y)) (limb y)
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key2 2 (Net.sortStep sf key1 3 (Net.sortStep sf key0 4 (Net.sortStep sf key2 5 y)))) := by
  unfold tail7
  rw [part7]
  simp only [bind_assoc, pure_bind, tail8_eq]

theorem tail6_eq (y : FVec F (Net.M 1024 3) .f32) : tail6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key1 6 y)) (limb y) (subf y (limb y))
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key2 2 (Net.sortStep sf key1 3 (Net.sortStep sf key0 4 (Net.sortStep sf key2 5 (Net.sortStep sf key1 6 y))))) := by
  unfold tail6
  rw [part6]
  simp only [bind_assoc, pure_bind, tail7_eq]

theorem tail5_eq (y : FVec F (Net.M 1024 3) .f32) : tail5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key0 7 y)) (limb y) (subf y (limb y)) (truncf .bf16 (subf y (limb y)) Net.narrows)
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key2 2 (Net.sortStep sf key1 3 (Net.sortStep sf key0 4 (Net.sortStep sf key2 5 (Net.sortStep sf key1 6 (Net.sortStep sf key0 7 y)))))) := by
  unfold tail5
  rw [part5]
  simp only [bind_assoc, pure_bind, tail6_eq]

theorem tail4_eq (y : FVec F (Net.M 1024 3) .f32) : tail4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key2 8 y)) (limb y) (subf y (limb y)) (limb (subf y (limb y)))
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key2 2 (Net.sortStep sf key1 3 (Net.sortStep sf key0 4 (Net.sortStep sf key2 5 (Net.sortStep sf key1 6 (Net.sortStep sf key0 7 (Net.sortStep sf key2 8 y))))))) := by
  unfold tail4
  rw [part4]
  simp only [bind_assoc, pure_bind, tail5_eq]

theorem tail3_eq (y : FVec F (Net.M 1024 3) .f32) : tail3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key1 9 y)) (limb y) (limb (subf y (limb y))) (subf (subf y (limb y)) (limb (subf y (limb y))))
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key2 2 (Net.sortStep sf key1 3 (Net.sortStep sf key0 4 (Net.sortStep sf key2 5 (Net.sortStep sf key1 6 (Net.sortStep sf key0 7 (Net.sortStep sf key2 8 (Net.sortStep sf key1 9 y)))))))) := by
  unfold tail3
  rw [part3]
  simp only [bind_assoc, pure_bind, tail4_eq]

theorem tail2_eq (y : FVec F (Net.M 1024 3) .f32) : tail2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (hot (placeOf sf key0 10 y)) (limbs sf.pk y)
    = flat11 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 (Net.sortStep sf key2 2 (Net.sortStep sf key1 3 (Net.sortStep sf key0 4 (Net.sortStep sf key2 5 (Net.sortStep sf key1 6 (Net.sortStep sf key0 7 (Net.sortStep sf key2 8 (Net.sortStep sf key1 9 (Net.sortStep sf key0 10 y))))))))) := by
  unfold tail2
  rw [part2]
  simp only [bind_assoc, pure_bind, tail3_eq]

/-- The body as loads and one store. -/
def flat : ℙ F PUnit :=
    (Prog.lift (.load arg1 (Rect.unit (s := S1x1024x3) ![0, 0, 0] S1x1024x3.size inb_S1x1024x3_S1x1024x3_0_0_0).toLoadRect (View.loadsAt_vmem h_S1x1024x3)) : Prog (TpuEff nD τ sig (Elt F) Λ₀ .tc) (Vec F S1x1024x3 .f32)) >>= fun x1 =>
    (Prog.lift (.load arg2 (Rect.unit (s := S3x64) ![0, 0] S3x64.size inb_S3x64_S3x64_0_0).toLoadRect (View.loadsAt_vmem h_S3x64)) : Prog (TpuEff nD τ sig (Elt F) Λ₀ .tc) (Vec F S3x64 .f32)) >>= fun x2 =>
    (Prog.lift (.load arg3 (Rect.unit (s := S3x64) ![0, 0] S3x64.size inb_S3x64_S3x64_0_0).toLoadRect (View.loadsAt_vmem h_S3x64)) : Prog (TpuEff nD τ sig (Elt F) Λ₀ .tc) (Vec F S3x64 .f32)) >>= fun x3 =>
    (Prog.lift (.load arg4 (Rect.unit (s := S1x64) ![0, 0] S1x64.size inb_S1x64_S1x64_0_0).toLoadRect (View.loadsAt_vmem h_S1x64)) : Prog (TpuEff nD τ sig (Elt F) Λ₀ .tc) (Vec F S1x64 .f32)) >>= fun x4 =>
    (Prog.lift (.load arg5 (Rect.unit (s := S1x64) ![0, 0] S1x64.size inb_S1x64_S1x64_0_0).toLoadRect (View.loadsAt_vmem h_S1x64)) : Prog (TpuEff nD τ sig (Elt F) Λ₀ .tc) (Vec F S1x64 .f32)) >>= fun x5 =>
    (Prog.lift (.load arg6 (Rect.unit (s := S1x64) ![0, 0] S1x64.size inb_S1x64_S1x64_0_0).toLoadRect (View.loadsAt_vmem h_S1x64)) : Prog (TpuEff nD τ sig (Elt F) Λ₀ .tc) (Vec F S1x64 .f32)) >>= fun x6 =>
    (Prog.lift (.load arg7 (Rect.unit (s := S1x64) ![0, 0] S1x64.size inb_S1x64_S1x64_0_0).toLoadRect (View.loadsAt_vmem h_S1x64)) : Prog (TpuEff nD τ sig (Elt F) Λ₀ .tc) (Vec F S1x64 .f32)) >>= fun x7 =>
    (Prog.lift (.load arg8 (Rect.unit (s := S64x64) ![0, 0] S64x64.size inb_S64x64_S64x64_0_0).toLoadRect (View.loadsAt_vmem h_S64x64)) : Prog (TpuEff nD τ sig (Elt F) Λ₀ .tc) (Vec F S64x64 .f32)) >>= fun x8 =>
    (Prog.lift (.load arg9 (Rect.unit (s := S64x64) ![0, 0] S64x64.size inb_S64x64_S64x64_0_0).toLoadRect (View.loadsAt_vmem h_S64x64)) : Prog (TpuEff nD τ sig (Elt F) Λ₀ .tc) (Vec F S64x64 .f32)) >>= fun x9 =>
    (Prog.lift (.load arg10 (Rect.unit (s := S1x64) ![0, 0] S1x64.size inb_S1x64_S1x64_0_0).toLoadRect (View.loadsAt_vmem h_S1x64)) : Prog (TpuEff nD τ sig (Elt F) Λ₀ .tc) (Vec F S1x64 .f32)) >>= fun x10 =>
    (Prog.lift (.load arg11 (Rect.unit (s := S1x64) ![0, 0] S1x64.size inb_S1x64_S1x64_0_0).toLoadRect (View.loadsAt_vmem h_S1x64)) : Prog (TpuEff nD τ sig (Elt F) Λ₀ .tc) (Vec F S1x64 .f32)) >>= fun x11 =>
    (Prog.lift (.load arg12 (Rect.unit (s := S1x64) ![0, 0] S1x64.size inb_S1x64_S1x64_0_0).toLoadRect (View.loadsAt_vmem h_S1x64)) : Prog (TpuEff nD τ sig (Elt F) Λ₀ .tc) (Vec F S1x64 .f32)) >>= fun x12 =>
    (Prog.lift (.load arg13 (Rect.unit (s := S1x64) ![0, 0] S1x64.size inb_S1x64_S1x64_0_0).toLoadRect (View.loadsAt_vmem h_S1x64)) : Prog (TpuEff nD τ sig (Elt F) Λ₀ .tc) (Vec F S1x64 .f32)) >>= fun x13 =>
    (Prog.lift (.load arg14 (Rect.unit (s := S64x128) ![0, 0] S64x128.size inb_S64x128_S64x128_0_0).toLoadRect (View.loadsAt_vmem h_S64x128)) : Prog (TpuEff nD τ sig (Elt F) Λ₀ .tc) (Vec F S64x128 .f32)) >>= fun x14 =>
    (Prog.lift (.load arg15 (Rect.unit (s := S64x128) ![0, 0] S64x128.size inb_S64x128_S64x128_0_0).toLoadRect (View.loadsAt_vmem h_S64x128)) : Prog (TpuEff nD τ sig (Elt F) Λ₀ .tc) (Vec F S64x128 .f32)) >>= fun x15 =>
    (Prog.lift (.load arg16 (Rect.unit (s := S1x128) ![0, 0] S1x128.size inb_S1x128_S1x128_0_0).toLoadRect (View.loadsAt_vmem h_S1x128)) : Prog (TpuEff nD τ sig (Elt F) Λ₀ .tc) (Vec F S1x128 .f32)) >>= fun x16 =>
    (Prog.lift (.load arg17 (Rect.unit (s := S1x128) ![0, 0] S1x128.size inb_S1x128_S1x128_0_0).toLoadRect (View.loadsAt_vmem h_S1x128)) : Prog (TpuEff nD τ sig (Elt F) Λ₀ .tc) (Vec F S1x128 .f32)) >>= fun x17 =>
    (Prog.lift (.load arg18 (Rect.unit (s := S1x128) ![0, 0] S1x128.size inb_S1x128_S1x128_0_0).toLoadRect (View.loadsAt_vmem h_S1x128)) : Prog (TpuEff nD τ sig (Elt F) Λ₀ .tc) (Vec F S1x128 .f32)) >>= fun x18 =>
    (Prog.lift (.load arg19 (Rect.unit (s := S1x128) ![0, 0] S1x128.size inb_S1x128_S1x128_0_0).toLoadRect (View.loadsAt_vmem h_S1x128)) : Prog (TpuEff nD τ sig (Elt F) Λ₀ .tc) (Vec F S1x128 .f32)) >>= fun x19 =>
    (Prog.lift (.load arg20 (Rect.unit (s := S128x256) ![0, 0] S128x256.size inb_S128x256_S128x256_0_0).toLoadRect (View.loadsAt_vmem h_S128x256)) : Prog (TpuEff nD τ sig (Elt F) Λ₀ .tc) (Vec F S128x256 .f32)) >>= fun x20 =>
    (Prog.lift (.load arg21 (Rect.unit (s := S128x256) ![0, 0] S128x256.size inb_S128x256_S128x256_0_0).toLoadRect (View.loadsAt_vmem h_S128x256)) : Prog (TpuEff nD τ sig (Elt F) Λ₀ .tc) (Vec F S128x256 .f32)) >>= fun x21 =>
    (Prog.lift (.load arg22 (Rect.unit (s := S1x256) ![0, 0] S1x256.size inb_S1x256_S1x256_0_0).toLoadRect (View.loadsAt_vmem h_S1x256)) : Prog (TpuEff nD τ sig (Elt F) Λ₀ .tc) (Vec F S1x256 .f32)) >>= fun x22 =>
    (Prog.lift (.load arg23 (Rect.unit (s := S1x256) ![0, 0] S1x256.size inb_S1x256_S1x256_0_0).toLoadRect (View.loadsAt_vmem h_S1x256)) : Prog (TpuEff nD τ sig (Elt F) Λ₀ .tc) (Vec F S1x256 .f32)) >>= fun x23 =>
    (Prog.lift (.load arg24 (Rect.unit (s := S1x256) ![0, 0] S1x256.size inb_S1x256_S1x256_0_0).toLoadRect (View.loadsAt_vmem h_S1x256)) : Prog (TpuEff nD τ sig (Elt F) Λ₀ .tc) (Vec F S1x256 .f32)) >>= fun x24 =>
    (Prog.lift (.load arg25 (Rect.unit (s := S1x256) ![0, 0] S1x256.size inb_S1x256_S1x256_0_0).toLoadRect (View.loadsAt_vmem h_S1x256)) : Prog (TpuEff nD τ sig (Elt F) Λ₀ .tc) (Vec F S1x256 .f32)) >>= fun x25 =>
    (Prog.lift (.load arg26 (Rect.unit (s := S512x1024) ![0, 0] S512x1024.size inb_S512x1024_S512x1024_0_0).toLoadRect (View.loadsAt_vmem h_S512x1024)) : Prog (TpuEff nD τ sig (Elt F) Λ₀ .tc) (Vec F S512x1024 .f32)) >>= fun x26 =>
    (Prog.lift (.load arg27 (Rect.unit (s := S1x1024) ![0, 0] S1x1024.size inb_S1x1024_S1x1024_0_0).toLoadRect (View.loadsAt_vmem h_S1x1024)) : Prog (TpuEff nD τ sig (Elt F) Λ₀ .tc) (Vec F S1x1024 .f32)) >>= fun x27 =>
    (Prog.lift (.load arg28 (Rect.unit (s := S1x1024) ![0, 0] S1x1024.size inb_S1x1024_S1x1024_0_0).toLoadRect (View.loadsAt_vmem h_S1x1024)) : Prog (TpuEff nD τ sig (Elt F) Λ₀ .tc) (Vec F S1x1024 .f32)) >>= fun x28 =>
    (Prog.lift (.load arg29 (Rect.unit (s := S1x1024) ![0, 0] S1x1024.size inb_S1x1024_S1x1024_0_0).toLoadRect (View.loadsAt_vmem h_S1x1024)) : Prog (TpuEff nD τ sig (Elt F) Λ₀ .tc) (Vec F S1x1024 .f32)) >>= fun x29 =>
    (Prog.lift (.load arg30 (Rect.unit (s := S1024x512) ![0, 0] S1024x512.size inb_S1024x512_S1024x512_0_0).toLoadRect (View.loadsAt_vmem h_S1024x512)) : Prog (TpuEff nD τ sig (Elt F) Λ₀ .tc) (Vec F S1024x512 .f32)) >>= fun x30 =>
    (Prog.lift (.load arg31 (Rect.unit (s := S1x512) ![0, 0] S1x512.size inb_S1x512_S1x512_0_0).toLoadRect (View.loadsAt_vmem h_S1x512)) : Prog (TpuEff nD τ sig (Elt F) Λ₀ .tc) (Vec F S1x512 .f32)) >>= fun x31 =>
    (Prog.lift (.load arg32 (Rect.unit (s := S1x512) ![0, 0] S1x512.size inb_S1x512_S1x512_0_0).toLoadRect (View.loadsAt_vmem h_S1x512)) : Prog (TpuEff nD τ sig (Elt F) Λ₀ .tc) (Vec F S1x512 .f32)) >>= fun x32 =>
    (Prog.lift (.load arg33 (Rect.unit (s := S1x512) ![0, 0] S1x512.size inb_S1x512_S1x512_0_0).toLoadRect (View.loadsAt_vmem h_S1x512)) : Prog (TpuEff nD τ sig (Elt F) Λ₀ .tc) (Vec F S1x512 .f32)) >>= fun x33 =>
    (Prog.lift (.load arg34 (Rect.unit (s := S512x256) ![0, 0] S512x256.size inb_S512x256_S512x256_0_0).toLoadRect (View.loadsAt_vmem h_S512x256)) : Prog (TpuEff nD τ sig (Elt F) Λ₀ .tc) (Vec F S512x256 .f32)) >>= fun x34 =>
    (Prog.lift (.load arg35 (Rect.unit (s := S1x256) ![0, 0] S1x256.size inb_S1x256_S1x256_0_0).toLoadRect (View.loadsAt_vmem h_S1x256)) : Prog (TpuEff nD τ sig (Elt F) Λ₀ .tc) (Vec F S1x256 .f32)) >>= fun x35 =>
    (Prog.lift (.load arg36 (Rect.unit (s := S1x256) ![0, 0] S1x256.size inb_S1x256_S1x256_0_0).toLoadRect (View.loadsAt_vmem h_S1x256)) : Prog (TpuEff nD τ sig (Elt F) Λ₀ .tc) (Vec F S1x256 .f32)) >>= fun x36 =>
    (Prog.lift (.load arg37 (Rect.unit (s := S1x256) ![0, 0] S1x256.size inb_S1x256_S1x256_0_0).toLoadRect (View.loadsAt_vmem h_S1x256)) : Prog (TpuEff nD τ sig (Elt F) Λ₀ .tc) (Vec F S1x256 .f32)) >>= fun x37 =>
    (Prog.lift (.load arg38 (Rect.unit (s := S256x40) ![0, 0] S256x40.size inb_S256x40_S256x40_0_0).toLoadRect (View.loadsAt_vmem h_S256x40)) : Prog (TpuEff nD τ sig (Elt F) Λ₀ .tc) (Vec F S256x40 .f32)) >>= fun x38 =>
    (Prog.lift (.load arg39 (Rect.unit (s := S1x40) ![0, 0] S1x40.size inb_S1x40_S1x40_0_0).toLoadRect (View.loadsAt_vmem h_S1x40)) : Prog (TpuEff nD τ sig (Elt F) Λ₀ .tc) (Vec F S1x40 .f32)) >>= fun x39 =>
    (Prog.lift (.load arg40 (Rect.unit (s := S1x1x40) ![0, 0, 0] S1x1x40.size inb_S1x1x40_S1x1x40_0_0_0).toLoadRect (View.loadsAt_vmem h_S1x1x40)) : Prog (TpuEff nD τ sig (Elt F) Λ₀ .tc) (Vec F S1x1x40 .f32)) >>= fun _ =>
    Prog.lift (.store arg40 (Rect.unit (s := S1x1x40) ![0, 0, 0] S1x1x40.size inb_S1x1x40_S1x1x40_0_0_0)
      (Net.out lo x1 x2 x3 x4 x5 x6 x7 x8 x9 x10 x11 x12 x13 x14 x15 x16 x17 x18 x19 x20 x21 x22 x23 x24 x25 x26 x27 x28 x29 x30 x31 x32 x33 x34 x35 x36 x37 x38 x39) Finset.univ (View.stores_vmem_bits_univ h_S1x1x40 rfl) (.inl rfl))

theorem body_eq : cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 = flat arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 := by
  have h : cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 = tail1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 := rfl
  rw [h]
  unfold tail1
  simp only [part1, bind_assoc, pure_bind, tail2_eq]
  rfl

end Cert.KernelIdeal.Body

end
-- ==== Proof.Whole.lean ====
/- One load and one store of a whole buffer, over what the buffer holds. -/
module

public import Idealize.ShloMosaic.Lib.Pipeline.FrameBody
public import Idealize.ShloMosaic.Lib.Tactic

@[expose] public section

noncomputable section

namespace Cert.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U]

local notation "𝕄" => MT nD τ sig Unit Val ℕ U ℕ

variable {defs : Defs nD τ sig Val Λ} (𝒱 : Variants) (c : Thread nD τ) (bd : Option 𝒱.V) (E : Set ℕ)
variable {cs : CoreSpace} {s : Shape} {e : EltTy}
variable {m : Memref sig c.2.kind cs s e}

/-- Loading all of a buffer hands on what it holds; the buffer moves to the front of the buffers already read. -/
theorem load_next {off : Fin s.rank → ℕ} (h : off = fun _ => 0) {inb : ∀ a, off a + s.size a ≤ s.size a}
    {hl : m.view.LoadsAt (Rect.unit off s.size inb).toLoadRect} {q : PosShare TreeShare} {X : s.Idx → Val e}
    {α : Type} {Q : α → sProp 𝕄} {k : (s.Idx → Val e) → Prog (TpuEff nD τ sig Val Λ c.2) α} {R D : sProp 𝕄}
    (hk : iprop(R ∗ (owns c m q X ∗ D)) ⊢ wp frame (wpE defs 𝒱 c bd) E (k X) Q) :
    iprop((owns c m q X ∗ R) ∗ D) ⊢ wp frame (wpE defs 𝒱 c bd) E
      ((Prog.lift (.load m (Rect.unit off s.size inb).toLoadRect hl) : Prog (TpuEff nD τ sig Val Λ c.2) (s.Idx → Val e)) >>= k) Q := by
  subst h
  show _ ⊢ wp frame (wpE defs 𝒱 c bd) E (.op (.load m (Rect.whole s).toLoadRect hl) k) Q
  iintro ⟨⟨Ho, HR⟩, HD⟩
  unfold owns at hk ⊢
  icases Ho with ⟨%f, %hf, H⟩
  iapply (wp_load 𝒱 c bd E (View.setOn_subset_set _ _)) $$ H
  iintro H
  have hv : m.view.readAt Val (Rect.whole s).toLoadRect f = X := by
    rw [← hf]; funext x
    exact congrArg (m.view.read Val f) (Rect.emb_whole_apply s x)
  rw [hv]
  iapply hk
  isplitl [HR]; · iexact HR
  isplitl [H]
  · iexists f; isplitr
    · ipureintro; exact hf
    · iexact H
  iexact HD

/-- Storing to all of a buffer leaves it at the stored value. -/
theorem store_last {off : Fin s.rank → ℕ} (h : off = fun _ => 0) {inb : ∀ a, off a + s.size a ≤ s.size a}
    {w : s.Idx → Val e} {hx : (m.access (Rect.unit off s.size inb)).Stores Finset.univ}
    {hm : (Finset.univ : Finset (Rect.unit off s.size inb).shape.Idx) = Finset.univ ∨ ∀ a, (Rect.unit off s.size inb).stride a = 1}
    {X : s.Idx → Val e} {Q : PUnit → sProp 𝕄} {R : sProp 𝕄} (hk : iprop(R ∗ owns c m fullShare w) ⊢ Q ⟨⟩) :
    iprop(R ∗ owns c m fullShare X) ⊢ wp frame (wpE defs 𝒱 c bd) E
      (Prog.lift (.store m (Rect.unit off s.size inb) w Finset.univ hx hm) : Prog (TpuEff nD τ sig Val Λ c.2) PUnit) Q := by
  subst h
  show _ ⊢ wp frame (wpE defs 𝒱 c bd) E (.op (.store m (Rect.whole s) w Finset.univ hx hm) fun x => .ret x) Q
  iintro ⟨HR, Ho⟩
  unfold owns at hk ⊢
  icases Ho with ⟨%f, %hf, H⟩
  iapply (wp_store (m := m) (r := Rect.whole s) (w := w) (Mk := Finset.univ) (hx := hx) (hm := hm) (S := m.view.set) (f := f) 𝒱 c bd E
    (by rw [View.setOn_univ]; exact View.set_slice_subset _ _)) $$ [H]
  · iexact H
  iintro H
  rw [wp_ret]
  imodintro
  iapply hk
  isplitl [HR]; · iexact HR
  iexists _
  isplitr
  rotate_left
  · iexact H
  · ipureintro
    funext x
    have h1 := congrFun (View.read_write_univ (v := m.access (Rect.whole s)) (Val := Val) f w) x
    rw [← h1]
    exact (congrArg (m.view.read Val _) (Rect.emb_whole_apply s x)).symm

/-- A last buffer of unknown contents, loaded unused and then stored to. -/
theorem load_store {off : Fin s.rank → ℕ} (h : off = fun _ => 0) {inb : ∀ a, off a + s.size a ≤ s.size a}
    {hl : m.view.LoadsAt (Rect.unit off s.size inb).toLoadRect}
    {w : s.Idx → Val e} {hx : (m.access (Rect.unit off s.size inb)).Stores Finset.univ}
    {hm : (Finset.univ : Finset (Rect.unit off s.size inb).shape.Idx) = Finset.univ ∨ ∀ a, (Rect.unit off s.size inb).stride a = 1}
    {Q : PUnit → sProp 𝕄} {R D : sProp 𝕄} (hk : iprop((R ∗ D) ∗ owns c m fullShare w) ⊢ Q ⟨⟩) :
    iprop(((∃ d, owns c m fullShare d) ∗ R) ∗ D) ⊢ wp frame (wpE defs 𝒱 c bd) E
      ((Prog.lift (.load m (Rect.unit off s.size inb).toLoadRect hl) : Prog (TpuEff nD τ sig Val Λ c.2) (s.Idx → Val e)) >>= fun _ =>
        (Prog.lift (.store m (Rect.unit off s.size inb) w Finset.univ hx hm) : Prog (TpuEff nD τ sig Val Λ c.2) PUnit)) Q := by
  have hd (d : s.Idx → Val e) : iprop((owns c m fullShare d ∗ R) ∗ D) ⊢ wp frame (wpE defs 𝒱 c bd) E
      ((Prog.lift (.load m (Rect.unit off s.size inb).toLoadRect hl) : Prog (TpuEff nD τ sig Val Λ c.2) (s.Idx → Val e)) >>= fun _ =>
        (Prog.lift (.store m (Rect.unit off s.size inb) w Finset.univ hx hm) : Prog (TpuEff nD τ sig Val Λ c.2) PUnit)) Q := by
    refine load_next 𝒱 c bd E h ?_
    have hr : iprop(R ∗ (owns c m fullShare d ∗ D)) ⊢ iprop((R ∗ D) ∗ owns c m fullShare d) := by
      iintro ⟨HR, Ho, HD⟩
      isplitr [Ho]
      · isplitl [HR]; · iexact HR
        iexact HD
      · iexact Ho
    exact hr.trans (store_last 𝒱 c bd E h hk)
  iintro ⟨⟨⟨%d, Ho⟩, HR⟩, HD⟩
  iapply (hd d)
  isplitr [HD]
  · isplitl [Ho]; · iexact Ho
    iexact HR
  · iexact HD

end Cert.Whole

end
-- ==== Proof.Run.lean ====
/- The kernel's body run once on whole buffers: every operand is left as it was, the result's
   buffer ends at `Net.out` of them. -/
module

public import proofs.«01_k».proof.Proof.Gen.KernelIdeal.Frame.Runs
public import proofs.«01_k».proof.Proof.Flat
public import proofs.«01_k».proof.Proof.Whole

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- What the body leaves in the result's buffer, and that it runs. -/
theorem bodyRun (c : Dev nD) (i : grid0.Coords) (arg1 : Memref sig .tc .vmem S1x1024x3 .f32) (harg1 : arg1.IsWhole) (arg2 : Memref sig .tc .vmem S3x64 .f32) (harg2 : arg2.IsWhole) (arg3 : Memref sig .tc .vmem S3x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x256 .f32) (harg20 : arg20.IsWhole) (arg21 : Memref sig .tc .vmem S128x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S512x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1024x512 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S512x256 .f32) (harg34 : arg34.IsWhole) (arg35 : Memref sig .tc .vmem S1x256 .f32) (harg35 : arg35.IsWhole) (arg36 : Memref sig .tc .vmem S1x256 .f32) (harg36 : arg36.IsWhole) (arg37 : Memref sig .tc .vmem S1x256 .f32) (harg37 : arg37.IsWhole) (arg38 : Memref sig .tc .vmem S256x40 .f32) (harg38 : arg38.IsWhole) (arg39 : Memref sig .tc .vmem S1x40 .f32) (harg39 : arg39.IsWhole) (arg40 : Memref sig .tc .vmem S1x1x40 .f32) (harg40 : arg40.IsWhole)
    (x0 : Vec F S1x1024x3 .f32) (x1 : Vec F S3x64 .f32) (x2 : Vec F S3x64 .f32) (x3 : Vec F S1x64 .f32) (x4 : Vec F S1x64 .f32) (x5 : Vec F S1x64 .f32) (x6 : Vec F S1x64 .f32) (x7 : Vec F S64x64 .f32) (x8 : Vec F S64x64 .f32) (x9 : Vec F S1x64 .f32) (x10 : Vec F S1x64 .f32) (x11 : Vec F S1x64 .f32) (x12 : Vec F S1x64 .f32) (x13 : Vec F S64x128 .f32) (x14 : Vec F S64x128 .f32) (x15 : Vec F S1x128 .f32) (x16 : Vec F S1x128 .f32) (x17 : Vec F S1x128 .f32) (x18 : Vec F S1x128 .f32) (x19 : Vec F S128x256 .f32) (x20 : Vec F S128x256 .f32) (x21 : Vec F S1x256 .f32) (x22 : Vec F S1x256 .f32) (x23 : Vec F S1x256 .f32) (x24 : Vec F S1x256 .f32) (x25 : Vec F S512x1024 .f32) (x26 : Vec F S1x1024 .f32) (x27 : Vec F S1x1024 .f32) (x28 : Vec F S1x1024 .f32) (x29 : Vec F S1024x512 .f32) (x30 : Vec F S1x512 .f32) (x31 : Vec F S1x512 .f32) (x32 : Vec F S1x512 .f32) (x33 : Vec F S512x256 .f32) (x34 : Vec F S1x256 .f32) (x35 : Vec F S1x256 .f32) (x36 : Vec F S1x256 .f32) (x37 : Vec F S256x40 .f32) (x38 : Vec F S1x40 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare x37 ∗ owns (c : Thread nD τ) arg39 fullShare x38 ∗ (∃ d, owns (c : Thread nD τ) arg40 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare x37 ∗ owns (c : Thread nD τ) arg39 fullShare x38 ∗ owns (c : Thread nD τ) arg40 fullShare (Net.out Cert.KernelIdeal.Body.lo x0 x1 x2 x3 x4 x5 x6 x7 x8 x9 x10 x11 x12 x13 x14 x15 x16 x17 x18 x19 x20 x21 x22 x23 x24 x25 x26 x27 x28 x29 x30 x31 x32 x33 x34 x35 x36 x37 x38)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  intro E K
  rw [Cert.KernelIdeal.Body.body_eq]
  unfold Cert.KernelIdeal.Body.flat
  have z2 : (![0, 0] : Fin 2 → ℕ) = fun _ => 0 := by funext a; fin_cases a <;> rfl
  have z3 : (![0, 0, 0] : Fin 3 → ℕ) = fun _ => 0 := by funext a; fin_cases a <;> rfl
  refine BI.sep_emp_intro.trans ?_
  refine Whole.load_next _ _ _ _ z3 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_next _ _ _ _ z2 ?_
  refine Whole.load_store _ _ _ _ z3 ?_
  iintro ⟨⟨Hk, H38, H37, H36, H35, H34, H33, H32, H31, H30, H29, H28, H27, H26, H25, H24, H23, H22, H21, H20, H19, H18, H17, H16, H15, H14, H13, H12, H11, H10, H9, H8, H7, H6, H5, H4, H3, H2, H1, H0, _⟩, H39⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  iexact H39

end Cert.KernelIdeal.Gen

end
-- ==== Proof.Frame.lean ====
/- What the run writes at each grid point, the launch's proof data over it, and the frame. The set-up
   follows the generated one; the run it uses is this proof's own. -/
module

public import proofs.«01_k».proof.Proof.Run
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t`: the run's contents at
    the point's memrefs and input blocks. -/
def outsAt0 (c : Dev nD) (t : Fin cfg0.N) : Vec F S1x1x40 .f32 :=
  Net.out Cert.KernelIdeal.Body.lo (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => (outsAt0 m c t)
    | ⟨_ + 40, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_39 (c : Dev nD) (t : Fin cfg0.N) : (dats m 0 c).after 39 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
theorem before0_35 (c : Dev nD) (t : Fin cfg0.N) (d) : (dats m 0 c).before 35 t d = iblk m c 35 t :=
  before0_35_of m (dats m 0 c) (A_eq m c 35) (after0_35 m c) t d
theorem before0_36 (c : Dev nD) (t : Fin cfg0.N) (d) : (dats m 0 c).before 36 t d = iblk m c 36 t :=
  before0_36_of m (dats m 0 c) (A_eq m c 36) (after0_36 m c) t d
theorem before0_37 (c : Dev nD) (t : Fin cfg0.N) (d) : (dats m 0 c).before 37 t d = iblk m c 37 t :=
  before0_37_of m (dats m 0 c) (A_eq m c 37) (after0_37 m c) t d
theorem before0_38 (c : Dev nD) (t : Fin cfg0.N) (d) : (dats m 0 c).before 38 t d = iblk m c 38 t :=
  before0_38_of m (dats m 0 c) (A_eq m c 38) (after0_38 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t))

set_option maxHeartbeats 4000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39]
  unfold outsAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩⟩
  iapply (bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexists _; iexact H39
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  iexact H39

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38))
      ∧ r.2.sem = fun _ => 0) :=
  θ_run_and (unchanged m ρ) ((θ_run defs _ _).mono (fun _ h => h.2) (run_main_quiescent m ρ))

end Cert.KernelIdeal.Gen

end
-- ==== Proof.Pick.lean ====
/- Over the extended reals, a one-hot product of three limbs picks the rows it names: for real entries the second and third limbs
   are zero, and every other product is. -/
module

public import proofs.«01_k».proof.Proof.Net
public import Idealize.ShloMosaic.Lib.ValueLayout
public import Idealize.ShloMosaic.Lib.ValueLayoutCasts
public import Idealize.ShloMosaic.PureOps.Ideal.Laws

@[expose] public section

namespace Cert.Net

open Idealize.ShloMosaic Idealize.ShloMosaic.ValueIdx

/-- A real extended real. -/
def IsReal (x : EReal) : Prop := ∃ r : ℝ, x = r

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type} (s : Finset ι) {f : ι → EReal} (h : ∀ i ∈ s, IsReal (f i)) : IsReal (∑ i ∈ s, f i) := by
  classical
  induction s using Finset.induction_on with
  | empty => exact .zero
  | insert a s ha ih =>
    rw [Finset.sum_insert ha]
    exact (h a (by simp)).add (ih fun i hi => h i (by simp [hi]))
theorem IsReal.sub_self {x : EReal} (hx : IsReal x) : x - x = 0 := by
  obtain ⟨a, rfl⟩ := hx; rw [← EReal.coe_sub]; simp
theorem IsReal.ne_top {x : EReal} (hx : IsReal x) : x ≠ ⊤ := by
  obtain ⟨a, rfl⟩ := hx; exact EReal.coe_ne_top a
theorem IsReal.ne_bot {x : EReal} (hx : IsReal x) : x ≠ ⊥ := by
  obtain ⟨a, rfl⟩ := hx; exact EReal.coe_ne_bot a

theorem one_f32 : (Scalar.ofBits .f32 0x3F800000#32 : Ideal .f32) = (1 : EReal) := by
  show Ideal.ofBits .f32 0x3F800000#32 = 1
  simp [Ideal.ofBits, Ideal.ieee, -EReal.coe_mul]; norm_num
theorem zero_f32 : (Scalar.ofBits .f32 0x00000000#32 : Ideal .f32) = (0 : EReal) := Ideal.ofBits_zero_f32

section

variable {n m d w o2 : ℕ}

theorem limb_apply (y : FVec Ideal (M n d) .f32) (i : (M n d).Idx) : limb y i = y i := rfl

/-- The first limb's columns. -/
theorem limbs_apply0 (h : PickFacts n m d w o2) (y : FVec Ideal (M n d) .f32) (j : Fin n) (e : Fin d) (c : Fin w) (hc : c.val = e.val) :
    limbs h y (ix2 j c) = y (ix2 j e) := by
  refine concatenate_apply_piece (t := M n w) (1 : Fin 2) [⟨M n d, limb y⟩, ⟨M n d, limb (subf y (limb y))⟩,
    ⟨M n d, subf (subf y (limb y)) (limb (subf y (limb y)))⟩] h.cat (ix2 j c) 0 (by simp) (M n d) (limb y) rfl rfl 0 rfl (ix2 j e) ?_ ?_
  · intro b hb
    match b with
    | ⟨0, _⟩ => rfl
    | ⟨1, _⟩ => exact absurd rfl hb
  · show 0 + e.val = c.val
    omega

/-- The second limb's columns. -/
theorem limbs_apply1 (h : PickFacts n m d w o2) (y : FVec Ideal (M n d) .f32) (j : Fin n) (e : Fin d) (c : Fin w)
    (hc : c.val = d + e.val) : limbs h y (ix2 j c) = y (ix2 j e) - y (ix2 j e) := by
  refine concatenate_apply_piece (t := M n w) (1 : Fin 2) [⟨M n d, limb y⟩, ⟨M n d, limb (subf y (limb y))⟩,
    ⟨M n d, subf (subf y (limb y)) (limb (subf y (limb y)))⟩] h.cat (ix2 j c) 1 (by simp) (M n d) (limb (subf y (limb y))) rfl rfl d ?_ (ix2 j e) ?_ ?_
  · simp [Shape.size]
  · intro b hb
    match b with
    | ⟨0, _⟩ => rfl
    | ⟨1, _⟩ => exact absurd rfl hb
  · show d + e.val = c.val
    omega

/-- The third limb's columns. -/
theorem limbs_apply2 (h : PickFacts n m d w o2) (y : FVec Ideal (M n d) .f32) (j : Fin n) (e : Fin d) (c : Fin w)
    (hc : c.val = d + d + e.val) :
    limbs h y (ix2 j c) = (y (ix2 j e) - y (ix2 j e)) - (y (ix2 j e) - y (ix2 j e)) := by
  refine concatenate_apply_piece (t := M n w) (1 : Fin 2) [⟨M n d, limb y⟩, ⟨M n d, limb (subf y (limb y))⟩,
    ⟨M n d, subf (subf y (limb y)) (limb (subf y (limb y)))⟩] h.cat (ix2 j c) 2 (by simp) (M n d) (subf (subf y (limb y)) (limb (subf y (limb y))))
    rfl rfl (d + d) ?_ (ix2 j e) ?_ ?_
  · simp [Shape.size]
  · intro b hb
    match b with
    | ⟨0, _⟩ => rfl
    | ⟨1, _⟩ => exact absurd rfl hb
  · show d + d + e.val = c.val
    omega

theorem hot_apply (c : IVec (M m n) 1) (i : (M m n).Idx) : (hot c : FVec Ideal (M m n) .f32) i = if c i = 1#1 then (1 : EReal) else 0 := by
  show Scalar.select (c i) (Scalar.ofBits .f32 0x3F800000#32 : Ideal .f32) (Scalar.ofBits .f32 0x00000000#32) = _
  rw [one_f32, zero_f32]
  unfold Scalar.select
  by_cases hc : c i = 1#1
  · rw [if_pos hc, hc]; rfl
  · rw [if_neg hc, if_neg]; simpa using hc

/-- A plain product into zeros, read at an index. -/
theorem matmul0_apply {a b c : ℕ} (x : FVec Ideal (M a b) .f32) (y : FVec Ideal (M b c) .f32) (i : Fin a) (j : Fin c) :
    matmul (DotDims.plain a b c) none x y (constant (M a c) .f32 0x00000000#32) (ix2 i j) = ∑ k : Fin b, x (ix2 i k) * y (ix2 k j) := by
  refine (Ideal.matmul_plain_apply none x y _ i j).trans ?_
  show Ideal.ofBits .f32 0x00000000#32 + _ = _
  rw [Ideal.ofBits_zero_f32, zero_add]

/-- A one-hot row picks one entry. -/
theorem hot_sum (c : IVec (M m n) 1) (i : Fin m) (τ : Fin n) (hτ : ∀ j, c (ix2 i j) = 1#1 ↔ j = τ) (f : Fin n → EReal) :
    ∑ j : Fin n, (hot c : FVec Ideal (M m n) .f32) (ix2 i j) * f j = f τ := by
  rw [Finset.sum_eq_single τ]
  · rw [hot_apply, if_pos ((hτ τ).2 rfl), one_mul]
  · intro j _ hj
    rw [hot_apply, if_neg fun h => hj ((hτ j).1 h), zero_mul]
  · intro h; exact absurd (Finset.mem_univ _) h

/-- The rows a one-hot matrix picks. -/
theorem pick_apply (h : PickFacts n m d w o2) (hw : w = d + d + d) (ho : o2 = d + d) (c : IVec (M m n) 1) (y : FVec Ideal (M n d) .f32)
    (hy : ∀ i, IsReal (y i)) (i : Fin m) (τ : Fin n) (hτ : ∀ j, c (ix2 i j) = 1#1 ↔ j = τ) (e : Fin d) :
    pick h (hot c) (limbs h y) (ix2 i e) = y (ix2 τ e) := by
  have he := e.isLt
  have h0 : IsReal (y (ix2 τ e)) := hy _
  show (extractStridedSlice (M m d) ![0, 0] (matmul (DotDims.plain m n w) none (hot c) (limbs h y) (constant (M m w) .f32 0x00000000#32)) h.s0 (ix2 i e)
      + extractStridedSlice (M m d) ![0, d] (matmul (DotDims.plain m n w) none (hot c) (limbs h y) (constant (M m w) .f32 0x00000000#32)) h.s1 (ix2 i e))
      + extractStridedSlice (M m d) ![0, o2] (matmul (DotDims.plain m n w) none (hot c) (limbs h y) (constant (M m w) .f32 0x00000000#32)) h.s2 (ix2 i e)
      = (y (ix2 τ e) : EReal)
  rw [slice2_axis1_apply 0 _ h.s0 i e ⟨e.val, by omega⟩ (by simp), slice2_axis1_apply d _ h.s1 i e ⟨d + e.val, by omega⟩ rfl,
    slice2_axis1_apply o2 _ h.s2 i e ⟨o2 + e.val, by omega⟩ rfl, matmul0_apply, matmul0_apply, matmul0_apply,
    hot_sum c i τ hτ (fun j => limbs h y (ix2 j _)), hot_sum c i τ hτ (fun j => limbs h y (ix2 j _)),
    hot_sum c i τ hτ (fun j => limbs h y (ix2 j _)), limbs_apply0 h y τ e _ rfl, limbs_apply1 h y τ e _ rfl,
    limbs_apply2 h y τ e _ (by simp only; omega), h0.sub_self]
  simp

end

end Cert.Net
-- ==== Proof.Order.lean ====
/- A stable sort of a finite family of keys: the order it gives, and how many keys come after each place. -/
module

public import Idealize.ShloMosaic.Lib.SortFacts
public import Mathlib.Order.Interval.Finset.Fin

@[expose] public section

namespace Cert.Order

open Idealize.ShloMosaic

variable {α : Type} [LinearOrder α] {n : ℕ}

/-- Keys first, earlier places first among equal keys. -/
def Lex (key : Fin n → α) (a b : Fin n) : Prop := key a < key b ∨ key a = key b ∧ a < b

theorem lex_irrefl (key : Fin n → α) (a : Fin n) : ¬ Lex key a a := by
  rintro (h | ⟨_, h⟩) <;> exact lt_irrefl _ h

theorem lex_asymm (key : Fin n → α) {a b : Fin n} (h : Lex key a b) : ¬ Lex key b a := by
  rintro (h' | ⟨e', h'⟩) <;> rcases h with h | ⟨e, h⟩
  · exact lt_asymm h h'
  · exact absurd e (ne_of_gt h')
  · exact absurd e' (ne_of_gt h)
  · exact lt_asymm h h'

theorem lex_total (key : Fin n → α) {a b : Fin n} (h : a ≠ b) : Lex key a b ∨ Lex key b a := by
  rcases lt_trichotomy (key a) (key b) with k | k | k
  · exact .inl (.inl k)
  · rcases lt_or_gt_of_ne h with l | l
    · exact .inl (.inr ⟨k, l⟩)
    · exact .inr (.inr ⟨k.symm, l⟩)
  · exact .inr (.inl k)

theorem insert_lex (key : Fin n → α) (before : Fin n → Fin n → Bool) (hb : ∀ a b, before a b = true ↔ key a < key b) (a : Fin n) :
    ∀ l : List (Fin n), (∀ b ∈ l, a < b) → l.Pairwise (Lex key) → (insertBefore before a l).Pairwise (Lex key)
  | [], _, _ => by simp [insertBefore]
  | b :: l, ha, hl => by
    obtain ⟨hbl, hl'⟩ := List.pairwise_cons.1 hl
    have hab : a < b := ha b (by simp)
    rw [insertBefore]
    split
    · rename_i hba
      have hk := (hb b a).1 hba
      refine List.pairwise_cons.2 ⟨fun c hc => ?_, insert_lex key before hb a l (fun c hc => ha c (by simp [hc])) hl'⟩
      rcases List.mem_cons.1 ((perm_insertBefore before a l).mem_iff.1 hc) with rfl | hc
      · exact .inl hk
      · exact hbl c hc
    · rename_i hba
      have hk : key a ≤ key b := not_lt.1 fun h => hba ((hb b a).2 h)
      refine List.pairwise_cons.2 ⟨fun c hc => ?_, hl⟩
      have hac : a < c := ha c hc
      have hkc : key a ≤ key c := by
        rcases List.mem_cons.1 hc with rfl | hc
        · exact hk
        · rcases hbl c hc with h | ⟨h, _⟩
          · exact hk.trans h.le
          · exact hk.trans h.le
      rcases hkc.lt_or_eq with h | h
      · exact .inl h
      · exact .inr ⟨h, hac⟩

theorem stableSort_lex (key : Fin n → α) (before : Fin n → Fin n → Bool) (hb : ∀ a b, before a b = true ↔ key a < key b) :
    ∀ l : List (Fin n), l.Pairwise (· < ·) → (stableSort before l).Pairwise (Lex key)
  | [], _ => by simp [stableSort]
  | a :: l, h => by
    obtain ⟨ha, hl⟩ := List.pairwise_cons.1 h
    refine insert_lex key before hb a _ (fun b hb' => ha b ?_) (stableSort_lex key before hb l hl)
    exact (perm_stableSort before l).mem_iff.1 hb'

/-- The stable sort's places go up in the keys, and in the old places among equal keys. -/
theorem sortedFrom_lex (key : Fin n → α) (before : Fin n → Fin n → Bool) (hb : ∀ a b, before a b = true ↔ key a < key b)
    {i j : Fin n} (hij : i < j) : Lex key (sortedFrom before i) (sortedFrom before j) := by
  have h := stableSort_lex key before hb (List.finRange n) (List.pairwise_lt_finRange n)
  have := List.pairwise_iff_getElem.1 h i.val j.val
  simp only [sortedFrom, sortPositions]
  exact this _ _ hij

/-- A way of ordering keys as the stable sort does. -/
structure Sorts (key : Fin n → α) (σ : Fin n → Fin n) : Prop where
  bij : Function.Bijective σ
  up : ∀ {i j : Fin n}, i < j → Lex key (σ i) (σ j)

theorem sorts_sortedFrom (key : Fin n → α) (before : Fin n → Fin n → Bool) (hb : ∀ a b, before a b = true ↔ key a < key b) :
    Sorts key (sortedFrom before) where
  bij := ⟨sortedFrom_injective before, sortedFrom_surjective before⟩
  up h := sortedFrom_lex key before hb h

theorem Sorts.lex_iff {key : Fin n → α} {σ : Fin n → Fin n} (h : Sorts key σ) (i j : Fin n) : Lex key (σ i) (σ j) ↔ i < j := by
  refine ⟨fun hl => ?_, h.up⟩
  rcases lt_trichotomy i j with k | rfl | k
  · exact k
  · exact absurd hl (lex_irrefl _ _)
  · exact absurd (h.up k) (lex_asymm key hl)

open Classical in
/-- As many keys come after the one put at place `r` as there are places after `r`. -/
theorem Sorts.card_after {key : Fin n → α} {σ : Fin n → Fin n} (h : Sorts key σ) (r : Fin n) :
    (Finset.univ.filter fun k => Lex key (σ r) k).card = n - 1 - r.val := by
  rw [← Fin.card_Ioi r, ← Finset.card_image_of_injective (Finset.Ioi r) h.bij.1]
  congr 1
  ext k
  obtain ⟨i, rfl⟩ := h.bij.2 k
  simp [h.lex_iff, h.bij.1.eq_iff]

open Classical in
/-- Sorting block by block: a row's place in its block is the block's last less the count of the rows of its block that come after
    it, and no other row has it. -/
theorem place_iff {N B s : ℕ} (hN : N = B * s) (key : Fin N → α) (at' : Fin B → Fin s → Fin N)
    (hat : ∀ b k, (at' b k).val = b.val * s + k.val) (σ : Fin B → Fin s → Fin s)
    (hσ : ∀ b, Sorts (fun k => key (at' b k)) (σ b)) (b : Fin B) (r : Fin s) (j : Fin N) :
    (at' b r).val + (Finset.univ.filter fun i => Lex key j i ∧ i.val / s = j.val / s).card + 1 = j.val / s * s + s ↔
      j = at' b (σ b r) := by
  have hs : 0 < s := Fin.pos r
  have hdiv : ∀ b k, (at' b k).val / s = b.val := fun b k => by
    rw [hat, Nat.mul_comm, Nat.mul_add_div hs, Nat.div_eq_of_lt k.isLt, Nat.add_zero]
  have hinj : ∀ {b k b' k'}, at' b k = at' b' k' → b = b' ∧ k = k' := fun {b k b' k'} e => by
    have e1 : b = b' := Fin.ext (by rw [← hdiv b k, ← hdiv b' k', e])
    subst e1
    have e2 := congrArg Fin.val e
    rw [hat, hat] at e2
    exact ⟨rfl, Fin.ext (by omega)⟩
  have hsurj : ∀ j : Fin N, ∃ b k, j = at' b k := fun j => by
    have hj := j.isLt
    have hb : j.val / s < B := Nat.div_lt_of_lt_mul (by rw [Nat.mul_comm]; omega)
    refine ⟨⟨j.val / s, hb⟩, ⟨j.val % s, Nat.mod_lt _ hs⟩, Fin.ext ?_⟩
    rw [hat]
    simp only
    rw [Nat.mul_comm]
    exact (Nat.div_add_mod _ _).symm
  have hcnt : ∀ b' r', (Finset.univ.filter fun i => Lex key (at' b' (σ b' r')) i ∧ i.val / s = (at' b' (σ b' r')).val / s).card
      = s - 1 - r'.val := fun b' r' => by
    rw [← (hσ b').card_after r', ← Finset.card_image_of_injective _ (f := at' b') (fun k k' e => (hinj e).2)]
    congr 1
    ext i
    obtain ⟨b'', k, rfl⟩ := hsurj i
    simp only [Finset.mem_filter, Finset.mem_univ, true_and, Finset.mem_image, hdiv]
    constructor
    · rintro ⟨hl, hb⟩
      obtain rfl : b'' = b' := Fin.ext hb
      refine ⟨k, ?_, rfl⟩
      rcases hl with hl | ⟨e, hl⟩
      · exact .inl hl
      · refine .inr ⟨e, ?_⟩
        rw [Fin.lt_def, hat, hat] at hl
        rw [Fin.lt_def]; omega
    · rintro ⟨k', hl, e⟩
      obtain ⟨rfl, rfl⟩ := hinj e
      refine ⟨?_, rfl⟩
      rcases hl with hl | ⟨e', hl⟩
      · exact .inl hl
      · refine .inr ⟨e', ?_⟩
        rw [Fin.lt_def, hat, hat]
        rw [Fin.lt_def] at hl; omega
  obtain ⟨b', k, rfl⟩ := hsurj j
  obtain ⟨r', rfl⟩ := (hσ b').bij.2 k
  rw [hcnt, hdiv, hat]
  have h1 := r.isLt
  have h2 := r'.isLt
  constructor
  · intro h
    have hb : b = b' := by
      refine Fin.ext ?_
      rcases lt_trichotomy b.val b'.val with h' | h' | h'
      · have : (b.val + 1) * s ≤ b'.val * s := Nat.mul_le_mul_right _ h'
        rw [Nat.add_mul, Nat.one_mul] at this; omega
      · exact h'
      · have : (b'.val + 1) * s ≤ b.val * s := Nat.mul_le_mul_right _ h'
        rw [Nat.add_mul, Nat.one_mul] at this; omega
    subst hb
    obtain rfl : r = r' := Fin.ext (by omega)
    rfl
  · intro h
    obtain ⟨rfl, hk⟩ := hinj h
    obtain rfl := (hσ b').bij.1 hk
    omega

end Cert.Order
-- ==== Proof.Sorted.lean ====
/- Over the extended reals a sort step orders the rows within each block: the row a place gets is the one the stable sort of the
   block's keys puts there. -/
module

public import proofs.«01_k».proof.Proof.Pick
public import proofs.«01_k».proof.Proof.Order
public import Idealize.ShloMosaic.Lib.PackedFields
public import Idealize.ShloMosaic.Lib.WordCmp

@[expose] public section

namespace Cert.Net

open Idealize.ShloMosaic Idealize.ShloMosaic.ValueIdx

/-- A word shifted right is its quotient. -/
theorem shift_word (u : ArithUnit) (i sh : ℕ) (hi : i < 2048) (hs : sh ≤ 10) :
    IntOp.shrsi u (BitVec.ofNat 32 i) (BitVec.ofNat 32 sh) = BitVec.ofNat 32 (i / 2 ^ sh) := by
  have hp : 0 < 2 ^ sh := Nat.two_pow_pos sh
  have hk : i / 2 ^ sh ≤ i := Nat.div_le_self _ _
  have h31 : 2 ^ 21 ≤ 2 ^ (31 - sh) := Nat.pow_le_pow_right (by norm_num) (by omega)
  rw [PackedFields.shrsi_eq_iff _ sh _ (by omega) (by omega), BitVec.toNat_ofNat, Nat.mod_eq_of_lt (by omega)]
  have := Nat.div_add_mod i (2 ^ sh)
  have := Nat.mod_lt i hp
  omega

/-- A truth value as a number. -/
theorem sitofp_bit (b : BitVec 1) : (FloatOps.sitofp .f32 (b.setWidth 32) : Ideal .f32) = if b = 1#1 then (1 : EReal) else 0 := by
  have : b = 0#1 ∨ b = 1#1 := by
    rcases b with ⟨⟨n, hn⟩⟩
    have : n = 0 ∨ n = 1 := by omega
    rcases this with rfl | rfl
    · exact .inl rfl
    · exact .inr rfl
  rcases this with rfl | rfl
  · show (((BitVec.setWidth 32 0#1).toInt : ℝ) : EReal) = _
    simp
  · show (((BitVec.setWidth 32 1#1).toInt : ℝ) : EReal) = _
    simp

/-- A small count as a word. -/
theorem fptosi_count (k : ℕ) (hk : k ≤ 2048) : FloatOps.fptosi (F := Ideal) (φ := .f32) 32 (k : EReal) = BitVec.ofNat 32 k := by
  show Ideal.fptosi 32 (k : EReal) = _
  have : (k : EReal) = ((k : ℝ) : EReal) := by norm_cast
  rw [this, Ideal.fptosi, Ideal.toIntClamped_coe, if_pos (Nat.cast_nonneg k), Int.floor_natCast, min_eq_right, max_eq_right,
    BitVec.ofInt_natCast]
  · have : (0 : ℤ) ≤ k := Int.natCast_nonneg k
    norm_num
  · norm_num; omega

/-- A column sum of a matrix. -/
theorem colSum_apply {a b : ℕ} (x : FVec Ideal (M a b) .f32) (h : (M a b).Reduces [0] (V b)) (j : Fin b) :
    multiReduction .add [0] (V b) x 0x00000000#32 h (.inl rfl) rfl (ix1 j) = ∑ i : Fin a, x (ix2 i j) := by
  refine (Ideal.multiReduction_add_single x _ h _ _ _).trans ?_
  refine Finset.sum_congr rfl fun k _ => congrArg x ?_
  funext ax
  match ax with
  | ⟨0, _⟩ => rfl
  | ⟨1, _⟩ => rfl

/-- A row sum of a matrix. -/
theorem rowSum_apply {a b : ℕ} (x : FVec Ideal (M a b) .f32) (h : (M a b).Reduces [1] (V a)) (i : Fin a) :
    multiReduction .add [1] (V a) x 0x00000000#32 h (.inl rfl) rfl (ix1 i) = ∑ j : Fin b, x (ix2 i j) := by
  refine (Ideal.multiReduction_add_single x _ h _ _ _).trans ?_
  refine Finset.sum_congr rfl fun k _ => congrArg x ?_
  funext ax
  match ax with
  | ⟨0, _⟩ => rfl
  | ⟨1, _⟩ => rfl

/-- A column spread over a matrix. -/
theorem bcol_apply {α : Type} {a b : ℕ} (v : (M a 1).Idx → α) (h : (M a 1).Broadcasts (M a b)) (i : Fin a) (j : Fin b) :
    broadcastTo (M a b) v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem cmpi_eq_iff {w : ℕ} (x y : BitVec w) : IntOp.cmpi .eq x y = 1#1 ↔ x = y := by
  unfold IntOp.cmpi
  by_cases h : x = y
  · simp [h]
  · simp only [h, iff_false]
    rw [show (x == y) = false from beq_eq_false_iff_ne.2 h]
    decide

theorem bit_and (x y : BitVec 1) : IntOp.andi x y = 1#1 ↔ x = 1#1 ∧ y = 1#1 := by
  revert x y; decide
theorem bit_or (x y : BitVec 1) : IntOp.ori x y = 1#1 ↔ x = 1#1 ∨ y = 1#1 := by
  revert x y; decide

theorem cmpf_olt (x y : EReal) : FloatOps.cmpf (F := Ideal) (φ := .f32) .olt x y = 1#1 ↔ x < y := by
  show Ideal.cmp .olt x y = 1#1 ↔ _
  by_cases h : x < y <;> simp [Ideal.cmp, h]
theorem cmpf_oeq (x y : EReal) : FloatOps.cmpf (F := Ideal) (φ := .f32) .oeq x y = 1#1 ↔ x = y := by
  show Ideal.cmp .oeq x y = 1#1 ↔ _
  by_cases h : x = y <;> simp [Ideal.cmp, h]

section

variable {N d : ℕ}

open Classical in
/-- Which row a place gets. -/
theorem placeOf_iff (h : SortFacts N) (k : KeyFacts N d) (sh : ℕ) (hsh : sh ≤ 10) (hN : N ≤ 1024) (hd : d < 3)
    (y : FVec Ideal (M N 3) .f32) (i j : Fin N) :
    placeOf h k sh y (ix2 i j) = 1#1 ↔
      i.val + (Finset.univ.filter fun q : Fin N =>
        Order.Lex (fun q => (y (ix2 q (⟨d, hd⟩ : Fin 3)) : EReal)) j q ∧ q.val / 2 ^ sh = j.val / 2 ^ sh).card + 1
        = j.val / 2 ^ sh * 2 ^ sh + 2 ^ sh := by
  have hi := i.isLt
  have hj := j.isLt
  have hs1 : 2 ^ sh ≤ 2 ^ 10 := Nat.pow_le_pow_right (by norm_num) hsh
  have hs0 : 0 < 2 ^ sh := Nat.two_pow_pos sh
  let key : Fin N → EReal := fun q => (y (ix2 q (⟨d, hd⟩ : Fin 3)) : EReal)
  let c : IVec (M N N) 1 :=
    andi (ori (cmpf .olt (broadcastTo (M N N) (extractStridedSlice (M 1 N) ![d, 0] (transpose (M 3 N) [1, 0] y h.tr) k.row) h.brow)
        (broadcastTo (M N N) (extractStridedSlice (M N 1) ![0, d] y k.col) h.bcol))
      (andi (cmpf .oeq (broadcastTo (M N N) (extractStridedSlice (M 1 N) ![d, 0] (transpose (M 3 N) [1, 0] y h.tr) k.row) h.brow)
        (broadcastTo (M N N) (extractStridedSlice (M N 1) ![0, d] y k.col) h.bcol))
        (cmpi .slt (iota .tc (M N N) 32 [1] h.io1) (iota .tc (M N N) 32 [0] h.io0))))
      (cmpi .eq (shrsi (iota .tc (M N N) 32 [0] h.io0) (broadcast (M N N) (BitVec.ofNat 32 sh)))
        (shrsi (iota .tc (M N N) 32 [1] h.io1) (broadcast (M N N) (BitVec.ofNat 32 sh))))
  have hio0 : ∀ q : Fin N, iota .tc (M N N) 32 [0] h.io0 (ix2 q j) = BitVec.ofNat 32 q.val := fun q => by
    show BitVec.ofNat 32 (0 * N + q.val) = _
    rw [Nat.zero_mul, Nat.zero_add]
  have hio1 : ∀ q : Fin N, iota .tc (M N N) 32 [1] h.io1 (ix2 q j) = BitVec.ofNat 32 j.val := fun q => by
    show BitVec.ofNat 32 (0 * N + j.val) = _
    rw [Nat.zero_mul, Nat.zero_add]
  have hior : iota .tc (M 1 N) 32 [1] h.ior (ix2 (0 : Fin 1) j) = BitVec.ofNat 32 j.val := by
    show BitVec.ofNat 32 (0 * N + j.val) = _
    rw [Nat.zero_mul, Nat.zero_add]
  have hc : ∀ q : Fin N, c (ix2 q j) = 1#1 ↔ Order.Lex key j q ∧ q.val / 2 ^ sh = j.val / 2 ^ sh := fun q => by
    have hq := q.isLt
    have e1 : broadcastTo (M N N) (extractStridedSlice (M 1 N) ![d, 0] (transpose (M 3 N) [1, 0] y h.tr) k.row) h.brow (ix2 q j)
        = key j := by
      rw [broadcastTo_1b_ab_apply, slice2_axis0_apply d _ k.row (0 : Fin 1) j ⟨d, hd⟩ (by simp), transpose_ix2_apply]
    have e2 : broadcastTo (M N N) (extractStridedSlice (M N 1) ![0, d] y k.col) h.bcol (ix2 q j) = key q := by
      rw [bcol_apply, slice2_axis1_apply d _ k.col q (0 : Fin 1) ⟨d, hd⟩ (by simp)]
    show IntOp.andi (IntOp.ori (FloatOps.cmpf .olt (broadcastTo (M N N) _ h.brow (ix2 q j)) (broadcastTo (M N N) _ h.bcol (ix2 q j)))
      (IntOp.andi (FloatOps.cmpf .oeq (broadcastTo (M N N) _ h.brow (ix2 q j)) (broadcastTo (M N N) _ h.bcol (ix2 q j)))
        (IntOp.cmpi .slt (iota .tc (M N N) 32 [1] h.io1 (ix2 q j)) (iota .tc (M N N) 32 [0] h.io0 (ix2 q j)))))
      (IntOp.cmpi .eq (IntOp.shrsi .vector (iota .tc (M N N) 32 [0] h.io0 (ix2 q j)) (BitVec.ofNat 32 sh))
        (IntOp.shrsi .vector (iota .tc (M N N) 32 [1] h.io1 (ix2 q j)) (BitVec.ofNat 32 sh))) = 1#1 ↔ _
    rw [e1, e2, hio0, hio1, shift_word _ _ _ (by omega) hsh, shift_word _ _ _ (by omega) hsh, bit_and, bit_or, bit_and, cmpf_olt,
      cmpf_oeq, WordCmp.cmpi_slt_ofNat_eq_one_iff (by omega) (by omega), WordCmp.cmpi_eq_ofNat_eq_one_iff]
    · rfl
    · have := Nat.div_le_self q.val (2 ^ sh); omega
    · have := Nat.div_le_self j.val (2 ^ sh); omega
  have hcnt : shapeCast (M 1 N) (multiReduction .add [0] (V N) (sitofp .f32 (extui 32 c h.wide) : FVec Ideal (M N N) .f32) 0x00000000#32 h.red (.inl rfl) rfl) h.row
      (ix2 (0 : Fin 1) j) = (((Finset.univ.filter fun q : Fin N => Order.Lex key j q ∧ q.val / 2 ^ sh = j.val / 2 ^ sh).card : ℕ) : EReal) := by
    rw [shapeCast_a_1a_apply, colSum_apply]
    rw [← Finset.sum_boole]
    refine Finset.sum_congr rfl fun q _ => ?_
    show (FloatOps.sitofp .f32 ((c (ix2 q j)).setWidth 32) : Ideal .f32) = _
    rw [sitofp_bit]
    exact if_congr (hc q) rfl rfl
  have hle : (Finset.univ.filter fun q : Fin N => Order.Lex key j q ∧ q.val / 2 ^ sh = j.val / 2 ^ sh).card ≤ N := by
    simpa using Finset.card_filter_le (Finset.univ : Finset (Fin N)) _
  generalize hcard : (Finset.univ.filter fun q : Fin N => Order.Lex key j q ∧ q.val / 2 ^ sh = j.val / 2 ^ sh).card = n at hcnt hle
  have hplace : placeOf h k sh y (ix2 i j) = IntOp.cmpi .eq (BitVec.ofNat 32 i.val)
      ((BitVec.ofNat 32 (j.val / 2 ^ sh) * BitVec.ofNat 32 (2 ^ sh) + BitVec.ofNat 32 (2 ^ sh - 1)) - BitVec.ofNat 32 n) := by
    show IntOp.cmpi .eq (iota .tc (M N N) 32 [0] h.io0 (ix2 i j)) (broadcastTo (M N N) _ h.brow (ix2 i j)) = _
    rw [hio0, broadcastTo_1b_ab_apply]
    congr 1
    show (IntOp.shrsi .vector (iota .tc (M 1 N) 32 [1] h.ior (ix2 (0 : Fin 1) j)) (BitVec.ofNat 32 sh) * BitVec.ofNat 32 (2 ^ sh)
      + BitVec.ofNat 32 (2 ^ sh - 1)) - FloatOps.fptosi 32 (shapeCast (M 1 N) (multiReduction .add [0] (V N) (sitofp .f32 (extui 32 c h.wide) : FVec Ideal (M N N) .f32) 0x00000000#32 h.red (.inl rfl) rfl) h.row
      (ix2 (0 : Fin 1) j)) = _
    rw [hior, shift_word _ _ _ (by omega) hsh, hcnt, fptosi_count _ (by omega)]
  rw [hplace, cmpi_eq_iff]
  have hq : j.val / 2 ^ sh * 2 ^ sh ≤ j.val := Nat.div_mul_le_self _ _
  generalize hQ : j.val / 2 ^ sh * 2 ^ sh = Q at hq
  rw [← BitVec.ofNat_mul, hQ, ← BitVec.ofNat_add, ← BitVec.toNat_inj, BitVec.toNat_sub, BitVec.toNat_ofNat, BitVec.toNat_ofNat, BitVec.toNat_ofNat]
  omega

/-- A sort step's row: the one the stable sort of the block's keys puts at its place. -/
theorem sortStep_apply (h : SortFacts N) (k : KeyFacts N d) (sh : ℕ) (hsh : sh ≤ 10) (hN : N ≤ 1024) (hd : d < 3)
    (y : FVec Ideal (M N 3) .f32) (hy : ∀ i, IsReal (y i)) {B : ℕ} (hB : N = B * 2 ^ sh) (at' : Fin B → Fin (2 ^ sh) → Fin N)
    (hat : ∀ b q, (at' b q).val = b.val * 2 ^ sh + q.val) (σ : Fin B → Fin (2 ^ sh) → Fin (2 ^ sh))
    (hσ : ∀ b, Order.Sorts (fun q => (y (ix2 (at' b q) (⟨d, hd⟩ : Fin 3)) : EReal)) (σ b)) (b : Fin B) (r : Fin (2 ^ sh)) (e : Fin 3) :
    sortStep h k sh y (ix2 (at' b r) e) = y (ix2 (at' b (σ b r)) e) := by
  classical
  refine pick_apply h.pk rfl rfl _ y hy _ _ (fun j => ?_) e
  rw [placeOf_iff h k sh hsh hN hd]
  exact Order.place_iff hB (fun q => (y (ix2 q (⟨d, hd⟩ : Fin 3)) : EReal)) at' hat σ hσ b r j

end

end Cert.Net
-- ==== Proof.Near.lean ====
/- A level of the network: the rounds of the selection take in the points in the order of their distances, and the greatest of the
   offsets through the rest of the level is the greatest of the offsets' images. -/
module

public import proofs.«01_k».proof.Proof.Sorted
public import Idealize.ShloMosaic.Lib.SortNet.Extract

@[expose] public section

noncomputable section

namespace Cert.Net

open Idealize.ShloMosaic Idealize.ShloMosaic.ValueIdx

/-- The constants two and the normalisation's deviation. -/
def two : EReal := Ideal.ofBits .f32 0x40000000#32
def dev : EReal := Ideal.ofBits .f32 0x3F801061#32

theorem two_eq : two = ((2 : ℝ) : EReal) := by
  simp [two, Ideal.ofBits, Ideal.ieee, -EReal.coe_mul]
  norm_num
theorem dev_eq : ∃ r : ℝ, 0 < r ∧ dev = (r : EReal) := by
  refine ⟨8392801 / 8388608, by norm_num, ?_⟩
  simp [dev, Ideal.ofBits, Ideal.ieee, -EReal.coe_mul]
  norm_num
theorem top_f32 : Ideal.ofBits .f32 0x7F800000#32 = (⊤ : EReal) := by simp [Ideal.ofBits, Ideal.ieee]
theorem bot_f32 : Ideal.ofBits .f32 0xFF800000#32 = (⊥ : EReal) := by simp [Ideal.ofBits, Ideal.ieee]

theorem div_mono {r : ℝ} (hr : 0 < r) {x y : EReal} (h : x ≤ y) : Ideal.div x (r : EReal) ≤ Ideal.div y (r : EReal) := by
  have h0 : (r : EReal) ≠ 0 := by exact_mod_cast hr.ne'
  unfold Ideal.div
  rw [if_neg h0, if_neg h0, ← EReal.coe_inv]
  exact mul_le_mul_of_nonneg_right h (by exact_mod_cast (inv_pos.2 hr).le)

theorem IsReal.div {r : ℝ} (hr : 0 < r) {x : EReal} (h : IsReal x) : IsReal (Ideal.div x (r : EReal)) := by
  have h0 : (r : EReal) ≠ 0 := by exact_mod_cast hr.ne'
  unfold Ideal.div
  rw [if_neg h0, ← EReal.coe_inv]
  exact h.mul (.coe _)

theorem select_eq {α : Type} (b : BitVec 1) (x y : α) : Scalar.select b x y = if b = 1#1 then x else y := by
  unfold Scalar.select
  by_cases hc : b = 1#1
  · rw [if_pos hc, hc]; rfl
  · rw [if_neg hc, if_neg]; simpa using hc

/-! ## The level as mathematics -/

section Spec

variable {n m d u : ℕ}

/-- The squared distance of target `i` from point `j`. -/
def distS (t : Fin m → Fin d → EReal) (y : Fin n → Fin d → EReal) (i : Fin m) (j : Fin n) : EReal :=
  (∑ c, t i c * t i c) - two * (∑ c, t i c * y j c) + ∑ c, y j c * y j c

/-- The points in the order of their distances, equal ones in their own order. -/
def nearS (D : Fin n → EReal) : Fin n → Fin n := sortedFrom fun a b => decide (D a < D b)

/-- Point `j`'s offset from target `i` through a dense layer. -/
def relS (t : Fin m → Fin d → EReal) (y : Fin n → Fin d → EReal) (W : Fin d → Fin u → EReal) (b : Fin u → EReal) (i : Fin m) (j : Fin n)
    (f : Fin u) : EReal := (∑ c, (y j c - t i c) * W c f) + b f

/-- A dense layer. -/
def denseS (x : Fin m → Fin d → EReal) (W : Fin d → Fin u → EReal) (b : Fin u → EReal) (i : Fin m) (f : Fin u) : EReal :=
  (∑ c, x i c * W c f) + b f

/-- The normalisation and the positive part. -/
def actS (g be x : EReal) : EReal := max (Ideal.div (g * x) dev + be) 0

/-- A level. -/
def levelS (k : ℕ) (hk : k ≤ n) (t : Fin m → Fin d → EReal) (y : Fin n → Fin d → EReal) (Wr Wa : Fin d → Fin u → EReal)
    (br ba g be : Fin u → EReal) (i : Fin m) (f : Fin u) : EReal :=
  Finset.univ.sup fun r : Fin k => actS (g f) (be f) (relS t y Wr br i (nearS (distS t y i) (Fin.castLE hk r)) f + denseS t Wa ba i f)

theorem nearS_sorts (D : Fin n → EReal) : Order.Sorts D (nearS D) := Order.sorts_sortedFrom D _ fun a b => by simp

theorem actS_mono {g be : EReal} (hg : 0 ≤ g) {x y : EReal} (h : x ≤ y) : actS g be x ≤ actS g be y := by
  obtain ⟨r, hr, e⟩ := dev_eq
  unfold actS
  rw [e]
  exact max_le_max (add_le_add (div_mono hr (mul_le_mul_of_nonneg_left h hg)) le_rfl) le_rfl

theorem IsReal.act {g be x : EReal} (hg : IsReal g) (hb : IsReal be) (hx : IsReal x) : IsReal (actS g be x) := by
  obtain ⟨r, hr, e⟩ := dev_eq
  unfold actS
  rw [e]
  exact (((hg.mul hx).div hr).add hb).max .zero

theorem IsReal.sup {k : ℕ} (hk : 0 < k) {f : Fin k → EReal} (h : ∀ i, IsReal (f i)) : IsReal (Finset.univ.sup f) := by
  obtain ⟨i, -, e⟩ := Finset.exists_mem_eq_sup Finset.univ ⟨(⟨0, hk⟩ : Fin k), Finset.mem_univ _⟩ f
  rw [e]; exact h i

theorem distS_real {t : Fin m → Fin d → EReal} {y : Fin n → Fin d → EReal} (ht : ∀ i c, IsReal (t i c)) (hy : ∀ j c, IsReal (y j c))
    (i : Fin m) (j : Fin n) : IsReal (distS t y i j) :=
  ((IsReal.sum _ fun c _ => (ht i c).mul (ht i c)).sub
    (IsReal.mul (by rw [two_eq]; exact .coe 2) (IsReal.sum _ fun c _ => (ht i c).mul (hy j c)))).add
    (IsReal.sum _ fun c _ => (hy j c).mul (hy j c))

theorem levelS_real {k : ℕ} (hk : k ≤ n) (h0 : 0 < k) {t : Fin m → Fin d → EReal} {y : Fin n → Fin d → EReal}
    {Wr Wa : Fin d → Fin u → EReal} {br ba g be : Fin u → EReal} (ht : ∀ i c, IsReal (t i c)) (hy : ∀ j c, IsReal (y j c))
    (hWr : ∀ c f, IsReal (Wr c f)) (hWa : ∀ c f, IsReal (Wa c f)) (hbr : ∀ f, IsReal (br f)) (hba : ∀ f, IsReal (ba f))
    (hg : ∀ f, IsReal (g f)) (hbe : ∀ f, IsReal (be f)) (i : Fin m) (f : Fin u) :
    IsReal (levelS k hk t y Wr Wa br ba g be i f) :=
  .sup h0 fun _ => (hg f).act (hbe f) (((IsReal.sum _ fun c _ => ((hy _ c).sub (ht i c)).mul (hWr c f)).add (hbr f)).add
    ((IsReal.sum _ fun c _ => (ht i c).mul (hWa c f)).add (hba f)))

end Spec

/-! ## The kernel's level -/

section Kernel

variable {n m d w o2 u : ℕ}

theorem rowMin_apply {a b : ℕ} (x : FVec Ideal (M a b) .f32) (h : (M a b).Reduces [1] (V a)) (i : Fin a) :
    multiReduction .minimumf [1] (V a) x 0x7F800000#32 h (.inl rfl) rfl (ix1 i) = Finset.univ.inf fun j : Fin b => (x (ix2 i j) : EReal) := by
  classical
  refine (multiReduction_minimumf_eq_fold x _ h _ _ _).trans ?_
  refine (h.fold_filter_drop_single _ _ x _).trans ?_
  show (Finset.univ : Finset (Fin b)).fold min (Ideal.ofBits .f32 0x7F800000#32) _ = (Finset.univ : Finset (Fin b)).fold min ⊤ _
  rw [top_f32]
  refine Finset.fold_congr fun k _ => congrArg x ?_
  funext ax
  match ax with
  | ⟨0, _⟩ => rfl
  | ⟨1, _⟩ => rfl

theorem rowMinI_apply {a b : ℕ} (x : IVec (M a b) 32) (h : (M a b).Reduces [1] (V a)) (i : Fin a) :
    multiReductionI .minsi [1] (V a) x 2147483647#32 h rfl (ix1 i)
      = Finset.univ.fold IntOp.minsi 2147483647#32 fun j : Fin b => x (ix2 i j) := by
  classical
  refine (multiReductionI_eq_fold _ x _ h _ _).trans ?_
  refine (h.fold_filter_drop_single _ _ x _).trans ?_
  show (Finset.univ : Finset (Fin b)).fold IntOp.minsi _ _ = _
  refine Finset.fold_congr fun k _ => congrArg x ?_
  funext ax
  match ax with
  | ⟨0, _⟩ => rfl
  | ⟨1, _⟩ => rfl

theorem fold_minsi_eq {b : ℕ} (g : Fin b → BitVec 32) (τ : Fin b) (init : BitVec 32) (h0 : (g τ).toInt ≤ init.toInt)
    (h : ∀ j, (g τ).toInt ≤ (g j).toInt) : Finset.univ.fold IntOp.minsi init g = g τ := by
  apply BitVec.eq_of_toInt_eq
  rw [← Finset.fold_hom (op' := min) (m := BitVec.toInt) SortNet.toInt_minsi]
  exact le_antisymm ((Finset.fold_min_le _).2 (.inr ⟨τ, Finset.mem_univ _, le_rfl⟩)) ((Finset.le_fold_min _).2 ⟨h0, fun j _ => h j⟩)

theorem toInt_small (k : ℕ) (hk : k ≤ 4096) : (BitVec.ofNat 32 k).toInt = k := by
  have e : (BitVec.ofNat 32 k).toNat = k := by rw [BitVec.toNat_ofNat]; omega
  rw [BitVec.toInt_eq_toNat_of_lt (by rw [e]; omega), e]

/-- The column a row's first least entry is at. -/
theorem hit_iff (h : LevelFacts n m d w o2 u) (hn : n ≤ 4096) (D : FVec Ideal (M m n) .f32) (i : Fin m) (τ : Fin n)
    (hτ : ∀ j, j ≠ τ → Order.Lex (fun j => (D (ix2 i j) : EReal)) τ j) (j : Fin n) : hit h D (ix2 i j) = 1#1 ↔ j = τ := by
  have hio : ∀ q : Fin n, iota .tc (M m n) 32 [1] h.io (ix2 i q) = BitVec.ofNat 32 q.val := fun q => by
    show BitVec.ofNat 32 (0 * n + q.val) = _
    rw [Nat.zero_mul, Nat.zero_add]
  have hle : ∀ q, (D (ix2 i τ) : EReal) ≤ D (ix2 i q) := fun q => by
    by_cases hq : q = τ
    · rw [hq]
    · rcases hτ q hq with k | ⟨k, _⟩
      · exact k.le
      · exact k.le
  have hlo : ∀ q, broadcastTo (M m n) (shapeCast (M m 1) (multiReduction .minimumf [1] (V m) D 0x7F800000#32 h.red (.inl rfl) rfl) h.cm) h.bcol
      (ix2 i q) = (D (ix2 i τ) : EReal) := fun q => by
    rw [bcol_apply, shapeCast_a_a1_apply]
    refine (rowMin_apply D h.red i).trans ?_
    exact le_antisymm (Finset.inf_le (Finset.mem_univ τ)) (Finset.le_inf fun q _ => hle q)
  let c : IVec (M m n) 32 := select (cmpf .oeq D (broadcastTo (M m n)
    (shapeCast (M m 1) (multiReduction .minimumf [1] (V m) D 0x7F800000#32 h.red (.inl rfl) rfl) h.cm) h.bcol))
    (iota .tc (M m n) 32 [1] h.io) (broadcast (M m n) (BitVec.ofNat 32 n))
  have hc : ∀ q : Fin n, c (ix2 i q) = if (D (ix2 i q) : EReal) = D (ix2 i τ) then BitVec.ofNat 32 q.val else BitVec.ofNat 32 n := fun q => by
    show Scalar.select (FloatOps.cmpf (F := Ideal) (φ := .f32) .oeq (D (ix2 i q)) (broadcastTo (M m n) _ h.bcol (ix2 i q)))
      (iota .tc (M m n) 32 [1] h.io (ix2 i q)) (BitVec.ofNat 32 n) = _
    rw [hlo, hio, select_eq]
    exact if_congr (cmpf_oeq _ _) rfl rfl
  have hcτ : c (ix2 i τ) = BitVec.ofNat 32 τ.val := by rw [hc, if_pos rfl]
  have hτn := τ.isLt
  have hfold : Finset.univ.fold IntOp.minsi 2147483647#32 (fun q : Fin n => c (ix2 i q)) = BitVec.ofNat 32 τ.val := by
    refine (fold_minsi_eq _ τ _ ?_ fun q => ?_).trans hcτ
    · rw [hcτ, toInt_small _ (by omega)]
      have : (2147483647#32 : BitVec 32).toInt = 2147483647 := by decide
      rw [this]; omega
    · have hq := q.isLt
      rw [hcτ, hc, toInt_small _ (by omega)]
      split
      · rename_i e
        rw [toInt_small _ (by omega)]
        by_cases hqτ : q = τ
        · rw [hqτ]
        · rcases hτ q hqτ with k | ⟨_, k⟩
          · exact absurd e.symm k.ne
          · have := Fin.lt_def.1 k; omega
      · rw [toInt_small _ (by omega)]; omega
  have e : hit h D (ix2 i j) = IntOp.cmpi .eq (BitVec.ofNat 32 j.val) (BitVec.ofNat 32 τ.val) := by
    show IntOp.cmpi .eq (iota .tc (M m n) 32 [1] h.io (ix2 i j)) (broadcastTo (M m n) (shapeCast (M m 1) (multiReductionI .minsi [1] (V m) c
      2147483647#32 h.red rfl) h.cm) h.bcol (ix2 i j)) = _
    rw [hio, bcol_apply, shapeCast_a_a1_apply]
    exact congrArg _ ((rowMinI_apply c h.red i).trans hfold)
  have hj := j.isLt
  rw [e, WordCmp.cmpi_eq_ofNat_eq_one_iff (by omega) (by omega), Fin.ext_iff]

/-- The kernel's distances. -/
theorem dist_apply (h : LevelFacts n m d w o2 u) (t : FVec Ideal (M m d) .f32) (y : FVec Ideal (M n d) .f32) (i : Fin m) (j : Fin n) :
    dist h t y (ix2 i j) = distS (fun i c => t (ix2 i c)) (fun j c => y (ix2 j c)) i j := by
  show (broadcastTo (M m n) (shapeCast (M m 1) (multiReduction .add [1] (V m) (mulf t t) 0x00000000#32 h.sm (.inl rfl) rfl) h.cm) h.bcol (ix2 i j)
      - two * matmul (DotDims.plain m d n) none t (transpose (M d n) [1, 0] y h.trd) (constant (M m n) .f32 0x00000000#32) (ix2 i j))
      + broadcastTo (M m n) (transpose (M 1 n) [1, 0]
        (shapeCast (M n 1) (multiReduction .add [1] (V n) (mulf y y) 0x00000000#32 h.sn (.inl rfl) rfl) h.cn) h.trn) h.brow (ix2 i j) = (_ : EReal)
  rw [bcol_apply, shapeCast_a_a1_apply, matmul0_apply, broadcastTo_1b_ab_apply, transpose_ix2_apply, shapeCast_a_a1_apply]
  unfold distS
  refine congrArg₂ (· + ·) (congrArg₂ (· - ·) (rowSum_apply _ _ _) (congrArg (two * ·) (Finset.sum_congr rfl fun c _ => ?_))) (rowSum_apply _ _ _)
  rw [transpose_ix2_apply]

/-- The kernel's dense offset of the point a round takes in. -/
theorem relOf_apply (h : LevelFacts n m d w o2 u) (hw : w = d + d + d) (ho : o2 = d + d) (t : FVec Ideal (M m d) .f32)
    (y : FVec Ideal (M n d) .f32) (hy : ∀ i, IsReal (y i)) (wr : FVec Ideal (M d u) .f32) (br : FVec Ideal (M 1 u) .f32)
    (D : FVec Ideal (M m n) .f32) (i : Fin m) (τ : Fin n) (hτ : ∀ j, hit h D (ix2 i j) = 1#1 ↔ j = τ) (f : Fin u) :
    relOf h t (limbs h.pk y) wr br D (ix2 i f)
      = relS (fun i c => t (ix2 i c)) (fun j c => y (ix2 j c)) (fun c f => wr (ix2 c f)) (fun f => br (ix2 (0 : Fin 1) f)) i τ f := by
  show matmul (DotDims.plain m d u) none (subf (pick h.pk (hot (hit h D)) (limbs h.pk y)) t) wr (constant (M m u) .f32 0x00000000#32) (ix2 i f)
    + broadcastTo (M m u) br h.bu (ix2 i f) = (_ : EReal)
  rw [matmul0_apply, broadcastTo_1b_ab_apply]
  unfold relS
  refine congrArg (· + _) (Finset.sum_congr rfl fun c _ => congrArg (· * _) ?_)
  show pick h.pk (hot (hit h D)) (limbs h.pk y) (ix2 i c) - t (ix2 i c) = (_ : EReal)
  rw [pick_apply h.pk hw ho _ y hy i τ hτ c]

/-- The state after `r` rounds: the `r` nearest points are struck out, and the maximum is over them. -/
theorem rounds (h : LevelFacts n m d w o2 u) (hw : w = d + d + d) (ho : o2 = d + d) (hn : n ≤ 4096) (lo : Ideal .f32) (hlo : lo = (⊥ : EReal))
    (t : FVec Ideal (M m d) .f32) (y : FVec Ideal (M n d) .f32) (hy : ∀ i, IsReal (y i)) (wr : FVec Ideal (M d u) .f32)
    (br : FVec Ideal (M 1 u) .f32) (D : FVec Ideal (M m n) .f32) (hD : ∀ i, IsReal (D i)) (i : Fin m) (σ : Fin n → Fin n)
    (hσ : Order.Sorts (fun j => (D (ix2 i j) : EReal)) σ) :
    ∀ (r : ℕ) (hr : r ≤ n),
      (∀ s : Fin n, ((round h t (limbs h.pk y) wr br)^[r] (D, broadcast (M m u) lo)).1 (ix2 i (σ s)) = if s.val < r then (⊤ : EReal) else D (ix2 i (σ s)))
      ∧ ∀ f, ((round h t (limbs h.pk y) wr br)^[r] (D, broadcast (M m u) lo)).2 (ix2 i f)
        = Finset.univ.sup fun s : Fin r => relS (fun i c => t (ix2 i c)) (fun j c => y (ix2 j c)) (fun c f => wr (ix2 c f))
            (fun f => br (ix2 (0 : Fin 1) f)) i (σ (Fin.castLE hr s)) f := by
  intro r
  induction r with
  | zero =>
    intro hr
    refine ⟨fun s => by simp, fun f => ?_⟩
    rw [Finset.univ_eq_empty, Finset.sup_empty]
    exact hlo
  | succ r ih =>
    intro hr
    obtain ⟨h1, h2⟩ := ih (by omega)
    rw [Function.iterate_succ_apply']
    generalize (round h t (limbs h.pk y) wr br)^[r] (D, broadcast (M m u) lo) = a at h1 h2
    have hhit : ∀ j, hit h a.1 (ix2 i j) = 1#1 ↔ j = σ ⟨r, hr⟩ := hit_iff h hn a.1 i _ fun j hj => by
      obtain ⟨s, rfl⟩ := hσ.bij.2 j
      have hs : s ≠ ⟨r, hr⟩ := fun e => hj (by rw [e])
      have e0 : (a.1 (ix2 i (σ ⟨r, hr⟩)) : EReal) = D (ix2 i (σ ⟨r, hr⟩)) := by rw [h1, if_neg (lt_irrefl r)]
      by_cases hsr : s.val < r
      · refine .inl ?_
        show (a.1 (ix2 i (σ ⟨r, hr⟩)) : EReal) < a.1 (ix2 i (σ s))
        rw [e0, h1 s, if_pos hsr]
        exact lt_top_iff_ne_top.2 (hD _).ne_top
      · have hlt : (⟨r, hr⟩ : Fin n) < s := by
          have : s.val ≠ r := fun e => hs (Fin.ext e)
          exact Fin.lt_def.2 (by show r < s.val; omega)
        have := hσ.up hlt
        have e1 : (a.1 (ix2 i (σ s)) : EReal) = D (ix2 i (σ s)) := by rw [h1, if_neg hsr]
        rcases this with k | ⟨k, l⟩
        · exact .inl (by show (a.1 (ix2 i (σ ⟨r, hr⟩)) : EReal) < a.1 (ix2 i (σ s)); rw [e0, e1]; exact k)
        · exact .inr ⟨by show (a.1 (ix2 i (σ ⟨r, hr⟩)) : EReal) = a.1 (ix2 i (σ s)); rw [e0, e1]; exact k, l⟩
    refine ⟨fun s => ?_, fun f => ?_⟩
    · show Scalar.select (hit h a.1 (ix2 i (σ s))) (Scalar.ofBits .f32 0x7F800000#32 : Ideal .f32) (a.1 (ix2 i (σ s))) = _
      rw [select_eq, h1 s]
      by_cases hs : s = ⟨r, hr⟩
      · rw [if_pos ((hhit _).2 (by rw [hs])), if_pos (by rw [hs]; exact Nat.lt_succ_self r)]
        exact top_f32
      · rw [if_neg fun e => hs (hσ.bij.1 ((hhit _).1 e))]
        have : s.val ≠ r := fun e => hs (Fin.ext e)
        exact if_congr (by omega) rfl rfl
    · show max (a.2 (ix2 i f)) (relOf h t (limbs h.pk y) wr br a.1 (ix2 i f)) = (_ : EReal)
      rw [relOf_apply h hw ho t y hy wr br a.1 i _ hhit, h2, Fin.univ_castSuccEmb, Finset.sup_cons, Finset.sup_map, max_comm]
      rfl

/-- The kernel's level. -/
theorem level_apply (h : LevelFacts n m d w o2 u) (hw : w = d + d + d) (ho : o2 = d + d) (hn : n ≤ 4096) (k : ℕ) (hk : k ≤ n) (h0 : 0 < k)
    (lo : Ideal .f32) (hlo : lo = (⊥ : EReal)) (t : FVec Ideal (M m d) .f32) (y : FVec Ideal (M n d) .f32) (ht : ∀ i, IsReal (t i))
    (hy : ∀ i, IsReal (y i)) (wr wa : FVec Ideal (M d u) .f32) (br ba g be : FVec Ideal (M 1 u) .f32)
    (hg : ∀ f, (0 : EReal) ≤ g (ix2 (0 : Fin 1) f)) (i : Fin m) (f : Fin u) :
    level h k lo t y wr wa br ba g be (ix2 i f)
      = levelS k hk (fun i c => t (ix2 i c)) (fun j c => y (ix2 j c)) (fun c f => wr (ix2 c f)) (fun c f => wa (ix2 c f))
          (fun f => br (ix2 (0 : Fin 1) f)) (fun f => ba (ix2 (0 : Fin 1) f)) (fun f => g (ix2 (0 : Fin 1) f)) (fun f => be (ix2 (0 : Fin 1) f)) i f := by
  have hD : ∀ i, IsReal (dist h t y i) := fun i => by
    obtain ⟨a, c, rfl⟩ : ∃ (a : Fin m) (c : Fin n), i = ix2 a c := ⟨_, _, eq_ix2 i⟩
    rw [dist_apply]
    exact distS_real (fun _ _ => ht _) (fun _ _ => hy _) _ _
  have hkey : (fun j => (dist h t y (ix2 i j) : EReal)) = distS (fun i c => t (ix2 i c)) (fun j c => y (ix2 j c)) i := funext fun j => dist_apply h t y i j
  have hr := (rounds h hw ho hn lo hlo t y hy wr br (dist h t y) hD i (nearS (distS (fun i c => t (ix2 i c)) (fun j c => y (ix2 j c)) i))
    (by rw [hkey]; exact nearS_sorts _) k hk).2 f
  have e : level h k lo t y wr wa br ba g be (ix2 i f) = actS (g (ix2 (0 : Fin 1) f)) (be (ix2 (0 : Fin 1) f))
      ((nearest h k lo t y wr br).2 (ix2 i f) + denseS (fun i c => t (ix2 i c)) (fun c f => wa (ix2 c f)) (fun f => ba (ix2 (0 : Fin 1) f)) i f) := by
    show max (Ideal.div (broadcastTo (M m u) g h.bu (ix2 i f) * ((nearest h k lo t y wr br).2 (ix2 i f)
      + (matmul (DotDims.plain m d u) none t wa (constant (M m u) .f32 0x00000000#32) (ix2 i f) + broadcastTo (M m u) ba h.bu (ix2 i f)))) dev
      + broadcastTo (M m u) be h.bu (ix2 i f)) (Scalar.ofBits .f32 0x00000000#32 : Ideal .f32) = (_ : EReal)
    rw [zero_f32, matmul0_apply, broadcastTo_1b_ab_apply, broadcastTo_1b_ab_apply, broadcastTo_1b_ab_apply]
    rfl
  rw [e]
  unfold nearest
  rw [hr]
  exact Finset.comp_sup_eq_sup_comp_of_nonempty (g := fun x => actS (g (ix2 (0 : Fin 1) f)) (be (ix2 (0 : Fin 1) f)) (x + denseS (fun i c => t (ix2 i c)) (fun c f => wa (ix2 c f)) (fun f => ba (ix2 (0 : Fin 1) f)) i f))
    (fun x y hxy => actS_mono (hg f) (add_le_add hxy le_rfl)) ⟨(⟨0, h0⟩ : Fin k), Finset.mem_univ _⟩

end Kernel

end Cert.Net
-- ==== Proof.Pre.lean ====
/- The precondition's stated facts, and what it says of the arguments. -/
module

public import proofs.«01_k».proof.Pre_finite_and_scaled_up
public import proofs.«01_k».proof.Proof.Near
public import Idealize.ShloMosaic.Lib.ReduceAll

@[expose] public section

noncomputable section

namespace Cert.Pre_finite_and_scaled_up.Gen

open Idealize.ShloMosaic Cert.Pre_finite_and_scaled_up

theorem bcast_S_S32x1024x3 : S_.BroadcastsInDim S32x1024x3 (![] : Fin 0 → Fin S32x1024x3.rank) := by decide
theorem reducesTo_S32x1024x3_S_d0_1_2 : S32x1024x3.ReducesTo [0, 1, 2] S_ := by decide
theorem h_S_ : 0 < S_.numel := by decide
theorem bcast_S_S3x64 : S_.BroadcastsInDim S3x64 (![] : Fin 0 → Fin S3x64.rank) := by decide
theorem reducesTo_S3x64_S_d0_1 : S3x64.ReducesTo [0, 1] S_ := by decide
theorem bcast_S_S64 : S_.BroadcastsInDim S64 (![] : Fin 0 → Fin S64.rank) := by decide
theorem reducesTo_S64_S_d0 : S64.ReducesTo [0] S_ := by decide
theorem bcast_S_S64x64 : S_.BroadcastsInDim S64x64 (![] : Fin 0 → Fin S64x64.rank) := by decide
theorem reducesTo_S64x64_S_d0_1 : S64x64.ReducesTo [0, 1] S_ := by decide
theorem bcast_S_S64x128 : S_.BroadcastsInDim S64x128 (![] : Fin 0 → Fin S64x128.rank) := by decide
theorem reducesTo_S64x128_S_d0_1 : S64x128.ReducesTo [0, 1] S_ := by decide
theorem bcast_S_S128 : S_.BroadcastsInDim S128 (![] : Fin 0 → Fin S128.rank) := by decide
theorem reducesTo_S128_S_d0 : S128.ReducesTo [0] S_ := by decide
theorem bcast_S_S256 : S_.BroadcastsInDim S256 (![] : Fin 0 → Fin S256.rank) := by decide
theorem reducesTo_S256_S_d0 : S256.ReducesTo [0] S_ := by decide

instance facts : Cert.Pre_finite_and_scaled_up.Facts where
  bcast_S_S32x1024x3 := bcast_S_S32x1024x3
  reducesTo_S32x1024x3_S_d0_1_2 := reducesTo_S32x1024x3_S_d0_1_2
  h_S_ := h_S_
  bcast_S_S3x64 := bcast_S_S3x64
  reducesTo_S3x64_S_d0_1 := reducesTo_S3x64_S_d0_1
  bcast_S_S64 := bcast_S_S64
  reducesTo_S64_S_d0 := reducesTo_S64_S_d0
  bcast_S_S64x64 := bcast_S_S64x64
  reducesTo_S64x64_S_d0_1 := reducesTo_S64x64_S_d0_1
  bcast_S_S64x128 := bcast_S_S64x128
  reducesTo_S64x128_S_d0_1 := reducesTo_S64x128_S_d0_1
  bcast_S_S128 := bcast_S_S128
  reducesTo_S128_S_d0 := reducesTo_S128_S_d0
  bcast_S_S256 := bcast_S_S256
  reducesTo_S256_S_d0 := reducesTo_S256_S_d0

end Cert.Pre_finite_and_scaled_up.Gen

namespace Cert.Net

open Idealize.ShloMosaic Cert.Pre_finite_and_scaled_up

/-- A word that is the conjunction of two. -/
theorem andi_one {s : Shape} (x y : IVec s 1) (i : s.Idx) : andi x y i = 1#1 ↔ x i = 1#1 ∧ y i = 1#1 := by
  show x i &&& y i = 1#1 ↔ _
  generalize x i = a
  generalize y i = b
  revert a b
  decide

/-- What is less than infinity in magnitude is a real. -/
theorem bounded_real {s : Shape} (x : FVec Ideal s .f32) (b : S_.BroadcastsInDim s (![] : Fin 0 → Fin s.rank)) (i : s.Idx)
    (e : cmpf .olt (Host.absf x) (broadcastInDim s ![] b (constant (F := Ideal) S_ .f32 0x7F800000#32)) i = 1#1) : IsReal (x i) := by
  have e : FloatOps.cmpf (F := Ideal) (φ := .f32) .olt (max (x i) (-(x i)) : EReal) (Ideal.ofBits .f32 0x7F800000#32) = 1#1 := e
  rw [cmpf_olt, top_f32] at e
  have h := max_lt_iff.1 e
  refine ⟨(x i).toReal, (EReal.coe_toReal h.1.ne ?_).symm⟩
  intro hb
  rw [hb] at h
  exact absurd h.2 (by simp)

/-- What is at least zero. -/
theorem scale_nonneg {s : Shape} (x : FVec Ideal s .f32) (b : S_.BroadcastsInDim s (![] : Fin 0 → Fin s.rank)) (i : s.Idx)
    (e : cmpf .oge x (broadcastInDim s ![] b (constant (F := Ideal) S_ .f32 0x00000000#32)) i = 1#1) : 0 ≤ x i := by
  have e : Ideal.cmp .oge (x i) (Ideal.ofBits .f32 0x00000000#32) = 1#1 := e
  rw [Ideal.ofBits_zero_f32] at e
  by_contra h
  simp [Ideal.cmp, h] at e

instance : Subsingleton S_.Idx := ⟨fun a b => funext fun x => x.elim0⟩

/-- The precondition, read. -/
theorem pre_reads (arg0 : FVec Ideal S32x1024x3 .f32) (arg1 : FVec Ideal S3x64 .f32) (arg2 : FVec Ideal S64 .f32) (arg3 : FVec Ideal S3x64 .f32) (arg4 : FVec Ideal S64 .f32) (arg5 : FVec Ideal S64 .f32) (arg6 : FVec Ideal S64 .f32) (arg7 : FVec Ideal S64x64 .f32) (arg8 : FVec Ideal S64 .f32) (arg9 : FVec Ideal S64x64 .f32) (arg10 : FVec Ideal S64 .f32) (arg11 : FVec Ideal S64 .f32) (arg12 : FVec Ideal S64 .f32) (arg13 : FVec Ideal S64x128 .f32) (arg14 : FVec Ideal S128 .f32) (arg15 : FVec Ideal S64x128 .f32) (arg16 : FVec Ideal S128 .f32) (arg17 : FVec Ideal S128 .f32) (arg18 : FVec Ideal S128 .f32) (arg19 : FVec Ideal S128x256 .f32) (arg20 : FVec Ideal S256 .f32) (arg21 : FVec Ideal S128x256 .f32) (arg22 : FVec Ideal S256 .f32) (arg23 : FVec Ideal S256 .f32) (arg24 : FVec Ideal S256 .f32) (arg25 : FVec Ideal S512x1024 .f32) (arg26 : FVec Ideal S1024 .f32) (arg27 : FVec Ideal S1024 .f32) (arg28 : FVec Ideal S1024 .f32) (arg29 : FVec Ideal S1024x512 .f32) (arg30 : FVec Ideal S512 .f32) (arg31 : FVec Ideal S512 .f32) (arg32 : FVec Ideal S512 .f32) (arg33 : FVec Ideal S512x256 .f32) (arg34 : FVec Ideal S256 .f32) (arg35 : FVec Ideal S256 .f32) (arg36 : FVec Ideal S256 .f32) (arg37 : FVec Ideal S256x40 .f32) (arg38 : FVec Ideal S40 .f32) (j : S_.Idx)
    (h : Cert.Pre_finite_and_scaled_up.fn (F := Ideal) arg0 arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 j = 1#1) :
    (∀ i, IsReal (arg0 i)) ∧ (∀ i, IsReal (arg1 i)) ∧ (∀ i, IsReal (arg2 i)) ∧ (∀ i, IsReal (arg3 i)) ∧ (∀ i, IsReal (arg4 i)) ∧ (∀ i, IsReal (arg5 i)) ∧ (∀ i, IsReal (arg6 i)) ∧ (∀ i, IsReal (arg7 i)) ∧ (∀ i, IsReal (arg8 i)) ∧ (∀ i, IsReal (arg9 i)) ∧ (∀ i, IsReal (arg10 i)) ∧ (∀ i, IsReal (arg11 i)) ∧ (∀ i, IsReal (arg12 i)) ∧ (∀ i, IsReal (arg13 i)) ∧ (∀ i, IsReal (arg14 i)) ∧ (∀ i, IsReal (arg15 i)) ∧ (∀ i, IsReal (arg16 i)) ∧ (∀ i, IsReal (arg17 i)) ∧ (∀ i, IsReal (arg18 i)) ∧ (∀ i, 0 ≤ arg5 i) ∧ (∀ i, 0 ≤ arg11 i) ∧ (∀ i, 0 ≤ arg17 i) ∧ (∀ i, 0 ≤ arg23 i) := by
  simp only [fn, fn_part1, fn_part2, fn_part3, fn_part4, fn_part5, fn_part6, andi_one] at h
  obtain ⟨⟨⟨⟨⟨⟨⟨h0, ⟨⟨⟨⟨⟨h1, h2⟩, h3⟩, h4⟩, h5⟩, h6⟩⟩, ⟨⟨⟨⟨⟨h7, h8⟩, h9⟩, h10⟩, h11⟩, h12⟩⟩, ⟨⟨⟨⟨⟨h13, h14⟩, h15⟩, h16⟩, h17⟩, h18⟩⟩, g5⟩, g11⟩, g17⟩, g23⟩ := h
  exact ⟨fun i => bounded_real _ _ i (Host.reduce_andi_all _ _ _ _ j h0 i), fun i => bounded_real _ _ i (Host.reduce_andi_all _ _ _ _ j h1 i), fun i => bounded_real _ _ i (Host.reduce_andi_all _ _ _ _ j h2 i), fun i => bounded_real _ _ i (Host.reduce_andi_all _ _ _ _ j h3 i), fun i => bounded_real _ _ i (Host.reduce_andi_all _ _ _ _ j h4 i), fun i => bounded_real _ _ i (Host.reduce_andi_all _ _ _ _ j h5 i), fun i => bounded_real _ _ i (Host.reduce_andi_all _ _ _ _ j h6 i), fun i => bounded_real _ _ i (Host.reduce_andi_all _ _ _ _ j h7 i), fun i => bounded_real _ _ i (Host.reduce_andi_all _ _ _ _ j h8 i), fun i => bounded_real _ _ i (Host.reduce_andi_all _ _ _ _ j h9 i), fun i => bounded_real _ _ i (Host.reduce_andi_all _ _ _ _ j h10 i), fun i => bounded_real _ _ i (Host.reduce_andi_all _ _ _ _ j h11 i), fun i => bounded_real _ _ i (Host.reduce_andi_all _ _ _ _ j h12 i), fun i => bounded_real _ _ i (Host.reduce_andi_all _ _ _ _ j h13 i), fun i => bounded_real _ _ i (Host.reduce_andi_all _ _ _ _ j h14 i), fun i => bounded_real _ _ i (Host.reduce_andi_all _ _ _ _ j h15 i), fun i => bounded_real _ _ i (Host.reduce_andi_all _ _ _ _ j h16 i), fun i => bounded_real _ _ i (Host.reduce_andi_all _ _ _ _ j h17 i), fun i => bounded_real _ _ i (Host.reduce_andi_all _ _ _ _ j h18 i), fun i => scale_nonneg _ _ i (Host.reduce_andi_all _ _ _ _ j g5 i), fun i => scale_nonneg _ _ i (Host.reduce_andi_all _ _ _ _ j g11 i), fun i => scale_nonneg _ _ i (Host.reduce_andi_all _ _ _ _ j g17 i), fun i => scale_nonneg _ _ i (Host.reduce_andi_all _ _ _ _ j g23 i)⟩

end Cert.Net
-- ==== Proof.Ranked.lean ====
/- The reference's stable sort of blocks of rows, against the kernel's sort step. -/
module

public import proofs.«01_k».proof.Proof.Sorted

@[expose] public section

namespace Cert.Net

open Idealize.ShloMosaic Idealize.ShloMosaic.ValueIdx

/-- The places a block's rows go to. -/
noncomputable def ranks {G s : ℕ} (X : (T G s 3).Idx → EReal) (d : Fin 3) (g : Fin G) : Fin s → Fin s :=
  sortedFrom fun k k' => decide (X (ix3 g k d) < X (ix3 g k' d))

/-- The reference's sort read at an index. -/
theorem sort2_apply {G s : ℕ} (cmp : EReal × EReal → EReal × EReal → BitVec 1) (hcmp : ∀ l r, cmp l r = 1#1 ↔ l.1 < r.1)
    (K X : (T G s 3).Idx → EReal) (d : Fin 3) (hK : ∀ g r c, K (ix3 g r c) = X (ix3 g r d)) (g : Fin G) (r : Fin s) (c : Fin 3) :
    (Host.sort2 (T G s 3) 1 cmp K X).2 (ix3 g r c) = X (ix3 g (ranks X d g r) c) := by
  have hal : ∀ k : Fin s, (ix3 g r c).along (s := T G s 3) (1 : Fin 3) k = ix3 g k c := fun k => by
    funext ax
    match ax with
    | ⟨0, _⟩ => rfl
    | ⟨1, _⟩ => rfl
    | ⟨2, _⟩ => rfl
  have hb : (fun k k' : Fin s => cmp (K ((ix3 g r c).along (s := T G s 3) (1 : Fin 3) k), X ((ix3 g r c).along (s := T G s 3) (1 : Fin 3) k))
      (K ((ix3 g r c).along (s := T G s 3) (1 : Fin 3) k'), X ((ix3 g r c).along (s := T G s 3) (1 : Fin 3) k')) == 1#1)
      = fun k k' => decide (X (ix3 g k d) < X (ix3 g k' d)) := by
    funext k k'
    rw [hal, hal, hK, hK]
    rw [Bool.eq_iff_iff, beq_iff_eq, hcmp, decide_eq_true_iff]
  show X ((ix3 g r c).along (s := T G s 3) (1 : Fin 3) (sortedFrom (fun k k' : Fin s => cmp (K ((ix3 g r c).along (s := T G s 3) (1 : Fin 3) k), X ((ix3 g r c).along (s := T G s 3) (1 : Fin 3) k))
      (K ((ix3 g r c).along (s := T G s 3) (1 : Fin 3) k'), X ((ix3 g r c).along (s := T G s 3) (1 : Fin 3) k')) == 1#1) r)) = _
  rw [hb]
  exact congrArg X (hal _)

/-- Cloud `p`'s rows are the array's, block by block. -/
structure Rel (p : ℕ) {G s : ℕ} (y : FVec Ideal (M 1024 3) .f32) (X : (T G s 3).Idx → EReal) : Prop where
  real : ∀ i, IsReal (y i)
  eq : ∀ (q : Fin 1024) (g : Fin G) (r : Fin s) (e : Fin 3), g.val * s + r.val = p * 1024 + q.val → y (ix2 q e) = X (ix3 g r e)

/-- A sort step keeps the agreement. -/
theorem Rel.sort {p G s d : ℕ} {y : FVec Ideal (M 1024 3) .f32} {X : (T G s 3).Idx → EReal} (h : Rel p y X) (hp : p < 32)
    (sh B : ℕ) (hsh : sh ≤ 10) (hs : s = 2 ^ sh) (hB : 1024 = B * 2 ^ sh) (hG : G = 32 * B) (k : KeyFacts 1024 d) (hd : d < 3)
    (cmp : EReal × EReal → EReal × EReal → BitVec 1) (hcmp : ∀ l r, cmp l r = 1#1 ↔ l.1 < r.1)
    (K : (T G s 3).Idx → EReal) (hK : ∀ g r c, K (ix3 g r c) = X (ix3 g r (⟨d, hd⟩ : Fin 3))) :
    Rel p (sortStep sf k sh y) (Host.sort2 (T G s 3) 1 cmp K X).2 := by
  subst hs hG
  have hs0 : 0 < 2 ^ sh := Nat.two_pow_pos sh
  let at' : Fin B → Fin (2 ^ sh) → Fin 1024 := fun b q => ⟨b.val * 2 ^ sh + q.val, by
    have h1 := b.isLt
    have h2 := q.isLt
    have : (b.val + 1) * 2 ^ sh ≤ B * 2 ^ sh := Nat.mul_le_mul_right _ h1
    rw [Nat.add_mul, Nat.one_mul] at this
    omega⟩
  let gb : Fin B → Fin (32 * B) := fun b => ⟨p * B + b.val, by
    have h1 := b.isLt
    have : (p + 1) * B ≤ 32 * B := Nat.mul_le_mul_right _ hp
    rw [Nat.add_mul, Nat.one_mul] at this
    omega⟩
  have hgb : ∀ b q, (gb b).val * 2 ^ sh + q = p * 1024 + (b.val * 2 ^ sh + q) := fun b q => by
    show (p * B + b.val) * 2 ^ sh + q = _
    rw [Nat.add_mul, Nat.mul_assoc, ← hB, Nat.add_assoc]
  have hyX : ∀ b q e, y (ix2 (at' b q) e) = X (ix3 (gb b) q e) := fun b q e => h.eq _ _ _ _ (hgb b q.val)
  have hstep : ∀ b r e, sortStep sf k sh y (ix2 (at' b r) e) = y (ix2 (at' b (ranks X ⟨d, hd⟩ (gb b) r)) e) := fun b r e => by
    refine sortStep_apply sf k sh hsh (le_refl _) hd y h.real hB at' (fun _ _ => rfl) (fun b => ranks X ⟨d, hd⟩ (gb b)) (fun b => ?_) b r e
    have : (fun q => (y (ix2 (at' b q) (⟨d, hd⟩ : Fin 3)) : EReal)) = fun q => X (ix3 (gb b) q (⟨d, hd⟩ : Fin 3)) :=
      funext fun q => hyX b q _
    rw [this]
    exact Order.sorts_sortedFrom _ _ fun a b => decide_eq_true_iff
  have hsurj : ∀ q : Fin 1024, ∃ b r, q = at' b r := fun q => by
    have hq := q.isLt
    refine ⟨⟨q.val / 2 ^ sh, Nat.div_lt_of_lt_mul (by rw [Nat.mul_comm, ← hB]; exact hq)⟩, ⟨q.val % 2 ^ sh, Nat.mod_lt _ hs0⟩, Fin.ext ?_⟩
    show q.val = q.val / 2 ^ sh * 2 ^ sh + q.val % 2 ^ sh
    rw [Nat.mul_comm]
    exact (Nat.div_add_mod _ _).symm
  constructor
  · intro i
    obtain ⟨a, c, rfl⟩ : ∃ (a : Fin 1024) (c : Fin 3), i = ix2 a c := ⟨_, _, eq_ix2 i⟩
    obtain ⟨b, r, rfl⟩ := hsurj a
    rw [hstep b r c]
    exact h.real _
  · intro q g r e hq
    obtain ⟨b, r', rfl⟩ := hsurj q
    have h1 : g.val * 2 ^ sh + r.val = (gb b).val * 2 ^ sh + r'.val := hq.trans (hgb b r'.val).symm
    have hg : g = gb b := Fin.ext (by
      have e1 : (g.val * 2 ^ sh + r.val) / 2 ^ sh = g.val := by
        rw [Nat.mul_comm, Nat.mul_add_div hs0, Nat.div_eq_of_lt r.isLt, Nat.add_zero]
      have e2 : ((gb b).val * 2 ^ sh + r'.val) / 2 ^ sh = (gb b).val := by
        rw [Nat.mul_comm, Nat.mul_add_div hs0, Nat.div_eq_of_lt r'.isLt, Nat.add_zero]
      rw [← e1, h1, e2])
    subst hg
    obtain rfl : r = r' := Fin.ext (by omega)
    rw [hstep, hyX, sort2_apply cmp hcmp K X ⟨d, hd⟩ hK]

/-- Regrouping the rows keeps the agreement. -/
theorem Rel.regroup {p G s G' s' : ℕ} {y : FVec Ideal (M 1024 3) .f32} {X : (T G s 3).Idx → EReal} (h : Rel p y X)
    (hn : G * s = G' * s') (hc : (T G s 3).ShapeCasts (T G' s' 3)) : Rel p y (shapeCast (T G' s' 3) X hc) := by
  refine ⟨h.real, fun q g r e hq => ?_⟩
  have hlt : g.val * s' + r.val < G * s := by
    have h1 := g.isLt
    have h2 := r.isLt
    have : (g.val + 1) * s' ≤ G' * s' := Nat.mul_le_mul_right _ h1
    rw [Nat.add_mul, Nat.one_mul] at this
    omega
  have hs0 : 0 < s := Nat.pos_of_ne_zero fun h0 => by subst h0; omega
  have hdm : (g.val * s' + r.val) / s * s + (g.val * s' + r.val) % s = g.val * s' + r.val := by
    rw [Nat.mul_comm]; exact Nat.div_add_mod _ _
  rw [shapeCast_apply X hc (ix3 g r e) (ix3 (⟨(g.val * s' + r.val) / s, Nat.div_lt_of_lt_mul (by rw [Nat.mul_comm s G]; exact hlt)⟩ : Fin G)
    (⟨(g.val * s' + r.val) % s, Nat.mod_lt _ hs0⟩ : Fin s) e)]
  · exact h.eq _ _ _ _ (hdm.trans hq)
  · rw [Shape.rowMajor_val_three, Shape.rowMajor_val_three]
    show ((g.val * s' + r.val) / s * s + (g.val * s' + r.val) % s) * 3 + e.val = (g.val * s' + r.val) * 3 + e.val
    rw [hdm]

end Cert.Net
-- ==== Proof.Tree.lean ====
/- The ten sorts: the kernel's order of a cloud's points is the reference's. -/
module

public import proofs.«01_k».proof.Proof.Ranked
public import proofs.«01_k».proof.Proof.Gen.ReferenceIdeal.Run

@[expose] public section

namespace Cert.Net

open Idealize.ShloMosaic Idealize.ShloMosaic.ValueIdx Idealize.ShloMosaic.TcCoe Cert.ReferenceIdeal Cert.ReferenceIdeal.Gen
  Cert.ReferenceIdeal.Value

/-- The reference's comparison of pairs is the keys'. -/
theorem comparator_iff (l r : EReal × EReal) : comparator_f32_f32_d1 (F := Ideal) l r = 1#1 ↔ l.1 < r.1 := by
  have key : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := fun x => by
    have h0 : FloatOps.ofBits (F := Ideal) .f32 0x00000000#32 = (0 : EReal) := Ideal.ofBits_zero_f32
    have h1 : FloatOps.cmpf (F := Ideal) (φ := .f32) .une x x = 0#1 := by
      show Ideal.cmp .une x x = 0#1
      simp [Ideal.cmp]
    rw [h1, h0]
    by_cases hx : x = 0
    · subst hx
      have : FloatOps.cmpf (F := Ideal) (φ := .f32) .oeq (0 : EReal) (0 : EReal) = 1#1 := (cmpf_oeq 0 0).2 rfl
      rw [this]; rfl
    · have : FloatOps.cmpf (F := Ideal) (φ := .f32) .oeq x (0 : EReal) = 0#1 := by
        show Ideal.cmp .oeq x 0 = 0#1
        simp [Ideal.cmp, hx]
      rw [this]; rfl
  unfold comparator_f32_f32_d1
  show FloatOps.cmpfTotal (F := Ideal) (φ := .f32) .lt (Scalar.select (FloatOps.cmpf (F := Ideal) (φ := .f32) .une l.1 l.1) _ _)
    (Scalar.select (FloatOps.cmpf (F := Ideal) (φ := .f32) .une r.1 r.1) _ _) = 1#1 ↔ _
  rw [key, key]
  exact cmpf_olt l.1 r.1

/-- A column of the rows spread over the row. -/
theorem keys_apply {G s d : ℕ} (hd : d < 3) (X : (T G s 3).Idx → EReal) (hs : (T G s 3).Slices ![0, 0, d] (T G s 1))
    (hb : (T G s 1).BroadcastsInDim (T G s 3) ![0, 1, 2]) (g : Fin G) (r : Fin s) (c : Fin 3) :
    broadcastInDim (T G s 3) ![0, 1, 2] hb (extractStridedSlice (T G s 1) ![0, 0, d] X hs) (ix3 g r c) = X (ix3 g r (⟨d, hd⟩ : Fin 3)) := by
  rw [broadcastInDim_apply _ _ (extractStridedSlice (T G s 1) ![0, 0, d] X hs) (ix3 g r c) (ix3 g r (0 : Fin 1))]
  · refine extractStridedSlice_apply _ _ _ _ _ fun ax => ?_
    match ax with
    | ⟨0, _⟩ => exact (Nat.zero_add _).symm
    | ⟨1, _⟩ => exact (Nat.zero_add _).symm
    | ⟨2, _⟩ => rfl
  · intro ax
    match ax with
    | ⟨0, _⟩ =>
      show g.val = if G = 1 then 0 else g.val
      split
      · have := g.isLt; omega
      · rfl
    | ⟨1, _⟩ =>
      show r.val = if s = 1 then 0 else r.val
      split
      · have := r.isLt; omega
      · rfl
    | ⟨2, _⟩ => rfl

/-- The order of a cloud's points. -/
theorem tree (p : ℕ) (hp : p < 32) (V : Valuation τ sig (Elt Ideal)) (x : FVec Ideal (T 1 1024 3) .f32) (X : (T 32 1024 3).Idx → EReal)
    (hX : (V (Proc.devRef .tc main_arg0) : (T 32 1024 3).Idx → EReal) = X)
    (hx : ∀ (q : Fin 1024) (e : Fin 3), x (ix3 (0 : Fin 1) q e) = X (ix3 (⟨p, hp⟩ : Fin 32) q e)) (hr : ∀ i, IsReal (X i)) :
    Rel (G := 32) (s := 1024) p (sort10 x) (res_main_v47 V) := by
  have h0 : Rel (G := 32) (s := 1024) p (sort0 x) X := by
    have e0 : ∀ (q : Fin 1024) (e : Fin 3), sort0 x (ix2 q e) = X (ix3 (⟨p, hp⟩ : Fin 32) q e) := fun q e =>
      (shapeCast_1ab_ab_apply x flat0 q e).trans (hx q e)
    refine ⟨fun i => ?_, fun q g r e h => ?_⟩
    · obtain ⟨a, c, rfl⟩ : ∃ (a : Fin 1024) (c : Fin 3), i = ix2 a c := ⟨_, _, eq_ix2 i⟩
      rw [e0]; exact hr _
    · have h1 := q.isLt
      have h2 := r.isLt
      obtain rfl : g = ⟨p, hp⟩ := Fin.ext (by show g.val = p; omega)
      obtain rfl : r = q := Fin.ext (by have : p * 1024 + r.val = p * 1024 + q.val := h; omega)
      exact e0 r e
  subst hX
  have h1 : Rel (G := 64) (s := 512) p (sort1 x) (res_main_v3 V) := by
    unfold res_main_v3 res_main_v1
    exact (h0.sort hp 10 1 (by norm_num) (by norm_num) (by norm_num) (by norm_num) key0 (by norm_num) _ comparator_iff _
      (keys_apply _ _ _ _)).regroup (by norm_num) _
  have h2 : Rel (G := 128) (s := 256) p (sort2 x) (res_main_v8 V) := by
    unfold res_main_v8 res_main_v5
    exact ((h1.sort hp 9 2 (by norm_num) (by norm_num) (by norm_num) (by norm_num) key1 (by norm_num) _ comparator_iff _
      (keys_apply _ _ _ _)).regroup (G' := 32) (s' := 1024) (by norm_num) _).regroup (by norm_num) _
  have h3 : Rel (G := 256) (s := 128) p (sort3 x) (res_main_v13 V) := by
    unfold res_main_v13 res_main_v10
    exact ((h2.sort hp 8 4 (by norm_num) (by norm_num) (by norm_num) (by norm_num) key2 (by norm_num) _ comparator_iff _
      (keys_apply _ _ _ _)).regroup (G' := 32) (s' := 1024) (by norm_num) _).regroup (by norm_num) _
  have h4 : Rel (G := 512) (s := 64) p (sort4 x) (res_main_v18 V) := by
    unfold res_main_v18 res_main_v15
    exact ((h3.sort hp 7 8 (by norm_num) (by norm_num) (by norm_num) (by norm_num) key0 (by norm_num) _ comparator_iff _
      (keys_apply _ _ _ _)).regroup (G' := 32) (s' := 1024) (by norm_num) _).regroup (by norm_num) _
  have h5 : Rel (G := 1024) (s := 32) p (sort5 x) (res_main_v23 V) := by
    unfold res_main_v23 res_main_v20
    exact ((h4.sort hp 6 16 (by norm_num) (by norm_num) (by norm_num) (by norm_num) key1 (by norm_num) _ comparator_iff _
      (keys_apply _ _ _ _)).regroup (G' := 32) (s' := 1024) (by norm_num) _).regroup (by norm_num) _
  have h6 : Rel (G := 2048) (s := 16) p (sort6 x) (res_main_v28 V) := by
    unfold res_main_v28 res_main_v25
    exact ((h5.sort hp 5 32 (by norm_num) (by norm_num) (by norm_num) (by norm_num) key2 (by norm_num) _ comparator_iff _
      (keys_apply _ _ _ _)).regroup (G' := 32) (s' := 1024) (by norm_num) _).regroup (by norm_num) _
  have h7 : Rel (G := 4096) (s := 8) p (sort7 x) (res_main_v33 V) := by
    unfold res_main_v33 res_main_v30
    exact ((h6.sort hp 4 64 (by norm_num) (by norm_num) (by norm_num) (by norm_num) key0 (by norm_num) _ comparator_iff _
      (keys_apply _ _ _ _)).regroup (G' := 32) (s' := 1024) (by norm_num) _).regroup (by norm_num) _
  have h8 : Rel (G := 8192) (s := 4) p (sort8 x) (res_main_v38 V) := by
    unfold res_main_v38 res_main_v35
    exact ((h7.sort hp 3 128 (by norm_num) (by norm_num) (by norm_num) (by norm_num) key1 (by norm_num) _ comparator_iff _
      (keys_apply _ _ _ _)).regroup (G' := 32) (s' := 1024) (by norm_num) _).regroup (by norm_num) _
  have h9 : Rel (G := 16384) (s := 2) p (sort9 x) (res_main_v43 V) := by
    unfold res_main_v43 res_main_v40
    exact ((h8.sort hp 2 256 (by norm_num) (by norm_num) (by norm_num) (by norm_num) key2 (by norm_num) _ comparator_iff _
      (keys_apply _ _ _ _)).regroup (G' := 32) (s' := 1024) (by norm_num) _).regroup (by norm_num) _
  unfold res_main_v47 res_main_v45
  exact (h9.sort hp 1 512 (by norm_num) (by norm_num) (by norm_num) (by norm_num) key0 (by norm_num) _ comparator_iff _
    (keys_apply _ _ _ _)).regroup (by norm_num) _

end Cert.Net
-- ==== Proof.Refs.lean ====
/- The reference read at an index: its levels are the network's levels as mathematics. -/
module

public import proofs.«01_k».proof.Proof.Near
public import proofs.«01_k».proof.Proof.Gen.ReferenceIdeal.Run
public import Idealize.ShloMosaic.Lib.Pointwise
public import Idealize.ShloMosaic.Lib.Tactic.CleanTypes

@[expose] public section

noncomputable section

namespace Cert.Net

open Idealize.ShloMosaic Idealize.ShloMosaic.TcCoe Cert.ReferenceIdeal Cert.ReferenceIdeal.Gen Cert.ReferenceIdeal.Value

/-- A stack of stacks of matrices. -/
abbrev Q (a b c d : ℕ) : Shape := ⟨4, ![a, b, c, d]⟩

/-- The greatest of the negated entries come in the order of the entries. -/
theorem topK_apply {B m n k : ℕ} (hk : k ≤ n) (X : FVec Ideal (T B m n) .f32) (h : (T B m n).Slices (fun _ => 0) (T B m k))
    (D : Fin B → Fin m → Fin n → EReal) (hX : ∀ p i j, X (ix3 p i j) = -(D p i j)) (p : Fin B) (i : Fin m) (r : Fin k) :
    (Host.topK (T B m k) 2 (FloatOps.cmpfTotal (F := Ideal) (φ := .f32) .gt) X h).2 (ix3 p i r)
      = BitVec.ofNat 32 (nearS (D p i) (Fin.castLE hk r)).val := by
  let q : (T B m n).Idx := ix3 p i (Fin.castLE hk r)
  have hal : ∀ j : Fin n, q.along (s := T B m n) (2 : Fin 3) j = ix3 p i j := fun j => by
    funext ax
    match ax with
    | ⟨0, _⟩ => rfl
    | ⟨1, _⟩ => rfl
    | ⟨2, _⟩ => rfl
  have hb : (fun a b : Fin n => FloatOps.cmpfTotal (F := Ideal) (φ := .f32) .gt (X (q.along (s := T B m n) (2 : Fin 3) a)) (X (q.along (s := T B m n) (2 : Fin 3) b)) == 1#1)
      = fun a b => decide (D p i a < D p i b) := by
    funext a b
    rw [hal, hal, hX, hX, Bool.eq_iff_iff, beq_iff_eq, decide_eq_true_iff]
    show Ideal.cmp .ogt (-(D p i a)) (-(D p i b)) = 1#1 ↔ _
    by_cases hl : D p i a < D p i b
    · simp [Ideal.cmp, hl]
    · simp [Ideal.cmp, hl]
  have e : (Host.topK (T B m k) 2 (FloatOps.cmpfTotal (F := Ideal) (φ := .f32) .gt) X h).2 (ix3 p i r)
      = (Host.sort2 (T B m n) 2 (fun l r => FloatOps.cmpfTotal (F := Ideal) (φ := .f32) .gt l.1 r.1) X
        (fun i => if hd : 2 < (T B m n).rank then iotaInDim (T B m n) 32 ⟨2, hd⟩ i else 0#32)).2 q := by
    unfold Host.topK
    dsimp only
    refine extractStridedSlice_apply _ _ h (ix3 p i r) q fun ax => ?_
    match ax with
    | ⟨0, _⟩ => exact (Nat.zero_add _).symm
    | ⟨1, _⟩ => exact (Nat.zero_add _).symm
    | ⟨2, _⟩ => exact (Nat.zero_add _).symm
  rw [e]
  show BitVec.ofNat 32 ((q.along (s := T B m n) (2 : Fin 3) (sortedFrom (fun a b : Fin n => FloatOps.cmpfTotal (F := Ideal) (φ := .f32) .gt
    (X (q.along (s := T B m n) (2 : Fin 3) a)) (X (q.along (s := T B m n) (2 : Fin 3) b)) == 1#1) (Fin.castLE hk r))) 2).val = _
  rw [hb]
  exact congrArg (fun z : (T B m n).Idx => BitVec.ofNat 32 (z 2).val) (hal _)

/-- Gathering `k` of `n` rows for each of `m` targets. -/
abbrev patchDims (B n m k d : ℕ) (wf : GatherDims.WF (T B n d) (Q B m k 1) (Q B m k d) [3] [1] [0] [1] [0] 3 ![1, 1, d]) :
    GatherDims (T B n d) (Q B m k 1) (Q B m k d) where
  offsetDims := [3]
  collapsedSliceDims := [1]
  operandBatchingDims := [0]
  startIndicesBatchingDims := [0]
  startIndexMap := [1]
  indexVectorDim := 3
  sliceSizes := ![1, 1, d]
  wf := wf

theorem gather_apply {α : Type} {B n m k d : ℕ} (hn : 0 < n)
    (wf : GatherDims.WF (T B n d) (Q B m k 1) (Q B m k d) [3] [1] [0] [1] [0] 3 ![1, 1, d])
    (y : (T B n d).Idx → α) (idx : IVec (Q B m k 1) 32) (p : Fin B) (i : Fin m) (r : Fin k) (c : Fin d) :
    Host.gather (patchDims B n m k d wf) y idx (ix4 p i r c)
      = y (ix3 p (⟨min (idx (ix4 p i r (0 : Fin 1))).toInt.toNat (n - 1), by omega⟩ : Fin n) c) := by
  unfold Host.gather
  congr 1
  funext a
  refine Fin.ext ?_
  show (patchDims B n m k d wf).start (ix4 p i r c) idx a + (patchDims B n m k d wf).batchCoord (ix4 p i r c) a
      + (patchDims B n m k d wf).offCoord (ix4 p i r c) a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (patchDims B n m k d wf).startIndexMap from List.mem_singleton.mpr rfl)]
    have hsi : (patchDims B n m k d wf).siIdx (ix4 p i r c) ⟨List.idxOf (1 : Fin 3) (patchDims B n m k d wf).startIndexMap,
        List.idxOf_lt_length_iff.2 (List.mem_singleton.mpr rfl)⟩ = ix4 p i r (0 : Fin 1) := by
      funext b; refine Fin.ext ?_
      match b with
      | ⟨0, _⟩ => rfl
      | ⟨1, _⟩ => rfl
      | ⟨2, _⟩ => rfl
      | ⟨3, _⟩ => rfl
    rw [hsi]
    rfl
  · have h2 : (2 : Fin 3) ∉ (patchDims B n m k d wf).startIndexMap := by
      show (2 : Fin 3) ∉ ([1] : List (Fin 3)); decide
    have h3 : (2 : Fin 3) ∉ (patchDims B n m k d wf).operandBatchingDims := by
      show (2 : Fin 3) ∉ ([0] : List (Fin 3)); decide
    rw [GatherDims.batchCoord_eq_zero _ _ _ h3]
    unfold GatherDims.start
    rw [dif_neg h2]
    unfold GatherDims.offCoord
    rw [dif_pos ((GatherDims.mem_sKept _ _).2 ⟨by show (2 : Fin 3) ∉ ([1] : List (Fin 3)); decide, h3⟩)]
    simp only [Nat.zero_add]
    rfl

/-- The rows the reference gathers: those its list names. -/
theorem patches_apply {α : Type} {B n m k d : ℕ} (D : GatherDims (T B n d) (Q B m k 1) (Q B m k d))
    (wf : GatherDims.WF (T B n d) (Q B m k 1) (Q B m k d) [3] [1] [0] [1] [0] 3 ![1, 1, d]) (hD : D = patchDims B n m k d wf) (hn : n ≤ 4096)
    (y : (T B n d).Idx → α) (idx : IVec (T B m k) 32) (hb : (T B m k).BroadcastsInDim (Q B m k 1) ![0, 1, 2])
    (h0 : Shape.BroadcastsInDim ⟨0, ![]⟩ (T B m k) ![]) (w : BitVec 32) (p : Fin B) (i : Fin m) (r : Fin k) (c : Fin d) (τ : Fin n)
    (hτ : idx (ix3 p i r) = BitVec.ofNat 32 τ.val) :
    Host.gather D y (broadcastInDim (Q B m k 1) ![0, 1, 2] hb
        (select (cmpi .slt idx (broadcastInDim (T B m k) ![] h0 (constantI ⟨0, ![]⟩ 32 0#32)))
          (addi idx (broadcastInDim (T B m k) ![] h0 (constantI ⟨0, ![]⟩ 32 w))) idx)) (ix4 p i r c) = y (ix3 p τ c) := by
  have hτn := τ.isLt
  subst hD
  rw [gather_apply (by omega)]
  have e : broadcastInDim (Q B m k 1) ![0, 1, 2] hb
        (select (cmpi .slt idx (broadcastInDim (T B m k) ![] h0 (constantI ⟨0, ![]⟩ 32 0#32)))
          (addi idx (broadcastInDim (T B m k) ![] h0 (constantI ⟨0, ![]⟩ 32 w))) idx) (ix4 p i r (0 : Fin 1)) = BitVec.ofNat 32 τ.val := by
    rw [broadcastInDim_apply _ _ _ _ (ix3 p i r)]
    · show Scalar.select (IntOp.cmpi .slt (idx (ix3 p i r)) (BitVec.ofNat 32 0)) (idx (ix3 p i r) + w) (idx (ix3 p i r)) = _
      rw [hτ, select_eq, if_neg]
      rw [WordCmp.cmpi_slt_ofNat_eq_one_iff (by omega) (by omega)]
      omega
    · intro ax
      match ax with
      | ⟨0, _⟩ =>
        show p.val = if B = 1 then 0 else p.val
        split
        · have := p.isLt; omega
        · rfl
      | ⟨1, _⟩ =>
        show i.val = if m = 1 then 0 else i.val
        split
        · have := i.isLt; omega
        · rfl
      | ⟨2, _⟩ =>
        show r.val = if k = 1 then 0 else r.val
        split
        · have := r.isLt; omega
        · rfl
  refine congrArg y ?_
  have : (⟨min (broadcastInDim (Q B m k 1) ![0, 1, 2] hb
        (select (cmpi .slt idx (broadcastInDim (T B m k) ![] h0 (constantI ⟨0, ![]⟩ 32 0#32)))
          (addi idx (broadcastInDim (T B m k) ![] h0 (constantI ⟨0, ![]⟩ 32 w))) idx) (ix4 p i r (0 : Fin 1))).toInt.toNat (n - 1), by omega⟩ : Fin n) = τ :=
    Fin.ext (by
      show min _ _ = _
      rw [e, toInt_small _ (by omega), Int.toNat_natCast]
      omega)
  rw [this]

end Cert.Net
-- ==== Proof.Levels.lean ====
/- Arrays read by their coordinates. -/
module

public import proofs.«01_k».proof.Proof.Refs

@[expose] public section

noncomputable section

namespace Cert.Net

open Idealize.ShloMosaic Idealize.ShloMosaic.TcCoe Cert.ReferenceIdeal Cert.ReferenceIdeal.Gen Cert.ReferenceIdeal.Value

/-- Arrays by their coordinates. -/
def c1 {a : ℕ} (x : FVec Ideal (V a) .f32) (i : Fin a) : EReal := x (ix1 i)
def c2 {a b : ℕ} (x : FVec Ideal (M a b) .f32) (i : Fin a) (j : Fin b) : EReal := x (ix2 i j)
def c3 {a b c : ℕ} (x : FVec Ideal (T a b c) .f32) (p : Fin a) (i : Fin b) (j : Fin c) : EReal := x (ix3 p i j)

/-- The means of the pairs of rows. -/
def halvesS {n m d : ℕ} (h : n = m * 2) (y : Fin n → Fin d → EReal) (i : Fin m) (c : Fin d) : EReal :=
  Ideal.div (∑ x : Fin 2, y ⟨i.val * 2 + x.val, by have := i.isLt; have := x.isLt; omega⟩ c) two

/-- A fold of the maximum from the least value. -/
theorem fold_sup {k : ℕ} (f : Fin k → EReal) : Finset.univ.fold max (⊥ : EReal) f = Finset.univ.sup f := rfl

end Cert.Net
-- ==== Proof.Level0.lean ====
/- Level 0 of the reference, read at an index. -/
module

public import proofs.«01_k».proof.Proof.Levels

@[expose] public section

noncomputable section

namespace Cert.Net

open Idealize.ShloMosaic Idealize.ShloMosaic.TcCoe Cert.ReferenceIdeal Cert.ReferenceIdeal.Gen Cert.ReferenceIdeal.Value

theorem mean0_read (y : FVec Ideal S32x1024x3 .f32) (p : Fin 32) (i : Fin 512) (c : Fin 3) :
    (Host.divf (Host.reduceAdd (F := Ideal) (φ := .f32) (shapeCast S32x512x2x3 y shapeCasts_S32x1024x3_S32x512x2x3) (constant (F := Ideal) S_ .f32 0x00000000#32) reducesTo_S32x512x2x3_S32x512x3_d2 h_S_) (broadcastInDim S32x512x3 ![] bcast_S_S32x512x3 (constant (F := Ideal) S_ .f32 0x40000000#32))) (ix3 p i c)
      = halvesS (n := 1024) (m := 512) (by norm_num) (c3 y p) i c := by
  pointwise
  simp only [halvesS, c3, two]

theorem mean0 (v : Valuation τ sig (Elt Ideal)) (p : Fin 32) :
    c3 (res_main_v51 v : FVec Ideal (T 32 512 3) .f32) p = halvesS (n := 1024) (by norm_num) (c3 (res_main_v47 v : FVec Ideal (T 32 1024 3) .f32) p) :=
  funext fun i => funext fun c => mean0_read (res_main_v47 v) p i c

theorem dist0_read (t : FVec Ideal S32x512x3 .f32) (y : FVec Ideal S32x1024x3 .f32) (p : Fin 32) (i : Fin 512) (j : Fin 1024) :
    (Host.negf (addf (subf (broadcastInDim S32x512x1024 ![0, 1, 2] bcast_S32x512x1_S32x512x1024_0_1_2 (broadcastInDim S32x512x1 ![0, 1] bcast_S32x512_S32x512x1_0_1 (Host.reduceAdd (F := Ideal) (φ := .f32) (mulf t t) (constant (F := Ideal) S_ .f32 0x00000000#32) reducesTo_S32x512x3_S32x512_d2 h_S_))) (mulf (broadcastInDim S32x512x1024 ![] bcast_S_S32x512x1024 (constant (F := Ideal) S_ .f32 0x40000000#32)) (Host.dotGeneral (F := Ideal) (φ₁ := .f32) (φ₂ := .f32) dot_S32x512x3_S32x3x1024_S32x512x1024_2_1_1_2_0_0 none t (transpose S32x3x1024 [0, 2, 1] y transposes_S32x1024x3_S32x3x1024_0_2_1)))) (broadcastInDim S32x512x1024 ![0, 1, 2] bcast_S32x1x1024_S32x512x1024_0_1_2 (transpose S32x1x1024 [0, 2, 1] (broadcastInDim S32x1024x1 ![0, 1] bcast_S32x1024_S32x1024x1_0_1 (Host.reduceAdd (F := Ideal) (φ := .f32) (mulf y y) (constant (F := Ideal) S_ .f32 0x00000000#32) reducesTo_S32x1024x3_S32x1024_d2 h_S_)) transposes_S32x1024x1_S32x1x1024_0_2_1)))) (ix3 p i j)
      = -(distS (c3 t p) (c3 y p) i j) := by
  pointwise
  simp only [distS, c3, two]

theorem near0 (v : Valuation τ sig (Elt Ideal)) (p : Fin 32) (i : Fin 512) (r : Fin 40) :
    (res_main_indices v : IVec (T 32 512 40) 32) (ix3 p i r) = BitVec.ofNat 32 (nearS (distS (c3 (res_main_v51 v : FVec Ideal (T 32 512 3) .f32) p)
      (c3 (res_main_v47 v : FVec Ideal (T 32 1024 3) .f32) p) i) (Fin.castLE (by norm_num : 40 ≤ 1024) r)).val :=
  topK_apply (by norm_num) _ _ (fun p => distS (c3 (res_main_v51 v : FVec Ideal (T 32 512 3) .f32) p) (c3 (res_main_v47 v : FVec Ideal (T 32 1024 3) .f32) p))
    (dist0_read (res_main_v51 v) (res_main_v47 v)) p i r

theorem lev0_read (t : FVec Ideal S32x512x3 .f32) (y : FVec Ideal S32x1024x3 .f32) (idx : IVec S32x512x40 32)
    (Wr : FVec Ideal S3x64 .f32) (br : FVec Ideal S64 .f32) (Wa : FVec Ideal S3x64 .f32) (ba g be : FVec Ideal S64 .f32)
    (p : Fin 32) (i : Fin 512) (f : Fin 64)
    (hidx : ∀ r, idx (ix3 p i r) = BitVec.ofNat 32 (nearS (distS (c3 t p) (c3 y p) i) (Fin.castLE (by norm_num : 40 ≤ 1024) r)).val) :
    (Host.reduce (FloatOps.maximumf (F := Ideal) (φ := .f32)) (maximumf (addf (Host.divf (mulf (broadcastInDim S32x512x40x64 ![0, 1, 2, 3] bcast_S1x1x1x64_S32x512x40x64_0_1_2_3 (broadcastInDim S1x1x1x64 ![3] bcast_S64_S1x1x1x64_3 g)) (addf (addf (Host.dotGeneral (F := Ideal) (φ₁ := .f32) (φ₂ := .f32) dot_S32x512x40x3_S3x64_S32x512x40x64_3_0_012_1_n_n none (subf (Host.gather gather_S32x1024x3_S32x512x40x1_S32x512x40x3_3_1_0_0_1_3_113 y (broadcastInDim S32x512x40x1 ![0, 1, 2] bcast_S32x512x40_S32x512x40x1_0_1_2 (select (cmpi .slt idx (broadcastInDim S32x512x40 ![] bcast_S_S32x512x40 (constantI S_ 32 0#32))) (addi idx (broadcastInDim S32x512x40 ![] bcast_S_S32x512x40 (constantI S_ 32 1024#32))) idx))) (broadcastInDim S32x512x40x3 ![0, 1, 2, 3] bcast_S32x512x1x3_S32x512x40x3_0_1_2_3 (broadcastInDim S32x512x1x3 ![0, 1, 3] bcast_S32x512x3_S32x512x1x3_0_1_3 t))) Wr) (broadcastInDim S32x512x40x64 ![0, 1, 2, 3] bcast_S1x1x1x64_S32x512x40x64_0_1_2_3 (broadcastInDim S1x1x1x64 ![3] bcast_S64_S1x1x1x64_3 br))) (broadcastInDim S32x512x40x64 ![0, 1, 2, 3] bcast_S32x512x1x64_S32x512x40x64_0_1_2_3 (addf (Host.dotGeneral (F := Ideal) (φ₁ := .f32) (φ₂ := .f32) dot_S32x512x1x3_S3x64_S32x512x1x64_3_0_012_1_n_n none (broadcastInDim S32x512x1x3 ![0, 1, 3] bcast_S32x512x3_S32x512x1x3_0_1_3 t) Wa) (broadcastInDim S32x512x1x64 ![0, 1, 2, 3] bcast_S1x1x1x64_S32x512x1x64_0_1_2_3 (broadcastInDim S1x1x1x64 ![3] bcast_S64_S1x1x1x64_3 ba)))))) (broadcastInDim S32x512x40x64 ![] bcast_S_S32x512x40x64 (constant (F := Ideal) S_ .f32 0x3F801061#32))) (broadcastInDim S32x512x40x64 ![0, 1, 2, 3] bcast_S1x1x1x64_S32x512x40x64_0_1_2_3 (broadcastInDim S1x1x1x64 ![3] bcast_S64_S1x1x1x64_3 be))) (broadcastInDim S32x512x40x64 ![] bcast_S_S32x512x40x64 (constant (F := Ideal) S_ .f32 0x00000000#32))) (constant (F := Ideal) S_ .f32 0xFF800000#32) reducesTo_S32x512x40x64_S32x512x64_d2 h_S_) (ix3 p i f)
      = levelS 40 (by norm_num : 40 ≤ 1024) (c3 t p) (c3 y p) (c2 Wr) (c2 Wa) (c1 br) (c1 ba) (c1 g) (c1 be) i f := by
  pointwise
  rw [bot_f32]
  unfold levelS
  refine (fold_sup _).trans (Finset.sup_congr rfl fun r _ => ?_)
  have hg := fun c => patches_apply gather_S32x1024x3_S32x512x40x1_S32x512x40x3_3_1_0_0_1_3_113 gather_S32x1024x3_S32x512x40x1_S32x512x40x3_3_1_0_0_1_3_113_wf rfl (by norm_num) y idx
    bcast_S32x512x40_S32x512x40x1_0_1_2 bcast_S_S32x512x40 1024#32 p i r c _ (hidx r)
  simp only [hg, actS, relS, denseS, c1, c2, c3, dev]

theorem lev0 (v : Valuation τ sig (Elt Ideal)) (p : Fin 32) :
    c3 (res_main_v97 v : FVec Ideal (T 32 512 64) .f32) p = levelS 40 (by norm_num : 40 ≤ 1024) (c3 (res_main_v51 v : FVec Ideal (T 32 512 3) .f32) p)
      (c3 (res_main_v47 v : FVec Ideal (T 32 1024 3) .f32) p) (c2 (v (Proc.devRef .tc main_arg1) : FVec Ideal (M 3 64) .f32))
      (c2 (v (Proc.devRef .tc main_arg3) : FVec Ideal (M 3 64) .f32)) (c1 (v (Proc.devRef .tc main_arg2) : FVec Ideal (V 64) .f32))
      (c1 (v (Proc.devRef .tc main_arg4) : FVec Ideal (V 64) .f32)) (c1 (v (Proc.devRef .tc main_arg5) : FVec Ideal (V 64) .f32))
      (c1 (v (Proc.devRef .tc main_arg6) : FVec Ideal (V 64) .f32)) := by
  funext i f
  have h := lev0_read (res_main_v51 v) (res_main_v47 v) (res_main_indices v) (v (Proc.devRef .tc main_arg1)) (v (Proc.devRef .tc main_arg2))
    (v (Proc.devRef .tc main_arg3)) (v (Proc.devRef .tc main_arg4)) (v (Proc.devRef .tc main_arg5)) (v (Proc.devRef .tc main_arg6))
    p i f (near0 v p i)
  refine Eq.trans ?_ h
  unfold c3 res_main_v97 res_main_v75
  rfl

end Cert.Net
-- ==== Proof.Level1.lean ====
/- Level 1 of the reference, read at an index. -/
module

public import proofs.«01_k».proof.Proof.Levels

@[expose] public section

noncomputable section

namespace Cert.Net

open Idealize.ShloMosaic Idealize.ShloMosaic.TcCoe Cert.ReferenceIdeal Cert.ReferenceIdeal.Gen Cert.ReferenceIdeal.Value

theorem mean1_read (y : FVec Ideal S32x512x64 .f32) (p : Fin 32) (i : Fin 256) (c : Fin 64) :
    (Host.divf (Host.reduceAdd (F := Ideal) (φ := .f32) (shapeCast S32x256x2x64 y shapeCasts_S32x512x64_S32x256x2x64) (constant (F := Ideal) S_ .f32 0x00000000#32) reducesTo_S32x256x2x64_S32x256x64_d2 h_S_) (broadcastInDim S32x256x64 ![] bcast_S_S32x256x64 (constant (F := Ideal) S_ .f32 0x40000000#32))) (ix3 p i c)
      = halvesS (n := 512) (m := 256) (by norm_num) (c3 y p) i c := by
  pointwise
  simp only [halvesS, c3, two]

theorem mean1 (v : Valuation τ sig (Elt Ideal)) (p : Fin 32) :
    c3 (res_main_v103 v : FVec Ideal (T 32 256 64) .f32) p = halvesS (n := 512) (by norm_num) (c3 (res_main_v97 v : FVec Ideal (T 32 512 64) .f32) p) :=
  funext fun i => funext fun c => mean1_read (res_main_v97 v) p i c

theorem dist1_read (t : FVec Ideal S32x256x64 .f32) (y : FVec Ideal S32x512x64 .f32) (p : Fin 32) (i : Fin 256) (j : Fin 512) :
    (Host.negf (addf (subf (broadcastInDim S32x256x512 ![0, 1, 2] bcast_S32x256x1_S32x256x512_0_1_2 (broadcastInDim S32x256x1 ![0, 1] bcast_S32x256_S32x256x1_0_1 (Host.reduceAdd (F := Ideal) (φ := .f32) (mulf t t) (constant (F := Ideal) S_ .f32 0x00000000#32) reducesTo_S32x256x64_S32x256_d2 h_S_))) (mulf (broadcastInDim S32x256x512 ![] bcast_S_S32x256x512 (constant (F := Ideal) S_ .f32 0x40000000#32)) (Host.dotGeneral (F := Ideal) (φ₁ := .f32) (φ₂ := .f32) dot_S32x256x64_S32x64x512_S32x256x512_2_1_1_2_0_0 none t (transpose S32x64x512 [0, 2, 1] y transposes_S32x512x64_S32x64x512_0_2_1)))) (broadcastInDim S32x256x512 ![0, 1, 2] bcast_S32x1x512_S32x256x512_0_1_2 (transpose S32x1x512 [0, 2, 1] (broadcastInDim S32x512x1 ![0, 1] bcast_S32x512_S32x512x1_0_1 (Host.reduceAdd (F := Ideal) (φ := .f32) (mulf y y) (constant (F := Ideal) S_ .f32 0x00000000#32) reducesTo_S32x512x64_S32x512_d2 h_S_)) transposes_S32x512x1_S32x1x512_0_2_1)))) (ix3 p i j)
      = -(distS (c3 t p) (c3 y p) i j) := by
  pointwise
  simp only [distS, c3, two]

theorem near1 (v : Valuation τ sig (Elt Ideal)) (p : Fin 32) (i : Fin 256) (r : Fin 32) :
    (res_main_indices_14 v : IVec (T 32 256 32) 32) (ix3 p i r) = BitVec.ofNat 32 (nearS (distS (c3 (res_main_v103 v : FVec Ideal (T 32 256 64) .f32) p)
      (c3 (res_main_v97 v : FVec Ideal (T 32 512 64) .f32) p) i) (Fin.castLE (by norm_num : 32 ≤ 512) r)).val :=
  topK_apply (by norm_num) _ _ (fun p => distS (c3 (res_main_v103 v : FVec Ideal (T 32 256 64) .f32) p) (c3 (res_main_v97 v : FVec Ideal (T 32 512 64) .f32) p))
    (dist1_read (res_main_v103 v) (res_main_v97 v)) p i r

theorem lev1_read (t : FVec Ideal S32x256x64 .f32) (y : FVec Ideal S32x512x64 .f32) (idx : IVec S32x256x32 32)
    (Wr : FVec Ideal S64x64 .f32) (br : FVec Ideal S64 .f32) (Wa : FVec Ideal S64x64 .f32) (ba g be : FVec Ideal S64 .f32)
    (p : Fin 32) (i : Fin 256) (f : Fin 64)
    (hidx : ∀ r, idx (ix3 p i r) = BitVec.ofNat 32 (nearS (distS (c3 t p) (c3 y p) i) (Fin.castLE (by norm_num : 32 ≤ 512) r)).val) :
    (Host.reduce (FloatOps.maximumf (F := Ideal) (φ := .f32)) (maximumf (addf (Host.divf (mulf (broadcastInDim S32x256x32x64 ![0, 1, 2, 3] bcast_S1x1x1x64_S32x256x32x64_0_1_2_3 (broadcastInDim S1x1x1x64 ![3] bcast_S64_S1x1x1x64_3 g)) (addf (addf (Host.dotGeneral (F := Ideal) (φ₁ := .f32) (φ₂ := .f32) dot_S32x256x32x64_S64x64_S32x256x32x64_3_0_012_1_n_n none (subf (Host.gather gather_S32x512x64_S32x256x32x1_S32x256x32x64_3_1_0_0_1_3_1164 y (broadcastInDim S32x256x32x1 ![0, 1, 2] bcast_S32x256x32_S32x256x32x1_0_1_2 (select (cmpi .slt idx (broadcastInDim S32x256x32 ![] bcast_S_S32x256x32 (constantI S_ 32 0#32))) (addi idx (broadcastInDim S32x256x32 ![] bcast_S_S32x256x32 (constantI S_ 32 512#32))) idx))) (broadcastInDim S32x256x32x64 ![0, 1, 2, 3] bcast_S32x256x1x64_S32x256x32x64_0_1_2_3 (broadcastInDim S32x256x1x64 ![0, 1, 3] bcast_S32x256x64_S32x256x1x64_0_1_3 t))) Wr) (broadcastInDim S32x256x32x64 ![0, 1, 2, 3] bcast_S1x1x1x64_S32x256x32x64_0_1_2_3 (broadcastInDim S1x1x1x64 ![3] bcast_S64_S1x1x1x64_3 br))) (broadcastInDim S32x256x32x64 ![0, 1, 2, 3] bcast_S32x256x1x64_S32x256x32x64_0_1_2_3 (addf (Host.dotGeneral (F := Ideal) (φ₁ := .f32) (φ₂ := .f32) dot_S32x256x1x64_S64x64_S32x256x1x64_3_0_012_1_n_n none (broadcastInDim S32x256x1x64 ![0, 1, 3] bcast_S32x256x64_S32x256x1x64_0_1_3 t) Wa) (broadcastInDim S32x256x1x64 ![0, 1, 2, 3] bcast_S1x1x1x64_S32x256x1x64_0_1_2_3 (broadcastInDim S1x1x1x64 ![3] bcast_S64_S1x1x1x64_3 ba)))))) (broadcastInDim S32x256x32x64 ![] bcast_S_S32x256x32x64 (constant (F := Ideal) S_ .f32 0x3F801061#32))) (broadcastInDim S32x256x32x64 ![0, 1, 2, 3] bcast_S1x1x1x64_S32x256x32x64_0_1_2_3 (broadcastInDim S1x1x1x64 ![3] bcast_S64_S1x1x1x64_3 be))) (broadcastInDim S32x256x32x64 ![] bcast_S_S32x256x32x64 (constant (F := Ideal) S_ .f32 0x00000000#32))) (constant (F := Ideal) S_ .f32 0xFF800000#32) reducesTo_S32x256x32x64_S32x256x64_d2 h_S_) (ix3 p i f)
      = levelS 32 (by norm_num : 32 ≤ 512) (c3 t p) (c3 y p) (c2 Wr) (c2 Wa) (c1 br) (c1 ba) (c1 g) (c1 be) i f := by
  pointwise
  rw [bot_f32]
  unfold levelS
  refine (fold_sup _).trans (Finset.sup_congr rfl fun r _ => ?_)
  have hg := fun c => patches_apply gather_S32x512x64_S32x256x32x1_S32x256x32x64_3_1_0_0_1_3_1164 gather_S32x512x64_S32x256x32x1_S32x256x32x64_3_1_0_0_1_3_1164_wf rfl (by norm_num) y idx
    bcast_S32x256x32_S32x256x32x1_0_1_2 bcast_S_S32x256x32 512#32 p i r c _ (hidx r)
  simp only [hg, actS, relS, denseS, c1, c2, c3, dev]

theorem lev1 (v : Valuation τ sig (Elt Ideal)) (p : Fin 32) :
    c3 (res_main_v149 v : FVec Ideal (T 32 256 64) .f32) p = levelS 32 (by norm_num : 32 ≤ 512) (c3 (res_main_v103 v : FVec Ideal (T 32 256 64) .f32) p)
      (c3 (res_main_v97 v : FVec Ideal (T 32 512 64) .f32) p) (c2 (v (Proc.devRef .tc main_arg7) : FVec Ideal (M 64 64) .f32))
      (c2 (v (Proc.devRef .tc main_arg9) : FVec Ideal (M 64 64) .f32)) (c1 (v (Proc.devRef .tc main_arg8) : FVec Ideal (V 64) .f32))
      (c1 (v (Proc.devRef .tc main_arg10) : FVec Ideal (V 64) .f32)) (c1 (v (Proc.devRef .tc main_arg11) : FVec Ideal (V 64) .f32))
      (c1 (v (Proc.devRef .tc main_arg12) : FVec Ideal (V 64) .f32)) := by
  funext i f
  have h := lev1_read (res_main_v103 v) (res_main_v97 v) (res_main_indices_14 v) (v (Proc.devRef .tc main_arg7)) (v (Proc.devRef .tc main_arg8))
    (v (Proc.devRef .tc main_arg9)) (v (Proc.devRef .tc main_arg10)) (v (Proc.devRef .tc main_arg11)) (v (Proc.devRef .tc main_arg12))
    p i f (near1 v p i)
  refine Eq.trans ?_ h
  unfold c3 res_main_v149 res_main_v127
  rfl

end Cert.Net
-- ==== Proof.Level2.lean ====
/- Level 2 of the reference, read at an index. -/
module

public import proofs.«01_k».proof.Proof.Levels

@[expose] public section

noncomputable section

namespace Cert.Net

open Idealize.ShloMosaic Idealize.ShloMosaic.TcCoe Cert.ReferenceIdeal Cert.ReferenceIdeal.Gen Cert.ReferenceIdeal.Value

theorem dist2_read (t : FVec Ideal S32x256x64 .f32) (y : FVec Ideal S32x256x64 .f32) (p : Fin 32) (i : Fin 256) (j : Fin 256) :
    (Host.negf (addf (subf (broadcastInDim S32x256x256 ![0, 1, 2] bcast_S32x256x1_S32x256x256_0_1_2 (broadcastInDim S32x256x1 ![0, 1] bcast_S32x256_S32x256x1_0_1 (Host.reduceAdd (F := Ideal) (φ := .f32) (mulf t t) (constant (F := Ideal) S_ .f32 0x00000000#32) reducesTo_S32x256x64_S32x256_d2 h_S_))) (mulf (broadcastInDim S32x256x256 ![] bcast_S_S32x256x256 (constant (F := Ideal) S_ .f32 0x40000000#32)) (Host.dotGeneral (F := Ideal) (φ₁ := .f32) (φ₂ := .f32) dot_S32x256x64_S32x64x256_S32x256x256_2_1_1_2_0_0 none t (transpose S32x64x256 [0, 2, 1] y transposes_S32x256x64_S32x64x256_0_2_1)))) (broadcastInDim S32x256x256 ![0, 1, 2] bcast_S32x1x256_S32x256x256_0_1_2 (transpose S32x1x256 [0, 2, 1] (broadcastInDim S32x256x1 ![0, 1] bcast_S32x256_S32x256x1_0_1 (Host.reduceAdd (F := Ideal) (φ := .f32) (mulf y y) (constant (F := Ideal) S_ .f32 0x00000000#32) reducesTo_S32x256x64_S32x256_d2 h_S_)) transposes_S32x256x1_S32x1x256_0_2_1)))) (ix3 p i j)
      = -(distS (c3 t p) (c3 y p) i j) := by
  pointwise
  simp only [distS, c3, two]

theorem near2 (v : Valuation τ sig (Elt Ideal)) (p : Fin 32) (i : Fin 256) (r : Fin 32) :
    (res_main_indices_23 v : IVec (T 32 256 32) 32) (ix3 p i r) = BitVec.ofNat 32 (nearS (distS (c3 (res_main_v149 v : FVec Ideal (T 32 256 64) .f32) p)
      (c3 (res_main_v149 v : FVec Ideal (T 32 256 64) .f32) p) i) (Fin.castLE (by norm_num : 32 ≤ 256) r)).val :=
  topK_apply (by norm_num) _ _ (fun p => distS (c3 (res_main_v149 v : FVec Ideal (T 32 256 64) .f32) p) (c3 (res_main_v149 v : FVec Ideal (T 32 256 64) .f32) p))
    (dist2_read (res_main_v149 v) (res_main_v149 v)) p i r

theorem lev2_read (t : FVec Ideal S32x256x64 .f32) (y : FVec Ideal S32x256x64 .f32) (idx : IVec S32x256x32 32)
    (Wr : FVec Ideal S64x128 .f32) (br : FVec Ideal S128 .f32) (Wa : FVec Ideal S64x128 .f32) (ba g be : FVec Ideal S128 .f32)
    (p : Fin 32) (i : Fin 256) (f : Fin 128)
    (hidx : ∀ r, idx (ix3 p i r) = BitVec.ofNat 32 (nearS (distS (c3 t p) (c3 y p) i) (Fin.castLE (by norm_num : 32 ≤ 256) r)).val) :
    (Host.reduce (FloatOps.maximumf (F := Ideal) (φ := .f32)) (maximumf (addf (Host.divf (mulf (broadcastInDim S32x256x32x128 ![0, 1, 2, 3] bcast_S1x1x1x128_S32x256x32x128_0_1_2_3 (broadcastInDim S1x1x1x128 ![3] bcast_S128_S1x1x1x128_3 g)) (addf (addf (Host.dotGeneral (F := Ideal) (φ₁ := .f32) (φ₂ := .f32) dot_S32x256x32x64_S64x128_S32x256x32x128_3_0_012_1_n_n none (subf (Host.gather gather_S32x256x64_S32x256x32x1_S32x256x32x64_3_1_0_0_1_3_1164 y (broadcastInDim S32x256x32x1 ![0, 1, 2] bcast_S32x256x32_S32x256x32x1_0_1_2 (select (cmpi .slt idx (broadcastInDim S32x256x32 ![] bcast_S_S32x256x32 (constantI S_ 32 0#32))) (addi idx (broadcastInDim S32x256x32 ![] bcast_S_S32x256x32 (constantI S_ 32 256#32))) idx))) (broadcastInDim S32x256x32x64 ![0, 1, 2, 3] bcast_S32x256x1x64_S32x256x32x64_0_1_2_3 (broadcastInDim S32x256x1x64 ![0, 1, 3] bcast_S32x256x64_S32x256x1x64_0_1_3 t))) Wr) (broadcastInDim S32x256x32x128 ![0, 1, 2, 3] bcast_S1x1x1x128_S32x256x32x128_0_1_2_3 (broadcastInDim S1x1x1x128 ![3] bcast_S128_S1x1x1x128_3 br))) (broadcastInDim S32x256x32x128 ![0, 1, 2, 3] bcast_S32x256x1x128_S32x256x32x128_0_1_2_3 (addf (Host.dotGeneral (F := Ideal) (φ₁ := .f32) (φ₂ := .f32) dot_S32x256x1x64_S64x128_S32x256x1x128_3_0_012_1_n_n none (broadcastInDim S32x256x1x64 ![0, 1, 3] bcast_S32x256x64_S32x256x1x64_0_1_3 t) Wa) (broadcastInDim S32x256x1x128 ![0, 1, 2, 3] bcast_S1x1x1x128_S32x256x1x128_0_1_2_3 (broadcastInDim S1x1x1x128 ![3] bcast_S128_S1x1x1x128_3 ba)))))) (broadcastInDim S32x256x32x128 ![] bcast_S_S32x256x32x128 (constant (F := Ideal) S_ .f32 0x3F801061#32))) (broadcastInDim S32x256x32x128 ![0, 1, 2, 3] bcast_S1x1x1x128_S32x256x32x128_0_1_2_3 (broadcastInDim S1x1x1x128 ![3] bcast_S128_S1x1x1x128_3 be))) (broadcastInDim S32x256x32x128 ![] bcast_S_S32x256x32x128 (constant (F := Ideal) S_ .f32 0x00000000#32))) (constant (F := Ideal) S_ .f32 0xFF800000#32) reducesTo_S32x256x32x128_S32x256x128_d2 h_S_) (ix3 p i f)
      = levelS 32 (by norm_num : 32 ≤ 256) (c3 t p) (c3 y p) (c2 Wr) (c2 Wa) (c1 br) (c1 ba) (c1 g) (c1 be) i f := by
  pointwise
  rw [bot_f32]
  unfold levelS
  refine (fold_sup _).trans (Finset.sup_congr rfl fun r _ => ?_)
  have hg := fun c => patches_apply gather_S32x256x64_S32x256x32x1_S32x256x32x64_3_1_0_0_1_3_1164 gather_S32x256x64_S32x256x32x1_S32x256x32x64_3_1_0_0_1_3_1164_wf rfl (by norm_num) y idx
    bcast_S32x256x32_S32x256x32x1_0_1_2 bcast_S_S32x256x32 256#32 p i r c _ (hidx r)
  simp only [hg, actS, relS, denseS, c1, c2, c3, dev]

theorem lev2 (v : Valuation τ sig (Elt Ideal)) (p : Fin 32) :
    c3 (res_main_v195 v : FVec Ideal (T 32 256 128) .f32) p = levelS 32 (by norm_num : 32 ≤ 256) (c3 (res_main_v149 v : FVec Ideal (T 32 256 64) .f32) p)
      (c3 (res_main_v149 v : FVec Ideal (T 32 256 64) .f32) p) (c2 (v (Proc.devRef .tc main_arg13) : FVec Ideal (M 64 128) .f32))
      (c2 (v (Proc.devRef .tc main_arg15) : FVec Ideal (M 64 128) .f32)) (c1 (v (Proc.devRef .tc main_arg14) : FVec Ideal (V 128) .f32))
      (c1 (v (Proc.devRef .tc main_arg16) : FVec Ideal (V 128) .f32)) (c1 (v (Proc.devRef .tc main_arg17) : FVec Ideal (V 128) .f32))
      (c1 (v (Proc.devRef .tc main_arg18) : FVec Ideal (V 128) .f32)) := by
  funext i f
  have h := lev2_read (res_main_v149 v) (res_main_v149 v) (res_main_indices_23 v) (v (Proc.devRef .tc main_arg13)) (v (Proc.devRef .tc main_arg14))
    (v (Proc.devRef .tc main_arg15)) (v (Proc.devRef .tc main_arg16)) (v (Proc.devRef .tc main_arg17)) (v (Proc.devRef .tc main_arg18))
    p i f (near2 v p i)
  refine Eq.trans ?_ h
  unfold c3 res_main_v195 res_main_v173
  rfl

end Cert.Net
-- ==== Proof.Level3.lean ====
/- Level 3 of the reference, read at an index. -/
module

public import proofs.«01_k».proof.Proof.Levels

@[expose] public section

noncomputable section

namespace Cert.Net

open Idealize.ShloMosaic Idealize.ShloMosaic.TcCoe Cert.ReferenceIdeal Cert.ReferenceIdeal.Gen Cert.ReferenceIdeal.Value

/-- The reference's last level. -/
def ref3 {F : FTy → Type} [FloatOps F] (V0 : Valuation τ sig (Elt F)) : (⟨S32x256x256, .f32⟩ : BufTy).Contents (Elt F) :=
  (Host.reduce FloatOps.maximumf (maximumf (addf (Host.divf (mulf (broadcastInDim S32x256x32x256 ![0, 1, 2, 3] bcast_S1x1x1x256_S32x256x32x256_0_1_2_3 (broadcastInDim S1x1x1x256 ![3] bcast_S256_S1x1x1x256_3 (V0 (Proc.devRef .tc main_arg23)))) (addf (addf (Host.dotGeneral dot_S32x256x32x128_S128x256_S32x256x32x256_3_0_012_1_n_n none (subf (Host.gather gather_S32x256x128_S32x256x32x1_S32x256x32x128_3_1_0_0_1_3_11128 (res_main_v195 V0) (broadcastInDim S32x256x32x1 ![0, 1, 2] bcast_S32x256x32_S32x256x32x1_0_1_2 (select (cmpi .slt (res_main_indices_32 V0) (broadcastInDim S32x256x32 ![] bcast_S_S32x256x32 (constantI S_ 32 0#32))) (addi (res_main_indices_32 V0) (broadcastInDim S32x256x32 ![] bcast_S_S32x256x32 (constantI S_ 32 256#32))) (res_main_indices_32 V0)))) (broadcastInDim S32x256x32x128 ![0, 1, 2, 3] bcast_S32x256x1x128_S32x256x32x128_0_1_2_3 (res_main_v219 V0))) (V0 (Proc.devRef .tc main_arg19))) (broadcastInDim S32x256x32x256 ![0, 1, 2, 3] bcast_S1x1x1x256_S32x256x32x256_0_1_2_3 (broadcastInDim S1x1x1x256 ![3] bcast_S256_S1x1x1x256_3 (V0 (Proc.devRef .tc main_arg20))))) (broadcastInDim S32x256x32x256 ![0, 1, 2, 3] bcast_S32x256x1x256_S32x256x32x256_0_1_2_3 (addf (Host.dotGeneral dot_S32x256x1x128_S128x256_S32x256x1x256_3_0_012_1_n_n none (res_main_v219 V0) (V0 (Proc.devRef .tc main_arg21))) (broadcastInDim S32x256x1x256 ![0, 1, 2, 3] bcast_S1x1x1x256_S32x256x1x256_0_1_2_3 (broadcastInDim S1x1x1x256 ![3] bcast_S256_S1x1x1x256_3 (V0 (Proc.devRef .tc main_arg22)))))))) (broadcastInDim S32x256x32x256 ![] bcast_S_S32x256x32x256 (constant S_ .f32 0x3F801061#32))) (broadcastInDim S32x256x32x256 ![0, 1, 2, 3] bcast_S1x1x1x256_S32x256x32x256_0_1_2_3 (broadcastInDim S1x1x1x256 ![3] bcast_S256_S1x1x1x256_3 (V0 (Proc.devRef .tc main_arg24))))) (broadcastInDim S32x256x32x256 ![] bcast_S_S32x256x32x256 (constant S_ .f32 0x00000000#32))) (constant S_ .f32 0xFF800000#32) reducesTo_S32x256x32x256_S32x256x256_d2 h_S_)

theorem dist3_read (t : FVec Ideal S32x256x128 .f32) (y : FVec Ideal S32x256x128 .f32) (p : Fin 32) (i : Fin 256) (j : Fin 256) :
    (Host.negf (addf (subf (broadcastInDim S32x256x256 ![0, 1, 2] bcast_S32x256x1_S32x256x256_0_1_2 (broadcastInDim S32x256x1 ![0, 1] bcast_S32x256_S32x256x1_0_1 (Host.reduceAdd (F := Ideal) (φ := .f32) (mulf t t) (constant (F := Ideal) S_ .f32 0x00000000#32) reducesTo_S32x256x128_S32x256_d2 h_S_))) (mulf (broadcastInDim S32x256x256 ![] bcast_S_S32x256x256 (constant (F := Ideal) S_ .f32 0x40000000#32)) (Host.dotGeneral (F := Ideal) (φ₁ := .f32) (φ₂ := .f32) dot_S32x256x128_S32x128x256_S32x256x256_2_1_1_2_0_0 none t (transpose S32x128x256 [0, 2, 1] y transposes_S32x256x128_S32x128x256_0_2_1)))) (broadcastInDim S32x256x256 ![0, 1, 2] bcast_S32x1x256_S32x256x256_0_1_2 (transpose S32x1x256 [0, 2, 1] (broadcastInDim S32x256x1 ![0, 1] bcast_S32x256_S32x256x1_0_1 (Host.reduceAdd (F := Ideal) (φ := .f32) (mulf y y) (constant (F := Ideal) S_ .f32 0x00000000#32) reducesTo_S32x256x128_S32x256_d2 h_S_)) transposes_S32x256x1_S32x1x256_0_2_1)))) (ix3 p i j)
      = -(distS (c3 t p) (c3 y p) i j) := by
  pointwise
  simp only [distS, c3, two]

theorem near3 (v : Valuation τ sig (Elt Ideal)) (p : Fin 32) (i : Fin 256) (r : Fin 32) :
    (res_main_indices_32 v : IVec (T 32 256 32) 32) (ix3 p i r) = BitVec.ofNat 32 (nearS (distS (c3 (res_main_v195 v : FVec Ideal (T 32 256 128) .f32) p)
      (c3 (res_main_v195 v : FVec Ideal (T 32 256 128) .f32) p) i) (Fin.castLE (by norm_num : 32 ≤ 256) r)).val :=
  topK_apply (by norm_num) _ _ (fun p => distS (c3 (res_main_v195 v : FVec Ideal (T 32 256 128) .f32) p) (c3 (res_main_v195 v : FVec Ideal (T 32 256 128) .f32) p))
    (dist3_read (res_main_v195 v) (res_main_v195 v)) p i r

theorem lev3_read (t : FVec Ideal S32x256x128 .f32) (y : FVec Ideal S32x256x128 .f32) (idx : IVec S32x256x32 32)
    (Wr : FVec Ideal S128x256 .f32) (br : FVec Ideal S256 .f32) (Wa : FVec Ideal S128x256 .f32) (ba g be : FVec Ideal S256 .f32)
    (p : Fin 32) (i : Fin 256) (f : Fin 256)
    (hidx : ∀ r, idx (ix3 p i r) = BitVec.ofNat 32 (nearS (distS (c3 t p) (c3 y p) i) (Fin.castLE (by norm_num : 32 ≤ 256) r)).val) :
    ((Host.reduce (FloatOps.maximumf (F := Ideal) (φ := .f32)) (maximumf (addf (Host.divf (mulf (broadcastInDim S32x256x32x256 ![0, 1, 2, 3] bcast_S1x1x1x256_S32x256x32x256_0_1_2_3 (broadcastInDim S1x1x1x256 ![3] bcast_S256_S1x1x1x256_3 g)) (addf (addf (Host.dotGeneral (F := Ideal) (φ₁ := .f32) (φ₂ := .f32) dot_S32x256x32x128_S128x256_S32x256x32x256_3_0_012_1_n_n none (subf (Host.gather gather_S32x256x128_S32x256x32x1_S32x256x32x128_3_1_0_0_1_3_11128 y (broadcastInDim S32x256x32x1 ![0, 1, 2] bcast_S32x256x32_S32x256x32x1_0_1_2 (select (cmpi .slt idx (broadcastInDim S32x256x32 ![] bcast_S_S32x256x32 (constantI S_ 32 0#32))) (addi idx (broadcastInDim S32x256x32 ![] bcast_S_S32x256x32 (constantI S_ 32 256#32))) idx))) (broadcastInDim S32x256x32x128 ![0, 1, 2, 3] bcast_S32x256x1x128_S32x256x32x128_0_1_2_3 (broadcastInDim S32x256x1x128 ![0, 1, 3] bcast_S32x256x128_S32x256x1x128_0_1_3 t))) Wr) (broadcastInDim S32x256x32x256 ![0, 1, 2, 3] bcast_S1x1x1x256_S32x256x32x256_0_1_2_3 (broadcastInDim S1x1x1x256 ![3] bcast_S256_S1x1x1x256_3 br))) (broadcastInDim S32x256x32x256 ![0, 1, 2, 3] bcast_S32x256x1x256_S32x256x32x256_0_1_2_3 (addf (Host.dotGeneral (F := Ideal) (φ₁ := .f32) (φ₂ := .f32) dot_S32x256x1x128_S128x256_S32x256x1x256_3_0_012_1_n_n none (broadcastInDim S32x256x1x128 ![0, 1, 3] bcast_S32x256x128_S32x256x1x128_0_1_3 t) Wa) (broadcastInDim S32x256x1x256 ![0, 1, 2, 3] bcast_S1x1x1x256_S32x256x1x256_0_1_2_3 (broadcastInDim S1x1x1x256 ![3] bcast_S256_S1x1x1x256_3 ba)))))) (broadcastInDim S32x256x32x256 ![] bcast_S_S32x256x32x256 (constant (F := Ideal) S_ .f32 0x3F801061#32))) (broadcastInDim S32x256x32x256 ![0, 1, 2, 3] bcast_S1x1x1x256_S32x256x32x256_0_1_2_3 (broadcastInDim S1x1x1x256 ![3] bcast_S256_S1x1x1x256_3 be))) (broadcastInDim S32x256x32x256 ![] bcast_S_S32x256x32x256 (constant (F := Ideal) S_ .f32 0x00000000#32))) (constant (F := Ideal) S_ .f32 0xFF800000#32) reducesTo_S32x256x32x256_S32x256x256_d2 h_S_)) (ix3 p i f)
      = levelS 32 (by norm_num : 32 ≤ 256) (c3 t p) (c3 y p) (c2 Wr) (c2 Wa) (c1 br) (c1 ba) (c1 g) (c1 be) i f := by
  pointwise
  rw [bot_f32]
  unfold levelS
  refine (fold_sup _).trans (Finset.sup_congr rfl fun r _ => ?_)
  have hg := fun c => patches_apply gather_S32x256x128_S32x256x32x1_S32x256x32x128_3_1_0_0_1_3_11128 gather_S32x256x128_S32x256x32x1_S32x256x32x128_3_1_0_0_1_3_11128_wf rfl (by norm_num) y idx
    bcast_S32x256x32_S32x256x32x1_0_1_2 bcast_S_S32x256x32 256#32 p i r c _ (hidx r)
  simp only [hg, actS, relS, denseS, c1, c2, c3, dev]

theorem lev3 (v : Valuation τ sig (Elt Ideal)) (p : Fin 32) :
    c3 (ref3 v : FVec Ideal (T 32 256 256) .f32) p = levelS 32 (by norm_num : 32 ≤ 256) (c3 (res_main_v195 v : FVec Ideal (T 32 256 128) .f32) p)
      (c3 (res_main_v195 v : FVec Ideal (T 32 256 128) .f32) p) (c2 (v (Proc.devRef .tc main_arg19) : FVec Ideal (M 128 256) .f32))
      (c2 (v (Proc.devRef .tc main_arg21) : FVec Ideal (M 128 256) .f32)) (c1 (v (Proc.devRef .tc main_arg20) : FVec Ideal (V 256) .f32))
      (c1 (v (Proc.devRef .tc main_arg22) : FVec Ideal (V 256) .f32)) (c1 (v (Proc.devRef .tc main_arg23) : FVec Ideal (V 256) .f32))
      (c1 (v (Proc.devRef .tc main_arg24) : FVec Ideal (V 256) .f32)) := by
  funext i f
  have h := lev3_read (res_main_v195 v) (res_main_v195 v) (res_main_indices_32 v) (v (Proc.devRef .tc main_arg19)) (v (Proc.devRef .tc main_arg20))
    (v (Proc.devRef .tc main_arg21)) (v (Proc.devRef .tc main_arg22)) (v (Proc.devRef .tc main_arg23)) (v (Proc.devRef .tc main_arg24))
    p i f (near3 v p i)
  refine Eq.trans ?_ h
  unfold c3 ref3 res_main_v219
  rfl

end Cert.Net
-- ==== Proof.HeadRef.lean ====
/- The reference's head, read at an index. -/
module

public import proofs.«01_k».proof.Proof.Level0
public import proofs.«01_k».proof.Proof.Level1
public import proofs.«01_k».proof.Proof.Level2
public import proofs.«01_k».proof.Proof.Level3

@[expose] public section

noncomputable section

namespace Cert.Net

open Idealize.ShloMosaic Idealize.ShloMosaic.TcCoe Cert.ReferenceIdeal Cert.ReferenceIdeal.Gen Cert.ReferenceIdeal.Value

/-- The four levels' features side by side. -/
def catS (a b : Fin 256 → Fin 64 → EReal) (c : Fin 256 → Fin 128 → EReal) (e : Fin 256 → Fin 256 → EReal) (i : Fin 256) (k : Fin 512) : EReal :=
  if h : k.val < 64 then a i ⟨k.val, h⟩
  else if h : k.val - 64 < 64 then b i ⟨k.val - 64, h⟩
  else if h : k.val - 64 - 64 < 128 then c i ⟨k.val - 64 - 64, h⟩
  else e i ⟨k.val - 64 - 64 - 128, by have := k.isLt; omega⟩

/-- The greater of each pair of rows. -/
def pairS (y : Fin 512 → Fin 64 → EReal) (i : Fin 256) (c : Fin 64) : EReal :=
  Finset.univ.sup fun x : Fin 2 => y ⟨i.val * 2 + x.val, by have := i.isLt; have := x.isLt; omega⟩ c

/-- A dense layer of one row. -/
def rowS {d u : ℕ} (x : Fin d → EReal) (W : Fin d → Fin u → EReal) (b : Fin u → EReal) (f : Fin u) : EReal := ∑ c, x c * W c f + b f

/-- The pooled features through their dense layer. -/
def poolS (x : Fin 256 → Fin 512 → EReal) (Wm : Fin 512 → Fin 1024 → EReal) (bm gm bem : Fin 1024 → EReal) (W1 : Fin 1024 → Fin 512 → EReal)
    (b1 : Fin 512 → EReal) : Fin 512 → EReal :=
  rowS (fun f => Finset.univ.sup fun i => actS (gm f) (bem f) (denseS x Wm bm i f)) W1 b1

/-- The scores of the pooled features. -/
def logitS (z g1 be1 : Fin 512 → EReal) (W2 : Fin 512 → Fin 256 → EReal) (b2 g2 be2 : Fin 256 → EReal) (Wo : Fin 256 → Fin 40 → EReal)
    (bo : Fin 40 → EReal) : Fin 40 → EReal :=
  rowS (fun f => actS (g2 f) (be2 f) (rowS (fun f => actS (g1 f) (be1 f) (z f)) W2 b2 f)) Wo bo

/-- The exponentials of a row less its greatest entry, over their sum. -/
def softS (l : Fin 40 → EReal) (f : Fin 40) : EReal :=
  Ideal.div (Ideal.exp (l f - Finset.univ.sup l)) (∑ x, Ideal.exp (l x - Finset.univ.sup l))

theorem pair_read (l0 : FVec Ideal S32x512x64 .f32) (p : Fin 32) (i : Fin 256) (k : Fin 64) :
    ((Host.reduce (FloatOps.maximumf (F := Ideal) (φ := .f32)) (shapeCast S32x256x2x64 l0 shapeCasts_S32x512x64_S32x256x2x64) (constant (F := Ideal) S_ .f32 0xFF800000#32) reducesTo_S32x256x2x64_S32x256x64_d2 h_S_)) (ix3 p i k) = pairS (c3 l0 p) i k := by
  pointwise
  rw [bot_f32]
  rfl

theorem cat_read (m l1 : FVec Ideal S32x256x64 .f32) (l2 : FVec Ideal S32x256x128 .f32) (l3 : FVec Ideal S32x256x256 .f32)
    (p : Fin 32) (i : Fin 256) (k : Fin 512) :
    ((concatenate S32x256x512 2 [⟨S32x256x64, (m)⟩, ⟨S32x256x64, (l1)⟩, ⟨S32x256x128, (l2)⟩, ⟨S32x256x256, (l3)⟩] concatenates_S32x256x64_S32x256x64_S32x256x128_S32x256x256_S32x256x512_d2)) (ix3 p i k) = catS (c3 m p) (c3 l1 p) (c3 l2 p) (c3 l3 p) i k := by
  pointwise
  rfl

theorem act_read (x : FVec Ideal S32x256x512 .f32) (Wm : FVec Ideal S512x1024 .f32) (bm gm bem : FVec Ideal S1024 .f32) (p : Fin 32) (i : Fin 256) (f : Fin 1024) :
    ((maximumf (addf (Host.divf (mulf (broadcastInDim S32x256x1024 ![0, 1, 2] bcast_S1x1x1024_S32x256x1024_0_1_2 (broadcastInDim S1x1x1024 ![2] bcast_S1024_S1x1x1024_2 gm)) (addf (Host.dotGeneral (F := Ideal) (φ₁ := .f32) (φ₂ := .f32) dot_S32x256x512_S512x1024_S32x256x1024_2_0_01_1_n_n none  x  Wm) (broadcastInDim S32x256x1024 ![0, 1, 2] bcast_S1x1x1024_S32x256x1024_0_1_2 (broadcastInDim S1x1x1024 ![2] bcast_S1024_S1x1x1024_2 bm)))) (broadcastInDim S32x256x1024 ![] bcast_S_S32x256x1024 (constant (F := Ideal) S_ .f32 0x3F801061#32))) (broadcastInDim S32x256x1024 ![0, 1, 2] bcast_S1x1x1024_S32x256x1024_0_1_2 (broadcastInDim S1x1x1024 ![2] bcast_S1024_S1x1x1024_2 bem))) (broadcastInDim S32x256x1024 ![] bcast_S_S32x256x1024 (constant (F := Ideal) S_ .f32 0x00000000#32)))) (ix3 p i f) = actS (c1 gm f) (c1 bem f) (denseS (c3 x p) (c2 Wm) (c1 bm) i f) := by
  pointwise
  simp only [actS, denseS, c1, c2, c3, dev]

theorem max_read (B : FVec Ideal S32x256x1024 .f32) (p : Fin 32) (f : Fin 1024) :
    ((Host.reduce (FloatOps.maximumf (F := Ideal) (φ := .f32)) B (constant (F := Ideal) S_ .f32 0xFF800000#32) reducesTo_S32x256x1024_S32x1024_d1 h_S_)) (ix2 p f) = Finset.univ.sup fun i => B (ix3 p i f) := by
  pointwise
  rw [bot_f32]
  rfl

theorem z_read (P : FVec Ideal S32x1024 .f32) (W1 : FVec Ideal S1024x512 .f32) (b1 g1 be1 : FVec Ideal S512 .f32) (p : Fin 32) (f : Fin 512) :
    (addf (Host.divf (mulf (broadcastInDim S32x512 ![0, 1] bcast_S1x512_S32x512_0_1 (broadcastInDim S1x512 ![1] bcast_S512_S1x512_1 g1)) (addf (Host.dotGeneral (F := Ideal) (φ₁ := .f32) (φ₂ := .f32) dot_S32x1024_S1024x512_S32x512_1_0_0_1_n_n none P W1) (broadcastInDim S32x512 ![0, 1] bcast_S1x512_S32x512_0_1 (broadcastInDim S1x512 ![1] bcast_S512_S1x512_1 b1)))) (broadcastInDim S32x512 ![] bcast_S_S32x512 (constant (F := Ideal) S_ .f32 0x3F801061#32))) (broadcastInDim S32x512 ![0, 1] bcast_S1x512_S32x512_0_1 (broadcastInDim S1x512 ![1] bcast_S512_S1x512_1 be1))) (ix2 p f) = Ideal.div (c1 g1 f * rowS (c2 P p) (c2 W1) (c1 b1) f) dev + c1 be1 f := by
  pointwise
  rfl

theorem logit_read (z : FVec Ideal S32x512 .f32) (W2 : FVec Ideal S512x256 .f32) (b2 g2 be2 : FVec Ideal S256 .f32) (Wo : FVec Ideal S256x40 .f32) (bo : FVec Ideal S40 .f32) (p : Fin 32) (f : Fin 40) :
    (addf (Host.dotGeneral (F := Ideal) (φ₁ := .f32) (φ₂ := .f32) dot_S32x256_S256x40_S32x40_1_0_0_1_n_n none (maximumf (addf (Host.divf (mulf (broadcastInDim S32x256 ![0, 1] bcast_S1x256_S32x256_0_1 (broadcastInDim S1x256 ![1] bcast_S256_S1x256_1 g2)) (addf (Host.dotGeneral (F := Ideal) (φ₁ := .f32) (φ₂ := .f32) dot_S32x512_S512x256_S32x256_1_0_0_1_n_n none (maximumf z (broadcastInDim S32x512 ![] bcast_S_S32x512 (constant (F := Ideal) S_ .f32 0x00000000#32))) W2) (broadcastInDim S32x256 ![0, 1] bcast_S1x256_S32x256_0_1 (broadcastInDim S1x256 ![1] bcast_S256_S1x256_1 b2)))) (broadcastInDim S32x256 ![] bcast_S_S32x256 (constant (F := Ideal) S_ .f32 0x3F801061#32))) (broadcastInDim S32x256 ![0, 1] bcast_S1x256_S32x256_0_1 (broadcastInDim S1x256 ![1] bcast_S256_S1x256_1 be2))) (broadcastInDim S32x256 ![] bcast_S_S32x256 (constant (F := Ideal) S_ .f32 0x00000000#32))) Wo) (broadcastInDim S32x40 ![0, 1] bcast_S1x40_S32x40_0_1 (broadcastInDim S1x40 ![1] bcast_S40_S1x40_1 bo))) (ix2 p f) = rowS (fun f => actS (c1 g2 f) (c1 be2 f) (rowS (fun f => max (c2 z p f) 0) (c2 W2) (c1 b2) f)) (c2 Wo) (c1 bo) f := by
  pointwise
  rfl

theorem exp_read (l : FVec Ideal S32x40 .f32) (p : Fin 32) (f : Fin 40) :
    (Host.exp (F := Ideal) (φ := .f32) (subf l (broadcastInDim S32x40 ![0, 1] bcast_S32x1_S32x40_0_1 (broadcastInDim S32x1 ![0] bcast_S32_S32x1_0 (maximumf (broadcastInDim S32 ![] bcast_S_S32 (constant (F := Ideal) S_ .f32 0xFF800000#32)) (Host.reduce (FloatOps.maximumf (F := Ideal) (φ := .f32)) l (constant (F := Ideal) S_ .f32 0xFF800000#32) reducesTo_S32x40_S32_d1 h_S_)))))) (ix2 p f) = Ideal.exp (c2 l p f - Finset.univ.sup (c2 l p)) := by
  pointwise
  rw [bot_f32, max_eq_right bot_le]
  rfl

theorem div_read (e : FVec Ideal S32x40 .f32) (p : Fin 32) (f : Fin 40) :
    (Host.divf e (broadcastInDim S32x40 ![0,1] bcast_S32x1_S32x40_0_1 (broadcastInDim S32x1 ![0] bcast_S32_S32x1_0 (Host.reduceAdd (F := Ideal) (φ := .f32) e (constant (F := Ideal) S_ .f32 0x00000000#32) reducesTo_S32x40_S32_d1 h_S_)))) (ix2 p f) = Ideal.div (e (ix2 p f)) (∑ x, e (ix2 p x)) := by
  pointwise

theorem z_congr {P P' : Fin 1024 → EReal} (h : P = P') (g be : Fin 512 → EReal) (W : Fin 1024 → Fin 512 → EReal) (b : Fin 512 → EReal) (f : Fin 512) :
    Ideal.div (g f * rowS P W b f) dev + be f = Ideal.div (g f * rowS P' W b f) dev + be f := by rw [h]

theorem act_congr {x x' : Fin 256 → Fin 512 → EReal} (h : x = x') (g be : Fin 1024 → EReal) (W : Fin 512 → Fin 1024 → EReal) (b : Fin 1024 → EReal)
    (i : Fin 256) (f : Fin 1024) : actS (g f) (be f) (denseS x W b i f) = actS (g f) (be f) (denseS x' W b i f) := by rw [h]

theorem cat_congr {a a' : Fin 256 → Fin 64 → EReal} (h : a = a') (b : Fin 256 → Fin 64 → EReal) (c : Fin 256 → Fin 128 → EReal)
    (e : Fin 256 → Fin 256 → EReal) (i : Fin 256) (k : Fin 512) : catS a b c e i k = catS a' b c e i k := by rw [h]

/-- The features before the last layers. -/
theorem v268_eq (v : Valuation τ sig (Elt Ideal)) (p : Fin 32) (f : Fin 512) :
    c2 (res_main_v268 v : FVec Ideal (M 32 512) .f32) p f
      = Ideal.div (c1 (v (Proc.devRef .tc main_arg31) : FVec Ideal (V 512) .f32) f
          * poolS (catS (pairS (c3 (res_main_v97 v : FVec Ideal (T 32 512 64) .f32) p)) (c3 (res_main_v149 v : FVec Ideal (T 32 256 64) .f32) p)
              (c3 (res_main_v195 v : FVec Ideal (T 32 256 128) .f32) p) (c3 (ref3 v : FVec Ideal (T 32 256 256) .f32) p))
            (c2 (v (Proc.devRef .tc main_arg25) : FVec Ideal (M 512 1024) .f32)) (c1 (v (Proc.devRef .tc main_arg26) : FVec Ideal (V 1024) .f32))
            (c1 (v (Proc.devRef .tc main_arg27) : FVec Ideal (V 1024) .f32)) (c1 (v (Proc.devRef .tc main_arg28) : FVec Ideal (V 1024) .f32))
            (c2 (v (Proc.devRef .tc main_arg29) : FVec Ideal (M 1024 512) .f32)) (c1 (v (Proc.devRef .tc main_arg30) : FVec Ideal (V 512) .f32)) f) dev
        + c1 (v (Proc.devRef .tc main_arg32) : FVec Ideal (V 512) .f32) f := by
  have h := z_read (Host.reduce (FloatOps.maximumf (F := Ideal) (φ := .f32)) ((maximumf (addf (Host.divf (mulf (broadcastInDim S32x256x1024 ![0, 1, 2] bcast_S1x1x1024_S32x256x1024_0_1_2 (broadcastInDim S1x1x1024 ![2] bcast_S1024_S1x1x1024_2 (v (Proc.devRef .tc main_arg27)))) (addf (Host.dotGeneral (F := Ideal) (φ₁ := .f32) (φ₂ := .f32) dot_S32x256x512_S512x1024_S32x256x1024_2_0_01_1_n_n none  (concatenate S32x256x512 2 [⟨S32x256x64, (Host.reduce (FloatOps.maximumf (F := Ideal) (φ := .f32)) (shapeCast S32x256x2x64 (res_main_v97 v) shapeCasts_S32x512x64_S32x256x2x64) (constant (F := Ideal) S_ .f32 0xFF800000#32) reducesTo_S32x256x2x64_S32x256x64_d2 h_S_)⟩, ⟨S32x256x64, (res_main_v149 v)⟩, ⟨S32x256x128, (res_main_v195 v)⟩, ⟨S32x256x256, (ref3 v)⟩] concatenates_S32x256x64_S32x256x64_S32x256x128_S32x256x256_S32x256x512_d2)  (v (Proc.devRef .tc main_arg25))) (broadcastInDim S32x256x1024 ![0, 1, 2] bcast_S1x1x1024_S32x256x1024_0_1_2 (broadcastInDim S1x1x1024 ![2] bcast_S1024_S1x1x1024_2 (v (Proc.devRef .tc main_arg26)))))) (broadcastInDim S32x256x1024 ![] bcast_S_S32x256x1024 (constant (F := Ideal) S_ .f32 0x3F801061#32))) (broadcastInDim S32x256x1024 ![0, 1, 2] bcast_S1x1x1024_S32x256x1024_0_1_2 (broadcastInDim S1x1x1024 ![2] bcast_S1024_S1x1x1024_2 (v (Proc.devRef .tc main_arg28))))) (broadcastInDim S32x256x1024 ![] bcast_S_S32x256x1024 (constant (F := Ideal) S_ .f32 0x00000000#32)))) (constant (F := Ideal) S_ .f32 0xFF800000#32) reducesTo_S32x256x1024_S32x1024_d1 h_S_)
    (v (Proc.devRef .tc main_arg29)) (v (Proc.devRef .tc main_arg30)) (v (Proc.devRef .tc main_arg31)) (v (Proc.devRef .tc main_arg32)) p f
  refine Eq.trans ?_ (h.trans ?_)
  · unfold c2 res_main_v268 ref3; rfl
  · refine z_congr (funext fun f => ?_) _ _ _ _ f
    refine (max_read _ p f).trans ?_
    refine Finset.sup_congr rfl fun i _ => ?_
    refine (act_read _ _ _ _ _ p i f).trans ?_
    refine act_congr (funext fun i => funext fun k => ?_) _ _ _ _ i f
    refine (cat_read _ _ _ _ p i k).trans ?_
    exact cat_congr (funext fun i => funext fun k => pair_read _ p i k) _ _ _ i k

/-- The reference's scores. -/
theorem v286_eq (v : Valuation τ sig (Elt Ideal)) (p : Fin 32) (f : Fin 40) :
    c2 (res_main_v286 v : FVec Ideal (M 32 40) .f32) p f
      = rowS (fun f => actS (c1 (v (Proc.devRef .tc main_arg35) : FVec Ideal (V 256) .f32) f) (c1 (v (Proc.devRef .tc main_arg36) : FVec Ideal (V 256) .f32) f)
          (rowS (fun f => max (c2 (res_main_v268 v : FVec Ideal (M 32 512) .f32) p f) 0)
            (c2 (v (Proc.devRef .tc main_arg33) : FVec Ideal (M 512 256) .f32)) (c1 (v (Proc.devRef .tc main_arg34) : FVec Ideal (V 256) .f32)) f))
          (c2 (v (Proc.devRef .tc main_arg37) : FVec Ideal (M 256 40) .f32)) (c1 (v (Proc.devRef .tc main_arg38) : FVec Ideal (V 40) .f32)) f := by
  have h := logit_read (res_main_v268 v) (v (Proc.devRef .tc main_arg33)) (v (Proc.devRef .tc main_arg34)) (v (Proc.devRef .tc main_arg35))
    (v (Proc.devRef .tc main_arg36)) (v (Proc.devRef .tc main_arg37)) (v (Proc.devRef .tc main_arg38)) p f
  refine Eq.trans ?_ h
  unfold c2 res_main_v286; rfl

theorem v293_eq (v : Valuation τ sig (Elt Ideal)) (p : Fin 32) (f : Fin 40) :
    (res_main_v293 v : FVec Ideal (M 32 40) .f32) (ix2 p f)
      = Ideal.exp (c2 (res_main_v286 v : FVec Ideal (M 32 40) .f32) p f - Finset.univ.sup (c2 (res_main_v286 v : FVec Ideal (M 32 40) .f32) p)) := by
  have h := exp_read (res_main_v286 v) p f
  refine Eq.trans ?_ h
  unfold res_main_v293; rfl

end Cert.Net
-- ==== Proof.HeadKer.lean ====
/- The kernel's head, read at an index. -/
module

public import proofs.«01_k».proof.Proof.HeadRef

@[expose] public section

noncomputable section

namespace Cert.Net

open Idealize.ShloMosaic

/-- The one row of an array of one row. -/
def r1 {a : ℕ} (x : FVec Ideal (M 1 a) .f32) (i : Fin a) : EReal := x (ix2 0 i)

theorem halves0_apply (y : FVec Ideal (M 1024 3) .f32) : c2 (halves pair0a pair0b y) = halvesS (n := 1024) (m := 512) (by norm_num) (c2 y) := by
  funext i k
  unfold c2 halves
  pointwise
  rfl

theorem halves1_apply (y : FVec Ideal (M 512 64) .f32) : c2 (halves pair1a pair1b y) = halvesS (n := 512) (m := 256) (by norm_num) (c2 y) := by
  funext i k
  unfold c2 halves
  pointwise
  rfl

theorem pairMax_apply (y : FVec Ideal (M 512 64) .f32) : c2 (pairMax pair1a pair1b y) = pairS (c2 y) := by
  funext i k
  unfold c2 pairMax
  pointwise
  rw [bot_f32]
  rfl

theorem joined_apply (a b : FVec Ideal (M 256 64) .f32) (c : FVec Ideal (M 256 128) .f32) (e : FVec Ideal (M 256 256) .f32) :
    c2 (joined hf a b c e) = catS (c2 a) (c2 b) (c2 c) (c2 e) := by
  funext i k
  unfold c2 joined
  pointwise
  rfl

theorem dense1_apply (x : FVec Ideal (M 1 512) .f32) (W : FVec Ideal (M 512 256) .f32) (b : FVec Ideal (M 1 256) .f32) :
    r1 (dense1 x W b) = rowS (r1 x) (c2 W) (r1 b) := by
  funext f
  unfold r1 dense1
  pointwise
  rfl

theorem dense1_apply' (x : FVec Ideal (M 1 256) .f32) (W : FVec Ideal (M 256 40) .f32) (b : FVec Ideal (M 1 40) .f32) :
    r1 (dense1 x W b) = rowS (r1 x) (c2 W) (r1 b) := by
  funext f
  unfold r1 dense1
  pointwise
  rfl

theorem dense1_apply'' (x : FVec Ideal (M 1 1024) .f32) (W : FVec Ideal (M 1024 512) .f32) (b : FVec Ideal (M 1 512) .f32) :
    r1 (dense1 x W b) = rowS (r1 x) (c2 W) (r1 b) := by
  funext f
  unfold r1 dense1
  pointwise
  rfl

theorem norm1_apply (g be x : FVec Ideal (M 1 512) .f32) : r1 (norm1 g be x) = fun f => actS (r1 g f) (r1 be f) (r1 x f) := by
  funext f
  unfold r1 norm1 relu
  pointwise
  rfl

theorem norm1_apply' (g be x : FVec Ideal (M 1 256) .f32) : r1 (norm1 g be x) = fun f => actS (r1 g f) (r1 be f) (r1 x f) := by
  funext f
  unfold r1 norm1 relu
  pointwise
  rfl

theorem denseM_apply (x : FVec Ideal (M 256 512) .f32) (W : FVec Ideal (M 512 1024) .f32) (b : FVec Ideal (M 1 1024) .f32) (i : Fin 256) (f : Fin 1024) :
    dense hf.b1024 x W b (ix2 i f) = denseS (c2 x) (c2 W) (r1 b) i f := by
  unfold dense
  pointwise
  simp only [denseS, c2, r1]

theorem actM_apply (x : FVec Ideal (M 256 1024) .f32) (g be : FVec Ideal (M 1 1024) .f32) (i : Fin 256) (f : Fin 1024) :
    relu (addf (scaled hf.b1024 g x) (broadcastTo (M 256 1024) be hf.b1024)) (ix2 i f) = actS (r1 g f) (r1 be f) (x (ix2 i f)) := by
  unfold scaled relu
  pointwise
  simp only [actS, c2, r1, dev]

theorem maxM_apply (x : FVec Ideal (M 256 1024) .f32) (f : Fin 1024) :
    shapeCast (M 1 1024) (multiReduction .maximumf [0] (V 1024) x 0xFF800000#32 hf.red0 (.inl rfl) rfl) hf.row (ix2 (0 : Fin 1) f)
      = Finset.univ.sup fun i => x (ix2 i f) := by
  pointwise
  rw [bot_f32]
  rfl

theorem pooled_apply (x : FVec Ideal (M 256 512) .f32) (Wm : FVec Ideal (M 512 1024) .f32) (bm gm bem : FVec Ideal (M 1 1024) .f32)
    (W1 : FVec Ideal (M 1024 512) .f32) (b1 : FVec Ideal (M 1 512) .f32) :
    r1 (pooled hf x Wm bm gm bem W1 b1) = poolS (c2 x) (c2 Wm) (r1 bm) (r1 gm) (r1 bem) (c2 W1) (r1 b1) := by
  unfold pooled poolS
  refine (dense1_apply'' _ _ _).trans ?_
  refine congrArg (fun P => rowS P (c2 W1) (r1 b1)) (funext fun f => ?_)
  refine (maxM_apply _ f).trans ?_
  refine Finset.sup_congr rfl fun i _ => ?_
  refine (actM_apply _ _ _ i f).trans ?_
  rw [denseM_apply]

theorem exp_apply (l : FVec Ideal (M 1 40) .f32) (f : Fin 40) :
    exp (subf l (broadcastTo (M 1 40) (shapeCast (M 1 1) (multiReduction .maximumf [1] (V 1) l 0xFF800000#32 hf.red1 (.inl rfl) rfl) hf.one) hf.bout))
      (ix2 (0 : Fin 1) f) = Ideal.exp (r1 l f - Finset.univ.sup (r1 l)) := by
  pointwise
  rw [bot_f32]
  rfl

theorem scores_apply (z : FVec Ideal (M 1 512) .f32) (g1 be1 : FVec Ideal (M 1 512) .f32) (W2 : FVec Ideal (M 512 256) .f32)
    (b2 g2 be2 : FVec Ideal (M 1 256) .f32) (Wo : FVec Ideal (M 256 40) .f32) (bo : FVec Ideal (M 1 40) .f32) (f : Fin 40) :
    scores hf z g1 be1 W2 b2 g2 be2 Wo bo (ix2 (0 : Fin 1) f)
      = Ideal.exp (logitS (r1 z) (r1 g1) (r1 be1) (c2 W2) (r1 b2) (r1 g2) (r1 be2) (c2 Wo) (r1 bo) f
          - Finset.univ.sup (logitS (r1 z) (r1 g1) (r1 be1) (c2 W2) (r1 b2) (r1 g2) (r1 be2) (c2 Wo) (r1 bo))) := by
  unfold scores
  refine (exp_apply _ f).trans ?_
  rw [dense1_apply', norm1_apply', dense1_apply, norm1_apply]
  rfl

theorem soft_apply (e : FVec Ideal (M 1 40) .f32) (f : Fin 40) :
    softmaxOf hf e (total hf e) (ix3 (0 : Fin 1) (0 : Fin 1) f) = Ideal.div (e (ix2 0 f)) (∑ x, e (ix2 0 x)) := by
  unfold softmaxOf total
  pointwise

/-- The kernel's head. -/
theorem head_apply (l0 : FVec Ideal (M 512 64) .f32) (l1 : FVec Ideal (M 256 64) .f32) (l2 : FVec Ideal (M 256 128) .f32) (l3 : FVec Ideal (M 256 256) .f32)
    (Wm : FVec Ideal (M 512 1024) .f32) (bm gm bem : FVec Ideal (M 1 1024) .f32) (W1 : FVec Ideal (M 1024 512) .f32) (b1 g1 be1 : FVec Ideal (M 1 512) .f32)
    (W2 : FVec Ideal (M 512 256) .f32) (b2 g2 be2 : FVec Ideal (M 1 256) .f32) (Wo : FVec Ideal (M 256 40) .f32) (bo : FVec Ideal (M 1 40) .f32) (f : Fin 40) :
    softmaxOf hf (scores hf (pooled hf (joined hf (pairMax pair1a pair1b l0) l1 l2 l3) Wm bm gm bem W1 b1) g1 be1 W2 b2 g2 be2 Wo bo)
        (total hf (scores hf (pooled hf (joined hf (pairMax pair1a pair1b l0) l1 l2 l3) Wm bm gm bem W1 b1) g1 be1 W2 b2 g2 be2 Wo bo))
        (ix3 (0 : Fin 1) (0 : Fin 1) f)
      = softS (logitS (poolS (catS (pairS (c2 l0)) (c2 l1) (c2 l2) (c2 l3)) (c2 Wm) (r1 bm) (r1 gm) (r1 bem) (c2 W1) (r1 b1))
          (r1 g1) (r1 be1) (c2 W2) (r1 b2) (r1 g2) (r1 be2) (c2 Wo) (r1 bo)) f := by
  refine (soft_apply _ f).trans ?_
  simp only [scores_apply, pooled_apply, joined_apply, pairMax_apply]
  rfl

end Cert.Net
-- ==== Proof.Chain.lean ====
/- A launch instance's stored row is the reference's row. -/
module

public import proofs.«01_k».proof.Proof.Tree
public import proofs.«01_k».proof.Proof.HeadKer

@[expose] public section

set_option maxRecDepth 16384

noncomputable section

namespace Cert.Net

open Idealize.ShloMosaic Idealize.ShloMosaic.TcCoe Cert.ReferenceIdeal Cert.ReferenceIdeal.Gen Cert.ReferenceIdeal.Value

/-- A level of the kernel, read as a function of plain indices. -/
theorem level_c {n m d w o2 u : ℕ} (h : LevelFacts n m d w o2 u) (hw : w = d + d + d) (ho : o2 = d + d) (hn : n ≤ 4096) (k : ℕ) (hk : k ≤ n)
    (h0 : 0 < k) (lo : Ideal .f32) (hlo : lo = (⊥ : EReal)) (t : FVec Ideal (M m d) .f32) (y : FVec Ideal (M n d) .f32)
    (ht : ∀ i c, IsReal (c2 t i c)) (hy : ∀ i c, IsReal (c2 y i c)) (wr wa : FVec Ideal (M d u) .f32) (br ba g be : FVec Ideal (M 1 u) .f32)
    (hg : ∀ f, 0 ≤ r1 g f) :
    c2 (level h k lo t y wr wa (row br) (row ba) (row g) (row be)) = levelS k hk (c2 t) (c2 y) (c2 wr) (c2 wa) (r1 br) (r1 ba) (r1 g) (r1 be) := by
  have e : ∀ x : FVec Ideal (M 1 u) .f32, row x = x := fun x => shapeCast_self x _
  rw [e, e, e, e]
  funext i f
  have ht' : ∀ i, IsReal (t i) := fun i => by rw [eq_ix2 i]; exact ht _ _
  have hy' : ∀ i, IsReal (y i) := fun i => by rw [eq_ix2 i]; exact hy _ _
  have hg' : ∀ f, 0 ≤ g (ValueIdx.ix2 0 f) := fun f => by rw [← ix2_eq_valueIdx]; exact hg f
  have := level_apply h hw ho hn k hk h0 lo hlo t y ht' hy' wr wa br ba g be hg' i f
  simp only [← ix2_eq_valueIdx] at this
  exact this

theorem halvesS_real {n m d : ℕ} (h : n = m * 2) (y : Fin n → Fin d → EReal) (hy : ∀ i c, IsReal (y i c)) (i : Fin m) (c : Fin d) :
    IsReal (halvesS h y i c) := by
  unfold halvesS
  rw [two_eq]
  exact IsReal.div (by norm_num) (IsReal.sum _ fun x _ => hy _ _)

/-- The kernel's sorted rows are the reference's. -/
theorem sort_eq (p : Fin 32) (v : Valuation τ sig (Elt Ideal)) (x : FVec Ideal (T 1 1024 3) .f32)
    (hx : ∀ (q : Fin 1024) (e : Fin 3), x (ix3 (0 : Fin 1) q e) = (v (Proc.devRef .tc main_arg0) : FVec Ideal (T 32 1024 3) .f32) (ix3 p q e))
    (hr : ∀ i, IsReal ((v (Proc.devRef .tc main_arg0) : FVec Ideal (T 32 1024 3) .f32) i)) :
    c2 (sort10 x) = c3 (res_main_v47 v : FVec Ideal (T 32 1024 3) .f32) p ∧ ∀ i c, IsReal (c2 (sort10 x) i c) := by
  have R := tree p.val p.isLt v x _ rfl (fun q e => by
    rw [← ix3_eq_valueIdx, ← ix3_eq_valueIdx]; exact hx q e) hr
  refine ⟨?_, fun i c => R.real _⟩
  funext q e
  have := R.eq q p q e rfl
  rw [← ix2_eq_valueIdx, ← ix3_eq_valueIdx] at this
  exact this

/-- Level 0 of the kernel is the reference's. -/
theorem chain0 (p : Fin 32) (v : Valuation τ sig (Elt Ideal)) (lo : Ideal .f32) (hlo : lo = (⊥ : EReal)) (y : FVec Ideal (M 1024 3) .f32)
    (hy : c2 y = c3 (res_main_v47 v : FVec Ideal (T 32 1024 3) .f32) p) (ry : ∀ i c, IsReal (c2 y i c))
    (x2 : FVec Ideal (M 3 64) .f32)
    (x3 : FVec Ideal (M 3 64) .f32)
    (x4 : FVec Ideal (M 1 64) .f32)
    (x5 : FVec Ideal (M 1 64) .f32)
    (x6 : FVec Ideal (M 1 64) .f32)
    (x7 : FVec Ideal (M 1 64) .f32)
    (e2 : (c2 x2) = (c2 (v (Proc.devRef .tc main_arg1) : FVec Ideal (M 3 64) .f32)))
    (e3 : (c2 x3) = (c2 (v (Proc.devRef .tc main_arg3) : FVec Ideal (M 3 64) .f32)))
    (e4 : (r1 x4) = (c1 (v (Proc.devRef .tc main_arg2) : FVec Ideal (V 64) .f32)))
    (e5 : (r1 x5) = (c1 (v (Proc.devRef .tc main_arg4) : FVec Ideal (V 64) .f32)))
    (e6 : (r1 x6) = (c1 (v (Proc.devRef .tc main_arg5) : FVec Ideal (V 64) .f32)))
    (e7 : (r1 x7) = (c1 (v (Proc.devRef .tc main_arg6) : FVec Ideal (V 64) .f32)))
    (q2 : ∀ i c, IsReal ((c2 x2) i c))
    (q3 : ∀ i c, IsReal ((c2 x3) i c))
    (q4 : ∀ i, IsReal ((r1 x4) i))
    (q5 : ∀ i, IsReal ((r1 x5) i))
    (q6 : ∀ i, IsReal ((r1 x6) i))
    (q7 : ∀ i, IsReal ((r1 x7) i))
    (hg : ∀ f, 0 ≤ r1 x6 f) :
    c2 (level0 lo y x2 x3 x4 x5 x6 x7) = c3 (res_main_v97 v : FVec Ideal (T 32 512 64) .f32) p ∧ ∀ i c, IsReal (c2 (level0 lo y x2 x3 x4 x5 x6 x7) i c) := by
  have eh : c2 (halves pair0a pair0b y) = _ := halves0_apply y
  have rh : ∀ i c, IsReal (c2 (halves pair0a pair0b y) i c) := fun i c => by
    rw [eh]; exact halvesS_real _ _ ry i c
  have E : c2 (level0 lo y x2 x3 x4 x5 x6 x7) = levelS 40 (by norm_num : 40 ≤ 1024) (c2 (halves pair0a pair0b y)) (c2 y) (c2 x2) (c2 x3) (r1 x4) (r1 x5) (r1 x6) (r1 x7) :=
    level_c lf0 (by norm_num) (by norm_num) (by norm_num) 40 (by norm_num) (by norm_num) lo hlo (halves pair0a pair0b y) y rh ry x2 x3 x4 x5 x6 x7 hg
  refine ⟨?_, fun i c => ?_⟩
  · rw [E, eh, hy, e2, e3, e4, e5, e6, e7, lev0 v p, mean0 v p]
  · rw [E]; exact levelS_real _ (by norm_num) rh ry q2 q3 q4 q5 q6 q7 i c

/-- Level 1 of the kernel is the reference's. -/
theorem chain1 (p : Fin 32) (v : Valuation τ sig (Elt Ideal)) (lo : Ideal .f32) (hlo : lo = (⊥ : EReal)) (y : FVec Ideal (M 512 64) .f32)
    (hy : c2 y = c3 (res_main_v97 v : FVec Ideal (T 32 512 64) .f32) p) (ry : ∀ i c, IsReal (c2 y i c))
    (x8 : FVec Ideal (M 64 64) .f32)
    (x9 : FVec Ideal (M 64 64) .f32)
    (x10 : FVec Ideal (M 1 64) .f32)
    (x11 : FVec Ideal (M 1 64) .f32)
    (x12 : FVec Ideal (M 1 64) .f32)
    (x13 : FVec Ideal (M 1 64) .f32)
    (e8 : (c2 x8) = (c2 (v (Proc.devRef .tc main_arg7) : FVec Ideal (M 64 64) .f32)))
    (e9 : (c2 x9) = (c2 (v (Proc.devRef .tc main_arg9) : FVec Ideal (M 64 64) .f32)))
    (e10 : (r1 x10) = (c1 (v (Proc.devRef .tc main_arg8) : FVec Ideal (V 64) .f32)))
    (e11 : (r1 x11) = (c1 (v (Proc.devRef .tc main_arg10) : FVec Ideal (V 64) .f32)))
    (e12 : (r1 x12) = (c1 (v (Proc.devRef .tc main_arg11) : FVec Ideal (V 64) .f32)))
    (e13 : (r1 x13) = (c1 (v (Proc.devRef .tc main_arg12) : FVec Ideal (V 64) .f32)))
    (q8 : ∀ i c, IsReal ((c2 x8) i c))
    (q9 : ∀ i c, IsReal ((c2 x9) i c))
    (q10 : ∀ i, IsReal ((r1 x10) i))
    (q11 : ∀ i, IsReal ((r1 x11) i))
    (q12 : ∀ i, IsReal ((r1 x12) i))
    (q13 : ∀ i, IsReal ((r1 x13) i))
    (hg : ∀ f, 0 ≤ r1 x12 f) :
    c2 (level1 lo y x8 x9 x10 x11 x12 x13) = c3 (res_main_v149 v : FVec Ideal (T 32 256 64) .f32) p ∧ ∀ i c, IsReal (c2 (level1 lo y x8 x9 x10 x11 x12 x13) i c) := by
  have eh : c2 (halves pair1a pair1b y) = _ := halves1_apply y
  have rh : ∀ i c, IsReal (c2 (halves pair1a pair1b y) i c) := fun i c => by
    rw [eh]; exact halvesS_real _ _ ry i c
  have E : c2 (level1 lo y x8 x9 x10 x11 x12 x13) = levelS 32 (by norm_num : 32 ≤ 512) (c2 (halves pair1a pair1b y)) (c2 y) (c2 x8) (c2 x9) (r1 x10) (r1 x11) (r1 x12) (r1 x13) :=
    level_c lf1 (by norm_num) (by norm_num) (by norm_num) 32 (by norm_num) (by norm_num) lo hlo (halves pair1a pair1b y) y rh ry x8 x9 x10 x11 x12 x13 hg
  refine ⟨?_, fun i c => ?_⟩
  · rw [E, eh, hy, e8, e9, e10, e11, e12, e13, lev1 v p, mean1 v p]
  · rw [E]; exact levelS_real _ (by norm_num) rh ry q8 q9 q10 q11 q12 q13 i c

/-- Level 2 of the kernel is the reference's. -/
theorem chain2 (p : Fin 32) (v : Valuation τ sig (Elt Ideal)) (lo : Ideal .f32) (hlo : lo = (⊥ : EReal)) (y : FVec Ideal (M 256 64) .f32)
    (hy : c2 y = c3 (res_main_v149 v : FVec Ideal (T 32 256 64) .f32) p) (ry : ∀ i c, IsReal (c2 y i c))
    (x14 : FVec Ideal (M 64 128) .f32)
    (x15 : FVec Ideal (M 64 128) .f32)
    (x16 : FVec Ideal (M 1 128) .f32)
    (x17 : FVec Ideal (M 1 128) .f32)
    (x18 : FVec Ideal (M 1 128) .f32)
    (x19 : FVec Ideal (M 1 128) .f32)
    (e14 : (c2 x14) = (c2 (v (Proc.devRef .tc main_arg13) : FVec Ideal (M 64 128) .f32)))
    (e15 : (c2 x15) = (c2 (v (Proc.devRef .tc main_arg15) : FVec Ideal (M 64 128) .f32)))
    (e16 : (r1 x16) = (c1 (v (Proc.devRef .tc main_arg14) : FVec Ideal (V 128) .f32)))
    (e17 : (r1 x17) = (c1 (v (Proc.devRef .tc main_arg16) : FVec Ideal (V 128) .f32)))
    (e18 : (r1 x18) = (c1 (v (Proc.devRef .tc main_arg17) : FVec Ideal (V 128) .f32)))
    (e19 : (r1 x19) = (c1 (v (Proc.devRef .tc main_arg18) : FVec Ideal (V 128) .f32)))
    (q14 : ∀ i c, IsReal ((c2 x14) i c))
    (q15 : ∀ i c, IsReal ((c2 x15) i c))
    (q16 : ∀ i, IsReal ((r1 x16) i))
    (q17 : ∀ i, IsReal ((r1 x17) i))
    (q18 : ∀ i, IsReal ((r1 x18) i))
    (q19 : ∀ i, IsReal ((r1 x19) i))
    (hg : ∀ f, 0 ≤ r1 x18 f) :
    c2 (level2 lo y x14 x15 x16 x17 x18 x19) = c3 (res_main_v195 v : FVec Ideal (T 32 256 128) .f32) p ∧ ∀ i c, IsReal (c2 (level2 lo y x14 x15 x16 x17 x18 x19) i c) := by
  have E : c2 (level2 lo y x14 x15 x16 x17 x18 x19) = levelS 32 (by norm_num : 32 ≤ 256) (c2 y) (c2 y) (c2 x14) (c2 x15) (r1 x16) (r1 x17) (r1 x18) (r1 x19) :=
    level_c lf2 (by norm_num) (by norm_num) (by norm_num) 32 (by norm_num) (by norm_num) lo hlo y y ry ry x14 x15 x16 x17 x18 x19 hg
  refine ⟨?_, fun i c => ?_⟩
  · rw [E, hy, e14, e15, e16, e17, e18, e19, lev2 v p]
  · rw [E]; exact levelS_real _ (by norm_num) ry ry q14 q15 q16 q17 q18 q19 i c

/-- Level 3 of the kernel is the reference's. -/
theorem chain3 (p : Fin 32) (v : Valuation τ sig (Elt Ideal)) (lo : Ideal .f32) (hlo : lo = (⊥ : EReal)) (y : FVec Ideal (M 256 128) .f32)
    (hy : c2 y = c3 (res_main_v195 v : FVec Ideal (T 32 256 128) .f32) p) (ry : ∀ i c, IsReal (c2 y i c))
    (x20 : FVec Ideal (M 128 256) .f32)
    (x21 : FVec Ideal (M 128 256) .f32)
    (x22 : FVec Ideal (M 1 256) .f32)
    (x23 : FVec Ideal (M 1 256) .f32)
    (x24 : FVec Ideal (M 1 256) .f32)
    (x25 : FVec Ideal (M 1 256) .f32)
    (e20 : (c2 x20) = (c2 (v (Proc.devRef .tc main_arg19) : FVec Ideal (M 128 256) .f32)))
    (e21 : (c2 x21) = (c2 (v (Proc.devRef .tc main_arg21) : FVec Ideal (M 128 256) .f32)))
    (e22 : (r1 x22) = (c1 (v (Proc.devRef .tc main_arg20) : FVec Ideal (V 256) .f32)))
    (e23 : (r1 x23) = (c1 (v (Proc.devRef .tc main_arg22) : FVec Ideal (V 256) .f32)))
    (e24 : (r1 x24) = (c1 (v (Proc.devRef .tc main_arg23) : FVec Ideal (V 256) .f32)))
    (e25 : (r1 x25) = (c1 (v (Proc.devRef .tc main_arg24) : FVec Ideal (V 256) .f32)))
    (hg : ∀ f, 0 ≤ r1 x24 f) :
    c2 (level3 lo y x20 x21 x22 x23 x24 x25) = c3 (ref3 v : FVec Ideal (T 32 256 256) .f32) p := by
  have E : c2 (level3 lo y x20 x21 x22 x23 x24 x25) = levelS 32 (by norm_num : 32 ≤ 256) (c2 y) (c2 y) (c2 x20) (c2 x21) (r1 x22) (r1 x23) (r1 x24) (r1 x25) :=
    level_c lf3 (by norm_num) (by norm_num) (by norm_num) 32 (by norm_num) (by norm_num) lo hlo y y ry ry x20 x21 x22 x23 x24 x25 hg
  rw [E, hy, e20, e21, e22, e23, e24, e25, lev3 v p]

/-- The reference's result, as it prints it. -/
def refOut (v : Valuation τ sig (Elt Ideal)) : FVec Ideal S32x40 .f32 :=
  Host.divf (res_main_v293 v) (broadcastInDim S32x40 ![0, 1] bcast_S32x1_S32x40_0_1 (broadcastInDim S32x1 ![0] bcast_S32_S32x1_0 (Host.reduceAdd (res_main_v293 v) (constant S_ .f32 0x00000000#32) reducesTo_S32x40_S32_d1 h_S_)))

theorem refOut_apply (v : Valuation τ sig (Elt Ideal)) (p : Fin 32) (f : Fin 40) :
    refOut v (ix2 p f) = softS (logitS (poolS (catS (pairS (c3 (res_main_v97 v : FVec Ideal (T 32 512 64) .f32) p)) (c3 (res_main_v149 v : FVec Ideal (T 32 256 64) .f32) p) (c3 (res_main_v195 v : FVec Ideal (T 32 256 128) .f32) p) (c3 (ref3 v : FVec Ideal (T 32 256 256) .f32) p))
      (c2 (v (Proc.devRef .tc main_arg25) : FVec Ideal (M 512 1024) .f32)) (c1 (v (Proc.devRef .tc main_arg26) : FVec Ideal (V 1024) .f32)) (c1 (v (Proc.devRef .tc main_arg27) : FVec Ideal (V 1024) .f32)) (c1 (v (Proc.devRef .tc main_arg28) : FVec Ideal (V 1024) .f32)) (c2 (v (Proc.devRef .tc main_arg29) : FVec Ideal (M 1024 512) .f32)) (c1 (v (Proc.devRef .tc main_arg30) : FVec Ideal (V 512) .f32)))
      (c1 (v (Proc.devRef .tc main_arg31) : FVec Ideal (V 512) .f32)) (c1 (v (Proc.devRef .tc main_arg32) : FVec Ideal (V 512) .f32)) (c2 (v (Proc.devRef .tc main_arg33) : FVec Ideal (M 512 256) .f32)) (c1 (v (Proc.devRef .tc main_arg34) : FVec Ideal (V 256) .f32)) (c1 (v (Proc.devRef .tc main_arg35) : FVec Ideal (V 256) .f32)) (c1 (v (Proc.devRef .tc main_arg36) : FVec Ideal (V 256) .f32)) (c2 (v (Proc.devRef .tc main_arg37) : FVec Ideal (M 256 40) .f32)) (c1 (v (Proc.devRef .tc main_arg38) : FVec Ideal (V 40) .f32))) f := by
  have L : c2 (res_main_v286 v : FVec Ideal (M 32 40) .f32) p = logitS (poolS (catS (pairS (c3 (res_main_v97 v : FVec Ideal (T 32 512 64) .f32) p)) (c3 (res_main_v149 v : FVec Ideal (T 32 256 64) .f32) p) (c3 (res_main_v195 v : FVec Ideal (T 32 256 128) .f32) p) (c3 (ref3 v : FVec Ideal (T 32 256 256) .f32) p))
      (c2 (v (Proc.devRef .tc main_arg25) : FVec Ideal (M 512 1024) .f32)) (c1 (v (Proc.devRef .tc main_arg26) : FVec Ideal (V 1024) .f32)) (c1 (v (Proc.devRef .tc main_arg27) : FVec Ideal (V 1024) .f32)) (c1 (v (Proc.devRef .tc main_arg28) : FVec Ideal (V 1024) .f32)) (c2 (v (Proc.devRef .tc main_arg29) : FVec Ideal (M 1024 512) .f32)) (c1 (v (Proc.devRef .tc main_arg30) : FVec Ideal (V 512) .f32)))
      (c1 (v (Proc.devRef .tc main_arg31) : FVec Ideal (V 512) .f32)) (c1 (v (Proc.devRef .tc main_arg32) : FVec Ideal (V 512) .f32)) (c2 (v (Proc.devRef .tc main_arg33) : FVec Ideal (M 512 256) .f32)) (c1 (v (Proc.devRef .tc main_arg34) : FVec Ideal (V 256) .f32)) (c1 (v (Proc.devRef .tc main_arg35) : FVec Ideal (V 256) .f32)) (c1 (v (Proc.devRef .tc main_arg36) : FVec Ideal (V 256) .f32)) (c2 (v (Proc.devRef .tc main_arg37) : FVec Ideal (M 256 40) .f32)) (c1 (v (Proc.devRef .tc main_arg38) : FVec Ideal (V 40) .f32)) := by
    funext f
    rw [v286_eq]
    unfold logitS
    simp only [v268_eq]
    rfl
  unfold refOut
  rw [div_read, v293_eq]
  simp only [v293_eq, L]
  rfl

/-- A launch instance's stored row is the reference's row, if its operands are the reference's arguments. -/
theorem value (p : Fin 32) (v : Valuation τ sig (Elt Ideal)) (lo : Ideal .f32) (hlo : lo = (⊥ : EReal)) (x1 : FVec Ideal (T 1 1024 3) .f32)
    (x2 : FVec Ideal (M 3 64) .f32)
    (x3 : FVec Ideal (M 3 64) .f32)
    (x4 : FVec Ideal (M 1 64) .f32)
    (x5 : FVec Ideal (M 1 64) .f32)
    (x6 : FVec Ideal (M 1 64) .f32)
    (x7 : FVec Ideal (M 1 64) .f32)
    (x8 : FVec Ideal (M 64 64) .f32)
    (x9 : FVec Ideal (M 64 64) .f32)
    (x10 : FVec Ideal (M 1 64) .f32)
    (x11 : FVec Ideal (M 1 64) .f32)
    (x12 : FVec Ideal (M 1 64) .f32)
    (x13 : FVec Ideal (M 1 64) .f32)
    (x14 : FVec Ideal (M 64 128) .f32)
    (x15 : FVec Ideal (M 64 128) .f32)
    (x16 : FVec Ideal (M 1 128) .f32)
    (x17 : FVec Ideal (M 1 128) .f32)
    (x18 : FVec Ideal (M 1 128) .f32)
    (x19 : FVec Ideal (M 1 128) .f32)
    (x20 : FVec Ideal (M 128 256) .f32)
    (x21 : FVec Ideal (M 128 256) .f32)
    (x22 : FVec Ideal (M 1 256) .f32)
    (x23 : FVec Ideal (M 1 256) .f32)
    (x24 : FVec Ideal (M 1 256) .f32)
    (x25 : FVec Ideal (M 1 256) .f32)
    (x26 : FVec Ideal (M 512 1024) .f32)
    (x27 : FVec Ideal (M 1 1024) .f32)
    (x28 : FVec Ideal (M 1 1024) .f32)
    (x29 : FVec Ideal (M 1 1024) .f32)
    (x30 : FVec Ideal (M 1024 512) .f32)
    (x31 : FVec Ideal (M 1 512) .f32)
    (x32 : FVec Ideal (M 1 512) .f32)
    (x33 : FVec Ideal (M 1 512) .f32)
    (x34 : FVec Ideal (M 512 256) .f32)
    (x35 : FVec Ideal (M 1 256) .f32)
    (x36 : FVec Ideal (M 1 256) .f32)
    (x37 : FVec Ideal (M 1 256) .f32)
    (x38 : FVec Ideal (M 256 40) .f32)
    (x39 : FVec Ideal (M 1 40) .f32)
    (hx : ∀ (q : Fin 1024) (e : Fin 3), x1 (ix3 (0 : Fin 1) q e) = (v (Proc.devRef .tc main_arg0) : FVec Ideal (T 32 1024 3) .f32) (ix3 p q e))
    (e2 : (c2 x2) = (c2 (v (Proc.devRef .tc main_arg1) : FVec Ideal (M 3 64) .f32)))
    (e3 : (c2 x3) = (c2 (v (Proc.devRef .tc main_arg3) : FVec Ideal (M 3 64) .f32)))
    (e4 : (r1 x4) = (c1 (v (Proc.devRef .tc main_arg2) : FVec Ideal (V 64) .f32)))
    (e5 : (r1 x5) = (c1 (v (Proc.devRef .tc main_arg4) : FVec Ideal (V 64) .f32)))
    (e6 : (r1 x6) = (c1 (v (Proc.devRef .tc main_arg5) : FVec Ideal (V 64) .f32)))
    (e7 : (r1 x7) = (c1 (v (Proc.devRef .tc main_arg6) : FVec Ideal (V 64) .f32)))
    (e8 : (c2 x8) = (c2 (v (Proc.devRef .tc main_arg7) : FVec Ideal (M 64 64) .f32)))
    (e9 : (c2 x9) = (c2 (v (Proc.devRef .tc main_arg9) : FVec Ideal (M 64 64) .f32)))
    (e10 : (r1 x10) = (c1 (v (Proc.devRef .tc main_arg8) : FVec Ideal (V 64) .f32)))
    (e11 : (r1 x11) = (c1 (v (Proc.devRef .tc main_arg10) : FVec Ideal (V 64) .f32)))
    (e12 : (r1 x12) = (c1 (v (Proc.devRef .tc main_arg11) : FVec Ideal (V 64) .f32)))
    (e13 : (r1 x13) = (c1 (v (Proc.devRef .tc main_arg12) : FVec Ideal (V 64) .f32)))
    (e14 : (c2 x14) = (c2 (v (Proc.devRef .tc main_arg13) : FVec Ideal (M 64 128) .f32)))
    (e15 : (c2 x15) = (c2 (v (Proc.devRef .tc main_arg15) : FVec Ideal (M 64 128) .f32)))
    (e16 : (r1 x16) = (c1 (v (Proc.devRef .tc main_arg14) : FVec Ideal (V 128) .f32)))
    (e17 : (r1 x17) = (c1 (v (Proc.devRef .tc main_arg16) : FVec Ideal (V 128) .f32)))
    (e18 : (r1 x18) = (c1 (v (Proc.devRef .tc main_arg17) : FVec Ideal (V 128) .f32)))
    (e19 : (r1 x19) = (c1 (v (Proc.devRef .tc main_arg18) : FVec Ideal (V 128) .f32)))
    (e20 : (c2 x20) = (c2 (v (Proc.devRef .tc main_arg19) : FVec Ideal (M 128 256) .f32)))
    (e21 : (c2 x21) = (c2 (v (Proc.devRef .tc main_arg21) : FVec Ideal (M 128 256) .f32)))
    (e22 : (r1 x22) = (c1 (v (Proc.devRef .tc main_arg20) : FVec Ideal (V 256) .f32)))
    (e23 : (r1 x23) = (c1 (v (Proc.devRef .tc main_arg22) : FVec Ideal (V 256) .f32)))
    (e24 : (r1 x24) = (c1 (v (Proc.devRef .tc main_arg23) : FVec Ideal (V 256) .f32)))
    (e25 : (r1 x25) = (c1 (v (Proc.devRef .tc main_arg24) : FVec Ideal (V 256) .f32)))
    (e26 : (c2 x26) = (c2 (v (Proc.devRef .tc main_arg25) : FVec Ideal (M 512 1024) .f32)))
    (e27 : (r1 x27) = (c1 (v (Proc.devRef .tc main_arg26) : FVec Ideal (V 1024) .f32)))
    (e28 : (r1 x28) = (c1 (v (Proc.devRef .tc main_arg27) : FVec Ideal (V 1024) .f32)))
    (e29 : (r1 x29) = (c1 (v (Proc.devRef .tc main_arg28) : FVec Ideal (V 1024) .f32)))
    (e30 : (c2 x30) = (c2 (v (Proc.devRef .tc main_arg29) : FVec Ideal (M 1024 512) .f32)))
    (e31 : (r1 x31) = (c1 (v (Proc.devRef .tc main_arg30) : FVec Ideal (V 512) .f32)))
    (e32 : (r1 x32) = (c1 (v (Proc.devRef .tc main_arg31) : FVec Ideal (V 512) .f32)))
    (e33 : (r1 x33) = (c1 (v (Proc.devRef .tc main_arg32) : FVec Ideal (V 512) .f32)))
    (e34 : (c2 x34) = (c2 (v (Proc.devRef .tc main_arg33) : FVec Ideal (M 512 256) .f32)))
    (e35 : (r1 x35) = (c1 (v (Proc.devRef .tc main_arg34) : FVec Ideal (V 256) .f32)))
    (e36 : (r1 x36) = (c1 (v (Proc.devRef .tc main_arg35) : FVec Ideal (V 256) .f32)))
    (e37 : (r1 x37) = (c1 (v (Proc.devRef .tc main_arg36) : FVec Ideal (V 256) .f32)))
    (e38 : (c2 x38) = (c2 (v (Proc.devRef .tc main_arg37) : FVec Ideal (M 256 40) .f32)))
    (e39 : (r1 x39) = (c1 (v (Proc.devRef .tc main_arg38) : FVec Ideal (V 40) .f32)))
    (hr : ∀ i, IsReal ((v (Proc.devRef .tc main_arg0) : FVec Ideal (T 32 1024 3) .f32) i))
    (q2 : ∀ i, IsReal ((v (Proc.devRef .tc main_arg1) : FVec Ideal (M 3 64) .f32) i))
    (q3 : ∀ i, IsReal ((v (Proc.devRef .tc main_arg3) : FVec Ideal (M 3 64) .f32) i))
    (q4 : ∀ i, IsReal ((v (Proc.devRef .tc main_arg2) : FVec Ideal (V 64) .f32) i))
    (q5 : ∀ i, IsReal ((v (Proc.devRef .tc main_arg4) : FVec Ideal (V 64) .f32) i))
    (q6 : ∀ i, IsReal ((v (Proc.devRef .tc main_arg5) : FVec Ideal (V 64) .f32) i))
    (q7 : ∀ i, IsReal ((v (Proc.devRef .tc main_arg6) : FVec Ideal (V 64) .f32) i))
    (q8 : ∀ i, IsReal ((v (Proc.devRef .tc main_arg7) : FVec Ideal (M 64 64) .f32) i))
    (q9 : ∀ i, IsReal ((v (Proc.devRef .tc main_arg9) : FVec Ideal (M 64 64) .f32) i))
    (q10 : ∀ i, IsReal ((v (Proc.devRef .tc main_arg8) : FVec Ideal (V 64) .f32) i))
    (q11 : ∀ i, IsReal ((v (Proc.devRef .tc main_arg10) : FVec Ideal (V 64) .f32) i))
    (q12 : ∀ i, IsReal ((v (Proc.devRef .tc main_arg11) : FVec Ideal (V 64) .f32) i))
    (q13 : ∀ i, IsReal ((v (Proc.devRef .tc main_arg12) : FVec Ideal (V 64) .f32) i))
    (q14 : ∀ i, IsReal ((v (Proc.devRef .tc main_arg13) : FVec Ideal (M 64 128) .f32) i))
    (q15 : ∀ i, IsReal ((v (Proc.devRef .tc main_arg15) : FVec Ideal (M 64 128) .f32) i))
    (q16 : ∀ i, IsReal ((v (Proc.devRef .tc main_arg14) : FVec Ideal (V 128) .f32) i))
    (q17 : ∀ i, IsReal ((v (Proc.devRef .tc main_arg16) : FVec Ideal (V 128) .f32) i))
    (q18 : ∀ i, IsReal ((v (Proc.devRef .tc main_arg17) : FVec Ideal (V 128) .f32) i))
    (q19 : ∀ i, IsReal ((v (Proc.devRef .tc main_arg18) : FVec Ideal (V 128) .f32) i))
    (g0 : ∀ i, 0 ≤ c1 (v (Proc.devRef .tc main_arg5) : FVec Ideal (V 64) .f32) i)
    (g1 : ∀ i, 0 ≤ c1 (v (Proc.devRef .tc main_arg11) : FVec Ideal (V 64) .f32) i)
    (g2 : ∀ i, 0 ≤ c1 (v (Proc.devRef .tc main_arg17) : FVec Ideal (V 128) .f32) i)
    (g3 : ∀ i, 0 ≤ c1 (v (Proc.devRef .tc main_arg23) : FVec Ideal (V 256) .f32) i)
    (f : Fin 40) :
    out lo x1 x2 x3 x4 x5 x6 x7 x8 x9 x10 x11 x12 x13 x14 x15 x16 x17 x18 x19 x20 x21 x22 x23 x24 x25 x26 x27 x28 x29 x30 x31 x32 x33 x34 x35 x36 x37 x38 x39 (ix3 (0 : Fin 1) (0 : Fin 1) f) = refOut v (ix2 p f) := by
  obtain ⟨s0, r0⟩ := sort_eq p v x1 hx hr
  obtain ⟨s1, r1⟩ := chain0 p v lo hlo (sort10 x1) s0 r0 x2 x3 x4 x5 x6 x7 e2 e3 e4 e5 e6 e7 (fun i c => by rw [e2]; exact q2 _) (fun i c => by rw [e3]; exact q3 _) (fun i => by rw [e4]; exact q4 _) (fun i => by rw [e5]; exact q5 _) (fun i => by rw [e6]; exact q6 _) (fun i => by rw [e7]; exact q7 _) (fun f => by rw [e6]; exact g0 _)
  obtain ⟨s2, r2⟩ := chain1 p v lo hlo _ s1 r1 x8 x9 x10 x11 x12 x13 e8 e9 e10 e11 e12 e13 (fun i c => by rw [e8]; exact q8 _) (fun i c => by rw [e9]; exact q9 _) (fun i => by rw [e10]; exact q10 _) (fun i => by rw [e11]; exact q11 _) (fun i => by rw [e12]; exact q12 _) (fun i => by rw [e13]; exact q13 _) (fun f => by rw [e12]; exact g1 _)
  obtain ⟨s3, r3⟩ := chain2 p v lo hlo _ s2 r2 x14 x15 x16 x17 x18 x19 e14 e15 e16 e17 e18 e19 (fun i c => by rw [e14]; exact q14 _) (fun i c => by rw [e15]; exact q15 _) (fun i => by rw [e16]; exact q16 _) (fun i => by rw [e17]; exact q17 _) (fun i => by rw [e18]; exact q18 _) (fun i => by rw [e19]; exact q19 _) (fun f => by rw [e18]; exact g2 _)
  have s4 := chain3 p v lo hlo _ s3 r3 x20 x21 x22 x23 x24 x25 e20 e21 e22 e23 e24 e25  (fun f => by rw [e24]; exact g3 _)
  unfold out
  rw [refOut_apply]
  have e : ∀ {u : ℕ} (x : FVec Ideal (M 1 u) .f32), row x = x := fun x => shapeCast_self x _
  simp only [e]
  rw [head_apply, s1, s2, s3, s4, e26, e27, e28, e29, e30, e31, e32, e33, e34, e35, e36, e37, e38, e39]

end Cert.Net
-- ==== Proof.Blocks.lean ====
/- The blocks that a grid point reads, as the arguments they are cut from, and the array that the points' blocks fill. -/
module

public import proofs.«01_k».proof.Proof.Frame
public import proofs.«01_k».proof.Proof.HeadKer
public import Idealize.ShloMosaic.Lib.Pipeline.ValueKit

@[expose] public section

set_option maxRecDepth 16384

noncomputable section

namespace Cert.Net

open Idealize.ShloMosaic Idealize.ShloMosaic.TcCoe Cert.KernelIdeal Cert.KernelIdeal.Gen

variable (m : (ℓ : Loc nD τ sig) → Buf (Elt Ideal) ℓ) (c : Dev nD) (t : Fin cfg0.N)

theorem idx0 : ∀ t : Fin cfg0.N, win0_0.index t = ![t.val, 0, 0] := by decide +kernel
theorem idx39 : ∀ t : Fin cfg0.N, win0_39.index t = ![t.val, 0, 0] := by decide +kernel

theorem blk0 (q : Fin 1024) (e : Fin 3) : (iblk m c 0 t : FVec Ideal (T 1 1024 3) .f32) (ix3 0 q e)
    = (m ((c : Thread nD τ).loc main_arg0) : FVec Ideal (T 32 1024 3) .f32) (ix3 ⟨t.val, t.isLt⟩ q e) := by
  blk_ext [iblk, V_main_arg0, idx0 t]

theorem out_array : (dats m 0 c).arrAt 39 cfg0.N
    = fun i : (T 32 1 40).Idx => outsAt0 m c ⟨(i 0).val, (i 0).isLt⟩ (ix3 (0 : Fin 1) (0 : Fin 1) ⟨(i 2).val, (i 2).isLt⟩) := by
  refine (dats m 0 c).arrAt_eq_of_covers 39 _ (by decide +kernel) fun t hf y => ?_
  blk_simp
  rw [after0_39]
  have ht : ∀ h : win0_39.index t 0 < cfg0.N, (⟨win0_39.index t 0, h⟩ : Fin cfg0.N) = t := fun h => Fin.ext (congrFun (idx39 t) 0)
  refine (congrArg (outsAt0 m c t) ?_).trans (congrArg (fun t' => outsAt0 m c t' (ix3 (0 : Fin 1) (0 : Fin 1) _)) (ht _).symm)
  blk_ext [idx39 t]

theorem idx1 : ∀ t : Fin cfg0.N, win0_1.index t = ![0, 0] := fun _ => rfl
theorem blk1 : c2 (iblk m c 1 t : FVec Ideal (M 3 64) .f32) = c2 (m ((c : Thread nD τ).loc main_arg1) : FVec Ideal (M 3 64) .f32) := by
  funext i j
  unfold c2
  blk_ext [iblk, V_main_arg1, idx1 t]

theorem idx2 : ∀ t : Fin cfg0.N, win0_2.index t = ![0, 0] := fun _ => rfl
theorem blk2 : c2 (iblk m c 2 t : FVec Ideal (M 3 64) .f32) = c2 (m ((c : Thread nD τ).loc main_arg3) : FVec Ideal (M 3 64) .f32) := by
  funext i j
  unfold c2
  blk_ext [iblk, V_main_arg3, idx2 t]

theorem idx3 : ∀ t : Fin cfg0.N, win0_3.index t = ![0, 0] := fun _ => rfl
theorem V_main_v0 : Gen.V m c main_v0 = shapeCast S1x64 (m ((c : Thread nD τ).loc main_arg2)) shapeCasts_S64_S1x64 := by
  show StableHlo.after hostOps0 (fun b => m (c, b)) (Proc.devRef .tc main_v0) = _
  unfold_abbrev_sides
  after_results
  rfl
theorem blk3 : r1 (iblk m c 3 t : FVec Ideal (M 1 64) .f32) = c1 (m ((c : Thread nD τ).loc main_arg2) : FVec Ideal (V 64) .f32) := by
  funext i
  unfold r1 c1
  have e : (win0_3.blk t).view.emb (ix2 (0 : Fin 1) i) = ix2 (0 : Fin 1) i := by blk_ext [idx3 t]
  unfold iblk
  refine (congrArg (Gen.V m c main_v0) e).trans ?_
  rw [V_main_v0]
  pointwise

theorem idx4 : ∀ t : Fin cfg0.N, win0_4.index t = ![0, 0] := fun _ => rfl
theorem V_main_v1 : Gen.V m c main_v1 = shapeCast S1x64 (m ((c : Thread nD τ).loc main_arg4)) shapeCasts_S64_S1x64 := by
  show StableHlo.after hostOps0 (fun b => m (c, b)) (Proc.devRef .tc main_v1) = _
  unfold_abbrev_sides
  after_results
  rfl
theorem blk4 : r1 (iblk m c 4 t : FVec Ideal (M 1 64) .f32) = c1 (m ((c : Thread nD τ).loc main_arg4) : FVec Ideal (V 64) .f32) := by
  funext i
  unfold r1 c1
  have e : (win0_4.blk t).view.emb (ix2 (0 : Fin 1) i) = ix2 (0 : Fin 1) i := by blk_ext [idx4 t]
  unfold iblk
  refine (congrArg (Gen.V m c main_v1) e).trans ?_
  rw [V_main_v1]
  pointwise

theorem idx5 : ∀ t : Fin cfg0.N, win0_5.index t = ![0, 0] := fun _ => rfl
theorem V_main_v2 : Gen.V m c main_v2 = shapeCast S1x64 (m ((c : Thread nD τ).loc main_arg5)) shapeCasts_S64_S1x64 := by
  show StableHlo.after hostOps0 (fun b => m (c, b)) (Proc.devRef .tc main_v2) = _
  unfold_abbrev_sides
  after_results
  rfl
theorem blk5 : r1 (iblk m c 5 t : FVec Ideal (M 1 64) .f32) = c1 (m ((c : Thread nD τ).loc main_arg5) : FVec Ideal (V 64) .f32) := by
  funext i
  unfold r1 c1
  have e : (win0_5.blk t).view.emb (ix2 (0 : Fin 1) i) = ix2 (0 : Fin 1) i := by blk_ext [idx5 t]
  unfold iblk
  refine (congrArg (Gen.V m c main_v2) e).trans ?_
  rw [V_main_v2]
  pointwise

theorem idx6 : ∀ t : Fin cfg0.N, win0_6.index t = ![0, 0] := fun _ => rfl
theorem V_main_v3 : Gen.V m c main_v3 = shapeCast S1x64 (m ((c : Thread nD τ).loc main_arg6)) shapeCasts_S64_S1x64 := by
  show StableHlo.after hostOps0 (fun b => m (c, b)) (Proc.devRef .tc main_v3) = _
  unfold_abbrev_sides
  after_results
  rfl
theorem blk6 : r1 (iblk m c 6 t : FVec Ideal (M 1 64) .f32) = c1 (m ((c : Thread nD τ).loc main_arg6) : FVec Ideal (V 64) .f32) := by
  funext i
  unfold r1 c1
  have e : (win0_6.blk t).view.emb (ix2 (0 : Fin 1) i) = ix2 (0 : Fin 1) i := by blk_ext [idx6 t]
  unfold iblk
  refine (congrArg (Gen.V m c main_v3) e).trans ?_
  rw [V_main_v3]
  pointwise

theorem idx7 : ∀ t : Fin cfg0.N, win0_7.index t = ![0, 0] := fun _ => rfl
theorem blk7 : c2 (iblk m c 7 t : FVec Ideal (M 64 64) .f32) = c2 (m ((c : Thread nD τ).loc main_arg7) : FVec Ideal (M 64 64) .f32) := by
  funext i j
  unfold c2
  blk_ext [iblk, V_main_arg7, idx7 t]

theorem idx8 : ∀ t : Fin cfg0.N, win0_8.index t = ![0, 0] := fun _ => rfl
theorem blk8 : c2 (iblk m c 8 t : FVec Ideal (M 64 64) .f32) = c2 (m ((c : Thread nD τ).loc main_arg9) : FVec Ideal (M 64 64) .f32) := by
  funext i j
  unfold c2
  blk_ext [iblk, V_main_arg9, idx8 t]

theorem idx9 : ∀ t : Fin cfg0.N, win0_9.index t = ![0, 0] := fun _ => rfl
theorem V_main_v4 : Gen.V m c main_v4 = shapeCast S1x64 (m ((c : Thread nD τ).loc main_arg8)) shapeCasts_S64_S1x64 := by
  show StableHlo.after hostOps0 (fun b => m (c, b)) (Proc.devRef .tc main_v4) = _
  unfold_abbrev_sides
  after_results
  rfl
theorem blk9 : r1 (iblk m c 9 t : FVec Ideal (M 1 64) .f32) = c1 (m ((c : Thread nD τ).loc main_arg8) : FVec Ideal (V 64) .f32) := by
  funext i
  unfold r1 c1
  have e : (win0_9.blk t).view.emb (ix2 (0 : Fin 1) i) = ix2 (0 : Fin 1) i := by blk_ext [idx9 t]
  unfold iblk
  refine (congrArg (Gen.V m c main_v4) e).trans ?_
  rw [V_main_v4]
  pointwise

theorem idx10 : ∀ t : Fin cfg0.N, win0_10.index t = ![0, 0] := fun _ => rfl
theorem V_main_v5 : Gen.V m c main_v5 = shapeCast S1x64 (m ((c : Thread nD τ).loc main_arg10)) shapeCasts_S64_S1x64 := by
  show StableHlo.after hostOps0 (fun b => m (c, b)) (Proc.devRef .tc main_v5) = _
  unfold_abbrev_sides
  after_results
  rfl
theorem blk10 : r1 (iblk m c 10 t : FVec Ideal (M 1 64) .f32) = c1 (m ((c : Thread nD τ).loc main_arg10) : FVec Ideal (V 64) .f32) := by
  funext i
  unfold r1 c1
  have e : (win0_10.blk t).view.emb (ix2 (0 : Fin 1) i) = ix2 (0 : Fin 1) i := by blk_ext [idx10 t]
  unfold iblk
  refine (congrArg (Gen.V m c main_v5) e).trans ?_
  rw [V_main_v5]
  pointwise

theorem idx11 : ∀ t : Fin cfg0.N, win0_11.index t = ![0, 0] := fun _ => rfl
theorem V_main_v6 : Gen.V m c main_v6 = shapeCast S1x64 (m ((c : Thread nD τ).loc main_arg11)) shapeCasts_S64_S1x64 := by
  show StableHlo.after hostOps0 (fun b => m (c, b)) (Proc.devRef .tc main_v6) = _
  unfold_abbrev_sides
  after_results
  rfl
theorem blk11 : r1 (iblk m c 11 t : FVec Ideal (M 1 64) .f32) = c1 (m ((c : Thread nD τ).loc main_arg11) : FVec Ideal (V 64) .f32) := by
  funext i
  unfold r1 c1
  have e : (win0_11.blk t).view.emb (ix2 (0 : Fin 1) i) = ix2 (0 : Fin 1) i := by blk_ext [idx11 t]
  unfold iblk
  refine (congrArg (Gen.V m c main_v6) e).trans ?_
  rw [V_main_v6]
  pointwise

theorem idx12 : ∀ t : Fin cfg0.N, win0_12.index t = ![0, 0] := fun _ => rfl
theorem V_main_v7 : Gen.V m c main_v7 = shapeCast S1x64 (m ((c : Thread nD τ).loc main_arg12)) shapeCasts_S64_S1x64 := by
  show StableHlo.after hostOps0 (fun b => m (c, b)) (Proc.devRef .tc main_v7) = _
  unfold_abbrev_sides
  after_results
  rfl
theorem blk12 : r1 (iblk m c 12 t : FVec Ideal (M 1 64) .f32) = c1 (m ((c : Thread nD τ).loc main_arg12) : FVec Ideal (V 64) .f32) := by
  funext i
  unfold r1 c1
  have e : (win0_12.blk t).view.emb (ix2 (0 : Fin 1) i) = ix2 (0 : Fin 1) i := by blk_ext [idx12 t]
  unfold iblk
  refine (congrArg (Gen.V m c main_v7) e).trans ?_
  rw [V_main_v7]
  pointwise

theorem idx13 : ∀ t : Fin cfg0.N, win0_13.index t = ![0, 0] := fun _ => rfl
theorem blk13 : c2 (iblk m c 13 t : FVec Ideal (M 64 128) .f32) = c2 (m ((c : Thread nD τ).loc main_arg13) : FVec Ideal (M 64 128) .f32) := by
  funext i j
  unfold c2
  blk_ext [iblk, V_main_arg13, idx13 t]

theorem idx14 : ∀ t : Fin cfg0.N, win0_14.index t = ![0, 0] := fun _ => rfl
theorem blk14 : c2 (iblk m c 14 t : FVec Ideal (M 64 128) .f32) = c2 (m ((c : Thread nD τ).loc main_arg15) : FVec Ideal (M 64 128) .f32) := by
  funext i j
  unfold c2
  blk_ext [iblk, V_main_arg15, idx14 t]

theorem idx15 : ∀ t : Fin cfg0.N, win0_15.index t = ![0, 0] := fun _ => rfl
theorem V_main_v8 : Gen.V m c main_v8 = shapeCast S1x128 (m ((c : Thread nD τ).loc main_arg14)) shapeCasts_S128_S1x128 := by
  show StableHlo.after hostOps0 (fun b => m (c, b)) (Proc.devRef .tc main_v8) = _
  unfold_abbrev_sides
  after_results
  rfl
theorem blk15 : r1 (iblk m c 15 t : FVec Ideal (M 1 128) .f32) = c1 (m ((c : Thread nD τ).loc main_arg14) : FVec Ideal (V 128) .f32) := by
  funext i
  unfold r1 c1
  have e : (win0_15.blk t).view.emb (ix2 (0 : Fin 1) i) = ix2 (0 : Fin 1) i := by blk_ext [idx15 t]
  unfold iblk
  refine (congrArg (Gen.V m c main_v8) e).trans ?_
  rw [V_main_v8]
  pointwise

theorem idx16 : ∀ t : Fin cfg0.N, win0_16.index t = ![0, 0] := fun _ => rfl
theorem V_main_v9 : Gen.V m c main_v9 = shapeCast S1x128 (m ((c : Thread nD τ).loc main_arg16)) shapeCasts_S128_S1x128 := by
  show StableHlo.after hostOps0 (fun b => m (c, b)) (Proc.devRef .tc main_v9) = _
  unfold_abbrev_sides
  after_results
  rfl
theorem blk16 : r1 (iblk m c 16 t : FVec Ideal (M 1 128) .f32) = c1 (m ((c : Thread nD τ).loc main_arg16) : FVec Ideal (V 128) .f32) := by
  funext i
  unfold r1 c1
  have e : (win0_16.blk t).view.emb (ix2 (0 : Fin 1) i) = ix2 (0 : Fin 1) i := by blk_ext [idx16 t]
  unfold iblk
  refine (congrArg (Gen.V m c main_v9) e).trans ?_
  rw [V_main_v9]
  pointwise

theorem idx17 : ∀ t : Fin cfg0.N, win0_17.index t = ![0, 0] := fun _ => rfl
theorem V_main_v10 : Gen.V m c main_v10 = shapeCast S1x128 (m ((c : Thread nD τ).loc main_arg17)) shapeCasts_S128_S1x128 := by
  show StableHlo.after hostOps0 (fun b => m (c, b)) (Proc.devRef .tc main_v10) = _
  unfold_abbrev_sides
  after_results
  rfl
theorem blk17 : r1 (iblk m c 17 t : FVec Ideal (M 1 128) .f32) = c1 (m ((c : Thread nD τ).loc main_arg17) : FVec Ideal (V 128) .f32) := by
  funext i
  unfold r1 c1
  have e : (win0_17.blk t).view.emb (ix2 (0 : Fin 1) i) = ix2 (0 : Fin 1) i := by blk_ext [idx17 t]
  unfold iblk
  refine (congrArg (Gen.V m c main_v10) e).trans ?_
  rw [V_main_v10]
  pointwise

theorem idx18 : ∀ t : Fin cfg0.N, win0_18.index t = ![0, 0] := fun _ => rfl
theorem V_main_v11 : Gen.V m c main_v11 = shapeCast S1x128 (m ((c : Thread nD τ).loc main_arg18)) shapeCasts_S128_S1x128 := by
  show StableHlo.after hostOps0 (fun b => m (c, b)) (Proc.devRef .tc main_v11) = _
  unfold_abbrev_sides
  after_results
  rfl
theorem blk18 : r1 (iblk m c 18 t : FVec Ideal (M 1 128) .f32) = c1 (m ((c : Thread nD τ).loc main_arg18) : FVec Ideal (V 128) .f32) := by
  funext i
  unfold r1 c1
  have e : (win0_18.blk t).view.emb (ix2 (0 : Fin 1) i) = ix2 (0 : Fin 1) i := by blk_ext [idx18 t]
  unfold iblk
  refine (congrArg (Gen.V m c main_v11) e).trans ?_
  rw [V_main_v11]
  pointwise

theorem idx19 : ∀ t : Fin cfg0.N, win0_19.index t = ![0, 0] := fun _ => rfl
theorem blk19 : c2 (iblk m c 19 t : FVec Ideal (M 128 256) .f32) = c2 (m ((c : Thread nD τ).loc main_arg19) : FVec Ideal (M 128 256) .f32) := by
  funext i j
  unfold c2
  blk_ext [iblk, V_main_arg19, idx19 t]

theorem idx20 : ∀ t : Fin cfg0.N, win0_20.index t = ![0, 0] := fun _ => rfl
theorem blk20 : c2 (iblk m c 20 t : FVec Ideal (M 128 256) .f32) = c2 (m ((c : Thread nD τ).loc main_arg21) : FVec Ideal (M 128 256) .f32) := by
  funext i j
  unfold c2
  blk_ext [iblk, V_main_arg21, idx20 t]

theorem idx21 : ∀ t : Fin cfg0.N, win0_21.index t = ![0, 0] := fun _ => rfl
theorem V_main_v12 : Gen.V m c main_v12 = shapeCast S1x256 (m ((c : Thread nD τ).loc main_arg20)) shapeCasts_S256_S1x256 := by
  show StableHlo.after hostOps0 (fun b => m (c, b)) (Proc.devRef .tc main_v12) = _
  unfold_abbrev_sides
  after_results
  rfl
theorem blk21 : r1 (iblk m c 21 t : FVec Ideal (M 1 256) .f32) = c1 (m ((c : Thread nD τ).loc main_arg20) : FVec Ideal (V 256) .f32) := by
  funext i
  unfold r1 c1
  have e : (win0_21.blk t).view.emb (ix2 (0 : Fin 1) i) = ix2 (0 : Fin 1) i := by blk_ext [idx21 t]
  unfold iblk
  refine (congrArg (Gen.V m c main_v12) e).trans ?_
  rw [V_main_v12]
  pointwise

theorem idx22 : ∀ t : Fin cfg0.N, win0_22.index t = ![0, 0] := fun _ => rfl
theorem V_main_v13 : Gen.V m c main_v13 = shapeCast S1x256 (m ((c : Thread nD τ).loc main_arg22)) shapeCasts_S256_S1x256 := by
  show StableHlo.after hostOps0 (fun b => m (c, b)) (Proc.devRef .tc main_v13) = _
  unfold_abbrev_sides
  after_results
  rfl
theorem blk22 : r1 (iblk m c 22 t : FVec Ideal (M 1 256) .f32) = c1 (m ((c : Thread nD τ).loc main_arg22) : FVec Ideal (V 256) .f32) := by
  funext i
  unfold r1 c1
  have e : (win0_22.blk t).view.emb (ix2 (0 : Fin 1) i) = ix2 (0 : Fin 1) i := by blk_ext [idx22 t]
  unfold iblk
  refine (congrArg (Gen.V m c main_v13) e).trans ?_
  rw [V_main_v13]
  pointwise

theorem idx23 : ∀ t : Fin cfg0.N, win0_23.index t = ![0, 0] := fun _ => rfl
theorem V_main_v14 : Gen.V m c main_v14 = shapeCast S1x256 (m ((c : Thread nD τ).loc main_arg23)) shapeCasts_S256_S1x256 := by
  show StableHlo.after hostOps0 (fun b => m (c, b)) (Proc.devRef .tc main_v14) = _
  unfold_abbrev_sides
  after_results
  rfl
theorem blk23 : r1 (iblk m c 23 t : FVec Ideal (M 1 256) .f32) = c1 (m ((c : Thread nD τ).loc main_arg23) : FVec Ideal (V 256) .f32) := by
  funext i
  unfold r1 c1
  have e : (win0_23.blk t).view.emb (ix2 (0 : Fin 1) i) = ix2 (0 : Fin 1) i := by blk_ext [idx23 t]
  unfold iblk
  refine (congrArg (Gen.V m c main_v14) e).trans ?_
  rw [V_main_v14]
  pointwise

theorem idx24 : ∀ t : Fin cfg0.N, win0_24.index t = ![0, 0] := fun _ => rfl
theorem V_main_v15 : Gen.V m c main_v15 = shapeCast S1x256 (m ((c : Thread nD τ).loc main_arg24)) shapeCasts_S256_S1x256 := by
  show StableHlo.after hostOps0 (fun b => m (c, b)) (Proc.devRef .tc main_v15) = _
  unfold_abbrev_sides
  after_results
  rfl
theorem blk24 : r1 (iblk m c 24 t : FVec Ideal (M 1 256) .f32) = c1 (m ((c : Thread nD τ).loc main_arg24) : FVec Ideal (V 256) .f32) := by
  funext i
  unfold r1 c1
  have e : (win0_24.blk t).view.emb (ix2 (0 : Fin 1) i) = ix2 (0 : Fin 1) i := by blk_ext [idx24 t]
  unfold iblk
  refine (congrArg (Gen.V m c main_v15) e).trans ?_
  rw [V_main_v15]
  pointwise

theorem idx25 : ∀ t : Fin cfg0.N, win0_25.index t = ![0, 0] := fun _ => rfl
theorem blk25 : c2 (iblk m c 25 t : FVec Ideal (M 512 1024) .f32) = c2 (m ((c : Thread nD τ).loc main_arg25) : FVec Ideal (M 512 1024) .f32) := by
  funext i j
  unfold c2
  blk_ext [iblk, V_main_arg25, idx25 t]

theorem idx26 : ∀ t : Fin cfg0.N, win0_26.index t = ![0, 0] := fun _ => rfl
theorem V_main_v16 : Gen.V m c main_v16 = shapeCast S1x1024 (m ((c : Thread nD τ).loc main_arg26)) shapeCasts_S1024_S1x1024 := by
  show StableHlo.after hostOps0 (fun b => m (c, b)) (Proc.devRef .tc main_v16) = _
  unfold_abbrev_sides
  after_results
  rfl
theorem blk26 : r1 (iblk m c 26 t : FVec Ideal (M 1 1024) .f32) = c1 (m ((c : Thread nD τ).loc main_arg26) : FVec Ideal (V 1024) .f32) := by
  funext i
  unfold r1 c1
  have e : (win0_26.blk t).view.emb (ix2 (0 : Fin 1) i) = ix2 (0 : Fin 1) i := by blk_ext [idx26 t]
  unfold iblk
  refine (congrArg (Gen.V m c main_v16) e).trans ?_
  rw [V_main_v16]
  pointwise

theorem idx27 : ∀ t : Fin cfg0.N, win0_27.index t = ![0, 0] := fun _ => rfl
theorem V_main_v17 : Gen.V m c main_v17 = shapeCast S1x1024 (m ((c : Thread nD τ).loc main_arg27)) shapeCasts_S1024_S1x1024 := by
  show StableHlo.after hostOps0 (fun b => m (c, b)) (Proc.devRef .tc main_v17) = _
  unfold_abbrev_sides
  after_results
  rfl
theorem blk27 : r1 (iblk m c 27 t : FVec Ideal (M 1 1024) .f32) = c1 (m ((c : Thread nD τ).loc main_arg27) : FVec Ideal (V 1024) .f32) := by
  funext i
  unfold r1 c1
  have e : (win0_27.blk t).view.emb (ix2 (0 : Fin 1) i) = ix2 (0 : Fin 1) i := by blk_ext [idx27 t]
  unfold iblk
  refine (congrArg (Gen.V m c main_v17) e).trans ?_
  rw [V_main_v17]
  pointwise

theorem idx28 : ∀ t : Fin cfg0.N, win0_28.index t = ![0, 0] := fun _ => rfl
theorem V_main_v18 : Gen.V m c main_v18 = shapeCast S1x1024 (m ((c : Thread nD τ).loc main_arg28)) shapeCasts_S1024_S1x1024 := by
  show StableHlo.after hostOps0 (fun b => m (c, b)) (Proc.devRef .tc main_v18) = _
  unfold_abbrev_sides
  after_results
  rfl
theorem blk28 : r1 (iblk m c 28 t : FVec Ideal (M 1 1024) .f32) = c1 (m ((c : Thread nD τ).loc main_arg28) : FVec Ideal (V 1024) .f32) := by
  funext i
  unfold r1 c1
  have e : (win0_28.blk t).view.emb (ix2 (0 : Fin 1) i) = ix2 (0 : Fin 1) i := by blk_ext [idx28 t]
  unfold iblk
  refine (congrArg (Gen.V m c main_v18) e).trans ?_
  rw [V_main_v18]
  pointwise

theorem idx29 : ∀ t : Fin cfg0.N, win0_29.index t = ![0, 0] := fun _ => rfl
theorem blk29 : c2 (iblk m c 29 t : FVec Ideal (M 1024 512) .f32) = c2 (m ((c : Thread nD τ).loc main_arg29) : FVec Ideal (M 1024 512) .f32) := by
  funext i j
  unfold c2
  blk_ext [iblk, V_main_arg29, idx29 t]

theorem idx30 : ∀ t : Fin cfg0.N, win0_30.index t = ![0, 0] := fun _ => rfl
theorem V_main_v19 : Gen.V m c main_v19 = shapeCast S1x512 (m ((c : Thread nD τ).loc main_arg30)) shapeCasts_S512_S1x512 := by
  show StableHlo.after hostOps0 (fun b => m (c, b)) (Proc.devRef .tc main_v19) = _
  unfold_abbrev_sides
  after_results
  rfl
theorem blk30 : r1 (iblk m c 30 t : FVec Ideal (M 1 512) .f32) = c1 (m ((c : Thread nD τ).loc main_arg30) : FVec Ideal (V 512) .f32) := by
  funext i
  unfold r1 c1
  have e : (win0_30.blk t).view.emb (ix2 (0 : Fin 1) i) = ix2 (0 : Fin 1) i := by blk_ext [idx30 t]
  unfold iblk
  refine (congrArg (Gen.V m c main_v19) e).trans ?_
  rw [V_main_v19]
  pointwise

theorem idx31 : ∀ t : Fin cfg0.N, win0_31.index t = ![0, 0] := fun _ => rfl
theorem V_main_v20 : Gen.V m c main_v20 = shapeCast S1x512 (m ((c : Thread nD τ).loc main_arg31)) shapeCasts_S512_S1x512 := by
  show StableHlo.after hostOps0 (fun b => m (c, b)) (Proc.devRef .tc main_v20) = _
  unfold_abbrev_sides
  after_results
  rfl
theorem blk31 : r1 (iblk m c 31 t : FVec Ideal (M 1 512) .f32) = c1 (m ((c : Thread nD τ).loc main_arg31) : FVec Ideal (V 512) .f32) := by
  funext i
  unfold r1 c1
  have e : (win0_31.blk t).view.emb (ix2 (0 : Fin 1) i) = ix2 (0 : Fin 1) i := by blk_ext [idx31 t]
  unfold iblk
  refine (congrArg (Gen.V m c main_v20) e).trans ?_
  rw [V_main_v20]
  pointwise

theorem idx32 : ∀ t : Fin cfg0.N, win0_32.index t = ![0, 0] := fun _ => rfl
theorem V_main_v21 : Gen.V m c main_v21 = shapeCast S1x512 (m ((c : Thread nD τ).loc main_arg32)) shapeCasts_S512_S1x512 := by
  show StableHlo.after hostOps0 (fun b => m (c, b)) (Proc.devRef .tc main_v21) = _
  unfold_abbrev_sides
  after_results
  rfl
theorem blk32 : r1 (iblk m c 32 t : FVec Ideal (M 1 512) .f32) = c1 (m ((c : Thread nD τ).loc main_arg32) : FVec Ideal (V 512) .f32) := by
  funext i
  unfold r1 c1
  have e : (win0_32.blk t).view.emb (ix2 (0 : Fin 1) i) = ix2 (0 : Fin 1) i := by blk_ext [idx32 t]
  unfold iblk
  refine (congrArg (Gen.V m c main_v21) e).trans ?_
  rw [V_main_v21]
  pointwise

theorem idx33 : ∀ t : Fin cfg0.N, win0_33.index t = ![0, 0] := fun _ => rfl
theorem blk33 : c2 (iblk m c 33 t : FVec Ideal (M 512 256) .f32) = c2 (m ((c : Thread nD τ).loc main_arg33) : FVec Ideal (M 512 256) .f32) := by
  funext i j
  unfold c2
  blk_ext [iblk, V_main_arg33, idx33 t]

theorem idx34 : ∀ t : Fin cfg0.N, win0_34.index t = ![0, 0] := fun _ => rfl
theorem V_main_v22 : Gen.V m c main_v22 = shapeCast S1x256 (m ((c : Thread nD τ).loc main_arg34)) shapeCasts_S256_S1x256 := by
  show StableHlo.after hostOps0 (fun b => m (c, b)) (Proc.devRef .tc main_v22) = _
  unfold_abbrev_sides
  after_results
  rfl
theorem blk34 : r1 (iblk m c 34 t : FVec Ideal (M 1 256) .f32) = c1 (m ((c : Thread nD τ).loc main_arg34) : FVec Ideal (V 256) .f32) := by
  funext i
  unfold r1 c1
  have e : (win0_34.blk t).view.emb (ix2 (0 : Fin 1) i) = ix2 (0 : Fin 1) i := by blk_ext [idx34 t]
  unfold iblk
  refine (congrArg (Gen.V m c main_v22) e).trans ?_
  rw [V_main_v22]
  pointwise

theorem idx35 : ∀ t : Fin cfg0.N, win0_35.index t = ![0, 0] := fun _ => rfl
theorem V_main_v23 : Gen.V m c main_v23 = shapeCast S1x256 (m ((c : Thread nD τ).loc main_arg35)) shapeCasts_S256_S1x256 := by
  show StableHlo.after hostOps0 (fun b => m (c, b)) (Proc.devRef .tc main_v23) = _
  unfold_abbrev_sides
  after_results
  rfl
theorem blk35 : r1 (iblk m c 35 t : FVec Ideal (M 1 256) .f32) = c1 (m ((c : Thread nD τ).loc main_arg35) : FVec Ideal (V 256) .f32) := by
  funext i
  unfold r1 c1
  have e : (win0_35.blk t).view.emb (ix2 (0 : Fin 1) i) = ix2 (0 : Fin 1) i := by blk_ext [idx35 t]
  unfold iblk
  refine (congrArg (Gen.V m c main_v23) e).trans ?_
  rw [V_main_v23]
  pointwise

theorem idx36 : ∀ t : Fin cfg0.N, win0_36.index t = ![0, 0] := fun _ => rfl
theorem V_main_v24 : Gen.V m c main_v24 = shapeCast S1x256 (m ((c : Thread nD τ).loc main_arg36)) shapeCasts_S256_S1x256 := by
  show StableHlo.after hostOps0 (fun b => m (c, b)) (Proc.devRef .tc main_v24) = _
  unfold_abbrev_sides
  after_results
  rfl
theorem blk36 : r1 (iblk m c 36 t : FVec Ideal (M 1 256) .f32) = c1 (m ((c : Thread nD τ).loc main_arg36) : FVec Ideal (V 256) .f32) := by
  funext i
  unfold r1 c1
  have e : (win0_36.blk t).view.emb (ix2 (0 : Fin 1) i) = ix2 (0 : Fin 1) i := by blk_ext [idx36 t]
  unfold iblk
  refine (congrArg (Gen.V m c main_v24) e).trans ?_
  rw [V_main_v24]
  pointwise

theorem idx37 : ∀ t : Fin cfg0.N, win0_37.index t = ![0, 0] := fun _ => rfl
theorem blk37 : c2 (iblk m c 37 t : FVec Ideal (M 256 40) .f32) = c2 (m ((c : Thread nD τ).loc main_arg37) : FVec Ideal (M 256 40) .f32) := by
  funext i j
  unfold c2
  blk_ext [iblk, V_main_arg37, idx37 t]

theorem idx38 : ∀ t : Fin cfg0.N, win0_38.index t = ![0, 0] := fun _ => rfl
theorem V_main_v25 : Gen.V m c main_v25 = shapeCast S1x40 (m ((c : Thread nD τ).loc main_arg38)) shapeCasts_S40_S1x40 := by
  show StableHlo.after hostOps0 (fun b => m (c, b)) (Proc.devRef .tc main_v25) = _
  unfold_abbrev_sides
  after_results
  rfl
theorem blk38 : r1 (iblk m c 38 t : FVec Ideal (M 1 40) .f32) = c1 (m ((c : Thread nD τ).loc main_arg38) : FVec Ideal (V 40) .f32) := by
  funext i
  unfold r1 c1
  have e : (win0_38.blk t).view.emb (ix2 (0 : Fin 1) i) = ix2 (0 : Fin 1) i := by blk_ext [idx38 t]
  unfold iblk
  refine (congrArg (Gen.V m c main_v25) e).trans ?_
  rw [V_main_v25]
  pointwise

end Cert.Net
-- ==== Proof.Algebraic.lean ====
/- The kernel and the reference end with equal results. -/
module

public import proofs.«01_k».proof.Defs
public import proofs.«01_k».proof.Proof.Chain
public import proofs.«01_k».proof.Proof.Blocks
public import proofs.«01_k».proof.Proof.Pre
public import Idealize.ShloMosaic.Lib.Claim

@[expose] public section

set_option maxRecDepth 16384

noncomputable section

namespace Cert.Net

open Idealize.ShloMosaic Idealize.ShloMosaic.TcCoe Idealize.ShloMosaic.StableHlo Cert.KernelIdeal Cert.KernelIdeal.Gen

/-- The two programs' memories hold the same arguments. -/
def Agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)
  ∧ m' ((c.tc : Thread Cert.ReferenceIdeal.nD Cert.ReferenceIdeal.τ).loc Cert.ReferenceIdeal.main_arg10) = m ((c.tc : Thread nD τ).loc main_arg10)
  ∧ m' ((c.tc : Thread Cert.ReferenceIdeal.nD Cert.ReferenceIdeal.τ).loc Cert.ReferenceIdeal.main_arg11) = m ((c.tc : Thread nD τ).loc main_arg11)
  ∧ m' ((c.tc : Thread Cert.ReferenceIdeal.nD Cert.ReferenceIdeal.τ).loc Cert.ReferenceIdeal.main_arg12) = m ((c.tc : Thread nD τ).loc main_arg12)
  ∧ m' ((c.tc : Thread Cert.ReferenceIdeal.nD Cert.ReferenceIdeal.τ).loc Cert.ReferenceIdeal.main_arg13) = m ((c.tc : Thread nD τ).loc main_arg13)
  ∧ m' ((c.tc : Thread Cert.ReferenceIdeal.nD Cert.ReferenceIdeal.τ).loc Cert.ReferenceIdeal.main_arg14) = m ((c.tc : Thread nD τ).loc main_arg14)
  ∧ m' ((c.tc : Thread Cert.ReferenceIdeal.nD Cert.ReferenceIdeal.τ).loc Cert.ReferenceIdeal.main_arg15) = m ((c.tc : Thread nD τ).loc main_arg15)
  ∧ m' ((c.tc : Thread Cert.ReferenceIdeal.nD Cert.ReferenceIdeal.τ).loc Cert.ReferenceIdeal.main_arg16) = m ((c.tc : Thread nD τ).loc main_arg16)
  ∧ m' ((c.tc : Thread Cert.ReferenceIdeal.nD Cert.ReferenceIdeal.τ).loc Cert.ReferenceIdeal.main_arg17) = m ((c.tc : Thread nD τ).loc main_arg17)
  ∧ m' ((c.tc : Thread Cert.ReferenceIdeal.nD Cert.ReferenceIdeal.τ).loc Cert.ReferenceIdeal.main_arg18) = m ((c.tc : Thread nD τ).loc main_arg18)
  ∧ m' ((c.tc : Thread Cert.ReferenceIdeal.nD Cert.ReferenceIdeal.τ).loc Cert.ReferenceIdeal.main_arg19) = m ((c.tc : Thread nD τ).loc main_arg19)
  ∧ m' ((c.tc : Thread Cert.ReferenceIdeal.nD Cert.ReferenceIdeal.τ).loc Cert.ReferenceIdeal.main_arg20) = m ((c.tc : Thread nD τ).loc main_arg20)
  ∧ m' ((c.tc : Thread Cert.ReferenceIdeal.nD Cert.ReferenceIdeal.τ).loc Cert.ReferenceIdeal.main_arg21) = m ((c.tc : Thread nD τ).loc main_arg21)
  ∧ m' ((c.tc : Thread Cert.ReferenceIdeal.nD Cert.ReferenceIdeal.τ).loc Cert.ReferenceIdeal.main_arg22) = m ((c.tc : Thread nD τ).loc main_arg22)
  ∧ m' ((c.tc : Thread Cert.ReferenceIdeal.nD Cert.ReferenceIdeal.τ).loc Cert.ReferenceIdeal.main_arg23) = m ((c.tc : Thread nD τ).loc main_arg23)
  ∧ m' ((c.tc : Thread Cert.ReferenceIdeal.nD Cert.ReferenceIdeal.τ).loc Cert.ReferenceIdeal.main_arg24) = m ((c.tc : Thread nD τ).loc main_arg24)
  ∧ m' ((c.tc : Thread Cert.ReferenceIdeal.nD Cert.ReferenceIdeal.τ).loc Cert.ReferenceIdeal.main_arg25) = m ((c.tc : Thread nD τ).loc main_arg25)
  ∧ m' ((c.tc : Thread Cert.ReferenceIdeal.nD Cert.ReferenceIdeal.τ).loc Cert.ReferenceIdeal.main_arg26) = m ((c.tc : Thread nD τ).loc main_arg26)
  ∧ m' ((c.tc : Thread Cert.ReferenceIdeal.nD Cert.ReferenceIdeal.τ).loc Cert.ReferenceIdeal.main_arg27) = m ((c.tc : Thread nD τ).loc main_arg27)
  ∧ m' ((c.tc : Thread Cert.ReferenceIdeal.nD Cert.ReferenceIdeal.τ).loc Cert.ReferenceIdeal.main_arg28) = m ((c.tc : Thread nD τ).loc main_arg28)
  ∧ m' ((c.tc : Thread Cert.ReferenceIdeal.nD Cert.ReferenceIdeal.τ).loc Cert.ReferenceIdeal.main_arg29) = m ((c.tc : Thread nD τ).loc main_arg29)
  ∧ m' ((c.tc : Thread Cert.ReferenceIdeal.nD Cert.ReferenceIdeal.τ).loc Cert.ReferenceIdeal.main_arg30) = m ((c.tc : Thread nD τ).loc main_arg30)
  ∧ m' ((c.tc : Thread Cert.ReferenceIdeal.nD Cert.ReferenceIdeal.τ).loc Cert.ReferenceIdeal.main_arg31) = m ((c.tc : Thread nD τ).loc main_arg31)
  ∧ m' ((c.tc : Thread Cert.ReferenceIdeal.nD Cert.ReferenceIdeal.τ).loc Cert.ReferenceIdeal.main_arg32) = m ((c.tc : Thread nD τ).loc main_arg32)
  ∧ m' ((c.tc : Thread Cert.ReferenceIdeal.nD Cert.ReferenceIdeal.τ).loc Cert.ReferenceIdeal.main_arg33) = m ((c.tc : Thread nD τ).loc main_arg33)
  ∧ m' ((c.tc : Thread Cert.ReferenceIdeal.nD Cert.ReferenceIdeal.τ).loc Cert.ReferenceIdeal.main_arg34) = m ((c.tc : Thread nD τ).loc main_arg34)
  ∧ m' ((c.tc : Thread Cert.ReferenceIdeal.nD Cert.ReferenceIdeal.τ).loc Cert.ReferenceIdeal.main_arg35) = m ((c.tc : Thread nD τ).loc main_arg35)
  ∧ m' ((c.tc : Thread Cert.ReferenceIdeal.nD Cert.ReferenceIdeal.τ).loc Cert.ReferenceIdeal.main_arg36) = m ((c.tc : Thread nD τ).loc main_arg36)
  ∧ m' ((c.tc : Thread Cert.ReferenceIdeal.nD Cert.ReferenceIdeal.τ).loc Cert.ReferenceIdeal.main_arg37) = m ((c.tc : Thread nD τ).loc main_arg37)
  ∧ m' ((c.tc : Thread Cert.ReferenceIdeal.nD Cert.ReferenceIdeal.τ).loc Cert.ReferenceIdeal.main_arg38) = m ((c.tc : Thread nD τ).loc main_arg38)

theorem lo_eq : Cert.KernelIdeal.Body.lo (F := Ideal) = (⊥ : EReal) := IdealRules.named_const.ideal_named_scalar _ _ _ _ rfl

/-- What a launch instance stores is a row of the reference's result. -/
theorem row_value (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hpre : Cert.Pre_KernelIdeal_finite_and_scaled_up m) (hag : Agree m m' c) (t : Fin cfg0.N) (f : Fin 40) :
    outsAt0 m c t (ix3 (0 : Fin 1) (0 : Fin 1) f) = refOut (launchContents m' c) (ix2 (⟨t.val, t.isLt⟩ : Fin 32) f) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38⟩ := hag
  obtain ⟨q0, q1, q2, q3, q4, q5, q6, q7, q8, q9, q10, q11, q12, q13, q14, q15, q16, q17, q18, g5, g11, g17, g23⟩ := pre_reads _ _ _ _ _ _ _ _ _ _ _ _ _ _ _ _ _ _ _ _ _ _ _ _ _ _ _ _ _ _ _ _ _ _ _ _ _ _ _ ix0 (congrFun (hpre c) ix0)
  exact value ⟨t.val, t.isLt⟩ (launchContents m' c) _ lo_eq _ _ _ _ _ _ _ _ _ _ _ _ _ _ _ _ _ _ _ _ _ _ _ _ _ _ _ _ _ _ _ _ _ _ _ _ _ _ _
    (fun q e => (blk0 m c t q e).trans (congrFun a0.symm _))
    ((blk1 m c t).trans (congrArg (c2 (a := 3) (b := 64)) a1.symm))
    ((blk2 m c t).trans (congrArg (c2 (a := 3) (b := 64)) a3.symm))
    ((blk3 m c t).trans (congrArg (c1 (a := 64)) a2.symm))
    ((blk4 m c t).trans (congrArg (c1 (a := 64)) a4.symm))
    ((blk5 m c t).trans (congrArg (c1 (a := 64)) a5.symm))
    ((blk6 m c t).trans (congrArg (c1 (a := 64)) a6.symm))
    ((blk7 m c t).trans (congrArg (c2 (a := 64) (b := 64)) a7.symm))
    ((blk8 m c t).trans (congrArg (c2 (a := 64) (b := 64)) a9.symm))
    ((blk9 m c t).trans (congrArg (c1 (a := 64)) a8.symm))
    ((blk10 m c t).trans (congrArg (c1 (a := 64)) a10.symm))
    ((blk11 m c t).trans (congrArg (c1 (a := 64)) a11.symm))
    ((blk12 m c t).trans (congrArg (c1 (a := 64)) a12.symm))
    ((blk13 m c t).trans (congrArg (c2 (a := 64) (b := 128)) a13.symm))
    ((blk14 m c t).trans (congrArg (c2 (a := 64) (b := 128)) a15.symm))
    ((blk15 m c t).trans (congrArg (c1 (a := 128)) a14.symm))
    ((blk16 m c t).trans (congrArg (c1 (a := 128)) a16.symm))
    ((blk17 m c t).trans (congrArg (c1 (a := 128)) a17.symm))
    ((blk18 m c t).trans (congrArg (c1 (a := 128)) a18.symm))
    ((blk19 m c t).trans (congrArg (c2 (a := 128) (b := 256)) a19.symm))
    ((blk20 m c t).trans (congrArg (c2 (a := 128) (b := 256)) a21.symm))
    ((blk21 m c t).trans (congrArg (c1 (a := 256)) a20.symm))
    ((blk22 m c t).trans (congrArg (c1 (a := 256)) a22.symm))
    ((blk23 m c t).trans (congrArg (c1 (a := 256)) a23.symm))
    ((blk24 m c t).trans (congrArg (c1 (a := 256)) a24.symm))
    ((blk25 m c t).trans (congrArg (c2 (a := 512) (b := 1024)) a25.symm))
    ((blk26 m c t).trans (congrArg (c1 (a := 1024)) a26.symm))
    ((blk27 m c t).trans (congrArg (c1 (a := 1024)) a27.symm))
    ((blk28 m c t).trans (congrArg (c1 (a := 1024)) a28.symm))
    ((blk29 m c t).trans (congrArg (c2 (a := 1024) (b := 512)) a29.symm))
    ((blk30 m c t).trans (congrArg (c1 (a := 512)) a30.symm))
    ((blk31 m c t).trans (congrArg (c1 (a := 512)) a31.symm))
    ((blk32 m c t).trans (congrArg (c1 (a := 512)) a32.symm))
    ((blk33 m c t).trans (congrArg (c2 (a := 512) (b := 256)) a33.symm))
    ((blk34 m c t).trans (congrArg (c1 (a := 256)) a34.symm))
    ((blk35 m c t).trans (congrArg (c1 (a := 256)) a35.symm))
    ((blk36 m c t).trans (congrArg (c1 (a := 256)) a36.symm))
    ((blk37 m c t).trans (congrArg (c2 (a := 256) (b := 40)) a37.symm))
    ((blk38 m c t).trans (congrArg (c1 (a := 40)) a38.symm))
    (fun i => (congrArg IsReal (congrFun a0 i)).mpr (q0 i))
    (fun i => (congrArg IsReal (congrFun a1 i)).mpr (q1 i))
    (fun i => (congrArg IsReal (congrFun a3 i)).mpr (q3 i))
    (fun i => (congrArg IsReal (congrFun a2 i)).mpr (q2 i))
    (fun i => (congrArg IsReal (congrFun a4 i)).mpr (q4 i))
    (fun i => (congrArg IsReal (congrFun a5 i)).mpr (q5 i))
    (fun i => (congrArg IsReal (congrFun a6 i)).mpr (q6 i))
    (fun i => (congrArg IsReal (congrFun a7 i)).mpr (q7 i))
    (fun i => (congrArg IsReal (congrFun a9 i)).mpr (q9 i))
    (fun i => (congrArg IsReal (congrFun a8 i)).mpr (q8 i))
    (fun i => (congrArg IsReal (congrFun a10 i)).mpr (q10 i))
    (fun i => (congrArg IsReal (congrFun a11 i)).mpr (q11 i))
    (fun i => (congrArg IsReal (congrFun a12 i)).mpr (q12 i))
    (fun i => (congrArg IsReal (congrFun a13 i)).mpr (q13 i))
    (fun i => (congrArg IsReal (congrFun a15 i)).mpr (q15 i))
    (fun i => (congrArg IsReal (congrFun a14 i)).mpr (q14 i))
    (fun i => (congrArg IsReal (congrFun a16 i)).mpr (q16 i))
    (fun i => (congrArg IsReal (congrFun a17 i)).mpr (q17 i))
    (fun i => (congrArg IsReal (congrFun a18 i)).mpr (q18 i))
    (fun i => (congrArg (fun x : EReal => 0 ≤ x) (congrFun a5 (ix1 i))).mpr (g5 (ix1 i)))
    (fun i => (congrArg (fun x : EReal => 0 ≤ x) (congrFun a11 (ix1 i))).mpr (g11 (ix1 i)))
    (fun i => (congrArg (fun x : EReal => 0 ≤ x) (congrFun a17 (ix1 i))).mpr (g17 (ix1 i)))
    (fun i => (congrArg (fun x : EReal => 0 ≤ x) (congrFun a23 (ix1 i))).mpr (g23 (ix1 i)))
    f

/-- The rows, put together. -/
theorem rows (A : FVec Ideal (T 32 1 40) .f32) (R : FVec Ideal (M 32 40) .f32) (h : ∀ p f, A (ix3 p (0 : Fin 1) f) = R (ix2 p f))
    (hs : (T 32 1 40).ShapeCasts (M 32 40)) : shapeCast (M 32 40) A hs = R := by
  have e : ∀ (p : Fin 32) (f : Fin 40), shapeCast (M 32 40) A hs (ix2 p f) = R (ix2 p f) := fun p f => by
    rw [← h]
    pointwise
  funext i
  exact (congrArg (shapeCast (M 32 40) A hs) (eq_ix2 i)).trans ((e (i 0) (i 1)).trans (congrArg R (eq_ix2 i).symm))

theorem kernel_result (m : (ℓ : Loc nD τ sig) → Buf (Elt Ideal) ℓ) (c : Dev nD) :
    (Pipeline.afterTail₀ cfgs (dats m) 0 (V0 m) [hostOps1] c main_v27 : FVec Ideal (M 32 40) .f32)
      = shapeCast (M 32 40) ((dats m 0 c).arrAt 39 cfg0.N : FVec Ideal (T 32 1 40) .f32) shapeCasts_S32x1x40_S32x40 := by
  refine Eq.trans ?_ (congrArg (fun A : FVec Ideal (T 32 1 40) .f32 => shapeCast (M 32 40) A shapeCasts_S32x1x40_S32x40)
    (Pipeline.withArrays_arr (cfgs 0).spec (by decide) c (V0 m c) (fun w => (dats m 0 c).arrAt w (cfgs 0).N) 39))
  unfold Pipeline.afterTail₀
  generalize Pipeline.withArrays (cfgs 0).spec c (V0 m c) (fun w => (dats m 0 c).arrAt w (cfgs 0).N) = W
  rfl

theorem algebraic : Cert.algebraic_KernelIdeal_ReferenceIdeal_pre_finite_and_scaled_up := by
  intro m g m' g' hpre hag
  refine ⟨fun c => refOut (launchContents m' c), ?_, Cert.ReferenceIdeal.Value.run (F := Ideal) m' g'⟩
  refine θ_run_mono (θ_run_and (Cert.KernelIdeal.Gen.run_main m g) (Cert.KernelIdeal.Gen.unchanged m g)) (fun r h c => ⟨?_, h.2 c⟩)
  refine ((h.1 c).2 main_v27 (by decide)).trans ((kernel_result m c).trans ?_)
  refine rows _ _ (fun p f => ?_) _
  refine (congrFun (out_array m c) _).trans ?_
  exact row_value m m' c hpre (hag c) ⟨p.val, p.isLt⟩ f

end Cert.Net
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.FrameDeploy
public import proofs.«01_k».proof.Proof.Pre
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_pi_pre : Cert.quiescent_KernelIdeal_pre_finite_and_scaled_up := fun m ρ _ => Cert.KernelIdeal.Gen.frame m ρ

theorem frame_ri_pre : Cert.quiescent_ReferenceIdeal_pre_finite_and_scaled_up := fun m ρ _ => frame_ri m ρ trivial

theorem preserved : Cert.preserves_Kernel_KernelIdeal :=
  IdealRules.named_const.statement Cert.KernelIdeal.κ "lowest" .f32 0xFF61B1E6#32 ⊥ rfl

theorem claim : Cert.Claim :=
  ⟨Cert.Kernel.Gen.facts, Cert.KernelIdeal.Gen.facts, Cert.ReferenceIdeal.Gen.facts, Cert.Pre_finite_and_scaled_up.Gen.facts, frame_p, frame_pi,
    frame_pi_pre, frame_ri, frame_ri_pre, preserved, Cert.Net.algebraic⟩

end Cert.Proof

end
